-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x16x64 : Shape := ⟨4, ![2, 256, 16, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  bcast_S_S512x256 : S_.BroadcastsInDim S512x256 (![] : Fin 0 → Fin S512x256.rank)
  bcast_S_S2x256x16x64 : S_.BroadcastsInDim S2x256x16x64 (![] : Fin 0 → Fin S2x256x16x64.rank)

variable [Facts]

def fn {F : FTy → Type} [FloatOps F] (main_arg0 : FVec F S2x256x512 .f32) (main_arg1 : FVec F S512x256 .f32) (main_arg2 : FVec F S2x256x16x64 .f32) (main_arg3 : FVec F S2x256x16x64 .f32) (main_arg4 : FVec F S256x512 .f32) : IVec S2x256x512 1 × IVec S512x256 1 × IVec S2x256x16x64 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S2x256x16x64 .f32 := Host.absf main_arg2
  let main_cst_1 : FVec F S_ .f32 := constant S_ .f32 0x7F800000#32
  let main_v7 : FVec F S2x256x16x64 .f32 := broadcastInDim S2x256x16x64 ![] bcast_S_S2x256x16x64 main_cst_1
  let main_v8 : IVec S2x256x16x64 1 := cmpf .olt main_v6 main_v7
  (main_v2, main_v5, main_v8)
-- ==== Pre_finite_ReferenceIdeal.lean ====
abbrev S2x256x512 : Shape := ⟨3, ![2, 256, 512]⟩
abbrev S512x1024 : Shape := ⟨2, ![512, 1024]⟩
abbrev S2x256x16x64 : Shape := ⟨4, ![2, 256, 16, 64]⟩
abbrev S1024x512 : Shape := ⟨2, ![1024, 512]⟩
abbrev S_ : Shape := ⟨0, ![]⟩

class Facts : Prop where
  bcast_S_S2x256x512 : S_.BroadcastsInDim S2x256x512 (![] : Fin 0 → Fin S2x256x512.rank)
  bcast_S_S512x1024 : S_.BroadcastsInDim S512x1024 (![] : Fin 0 → Fin S512x1024.rank)
  bcast_S_S2x256x16x64 : S_.BroadcastsInDim S2x256x16x64 (![] : Fin 0 → Fin S2x256x16x64.rank)

variable [Facts]

def fn {F : FTy → Type} [FloatOps F] (main_arg0 : FVec F S2x256x512 .f32) (main_arg1 : FVec F S512x1024 .f32) (main_arg2 : FVec F S2x256x16x64 .f32) (main_arg3 : FVec F S2x256x16x64 .f32) (main_arg4 : FVec F S1024x512 .f32) : IVec S2x256x512 1 × IVec S512x1024 1 × IVec S2x256x16x64 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_v3 : FVec F S512x1024 .f32 := Host.absf main_arg1
  let main_cst_0 : FVec F S_ .f32 := constant S_ .f32 0x7F800000#32
  let main_v4 : FVec F S512x1024 .f32 := broadcastInDim S512x1024 ![] bcast_S_S512x1024 main_cst_0
  let main_v5 : IVec S512x1024 1 := cmpf .olt main_v3 main_v4
  let main_v6 : FVec F S2x256x16x64 .f32 := Host.absf main_arg2
  let main_cst_1 : FVec F S_ .f32 := constant S_ .f32 0x7F800000#32
  let main_v7 : FVec F S2x256x16x64 .f32 := broadcastInDim S2x256x16x64 ![] bcast_S_S2x256x16x64 main_cst_1
  let main_v8 : IVec S2x256x16x64 1 := cmpf .olt main_v6 main_v7
  (main_v2, main_v5, main_v8)
-- ==== Kernel.lean ====
abbrev S2x256x512 : Shape := ⟨3, ![2, 256, 512]⟩
abbrev S512x256 : Shape := ⟨2, ![512, 256]⟩
abbrev S2x256x16x64 : Shape := ⟨4, ![2, 256, 16, 64]⟩
abbrev S256x512 : Shape := ⟨2, ![256, 512]⟩
abbrev S_ : Shape := ⟨0, ![]⟩
abbrev S2x256x4x64 : Shape := ⟨4, ![2, 256, 4, 64]⟩
abbrev S4x64x2x256 : Shape := ⟨4, ![4, 64, 2, 256]⟩
abbrev S4x64x512 : Shape := ⟨3, ![4, 64, 512]⟩
abbrev S4x2x256x64 : Shape := ⟨4, ![4, 2, 256, 64]⟩
abbrev S4x512x64 : Shape := ⟨3, ![4, 512, 64]⟩
abbrev S512x512 : Shape := ⟨2, ![512, 512]⟩
abbrev S4x3x128x128 : Shape := ⟨4, ![4, 3, 128, 128]⟩
abbrev S4x4x128x128 : Shape := ⟨4, ![4, 4, 128, 128]⟩
abbrev S12 : Shape := ⟨1, ![12]⟩
abbrev S16 : Shape := ⟨1, ![16]⟩
abbrev S128x128 : Shape := ⟨2, ![128, 128]⟩
abbrev S128x512 : Shape := ⟨2, ![128, 512]⟩
abbrev S128x256 : Shape := ⟨2, ![128, 256]⟩
abbrev S128x64 : Shape := ⟨2, ![128, 64]⟩
abbrev S1x64x128 : Shape := ⟨3, ![1, 64, 128]⟩
abbrev S64x128 : Shape := ⟨2, ![64, 128]⟩
abbrev S1x128x64 : Shape := ⟨3, ![1, 128, 64]⟩
abbrev S128 : Shape := ⟨1, ![128]⟩
abbrev S128x1 : Shape := ⟨2, ![128, 1]⟩
abbrev S64x512 : Shape := ⟨2, ![64, 512]⟩
abbrev S1x1x128x128 : Shape := ⟨4, ![1, 1, 128, 128]⟩
abbrev S1 : Shape := ⟨1, ![1]⟩
abbrev S256x128 : Shape := ⟨2, ![256, 128]⟩

abbrev nBuf : Space → Nat
  | .hbm => 42
  | .vmem => 11
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x16x64, .f32⟩
  | .hbm, ⟨3, _⟩ => ⟨S2x256x16x64, .f32⟩
  | .hbm, ⟨4, _⟩ => ⟨S256x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x256x4x64, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x256x4x64, .f32⟩
  | .hbm, ⟨33, _⟩ => ⟨S2x256x4x64, .bf16⟩
  | .hbm, ⟨34, _⟩ => ⟨S4x64x2x256, .bf16⟩
  | .hbm, ⟨35, _⟩ => ⟨S4x64x512, .bf16⟩
  | .hbm, ⟨36, _⟩ => ⟨S2x256x4x64, .bf16⟩
  | .hbm, ⟨37, _⟩ => ⟨S4x2x256x64, .bf16⟩
  | .hbm, ⟨38, _⟩ => ⟨S4x512x64, .bf16⟩
  | .hbm, ⟨39, _⟩ => ⟨S512x512, .f32⟩
  | .hbm, ⟨40, _⟩ => ⟨S512x512, .f32⟩
  | .hbm, ⟨41, _⟩ => ⟨S2x256x512, .f32⟩
  | .local _ .vmem, ⟨0, _⟩ => ⟨S512x512, .f32⟩
  | .local _ .vmem, ⟨1, _⟩ => ⟨S512x256, .f32⟩
  | .local _ .vmem, ⟨2, _⟩ => ⟨S4x64x512, .bf16⟩
  | .local _ .vmem, ⟨3, _⟩ => ⟨S4x512x64, .bf16⟩
  | .local _ .vmem, ⟨4, _⟩ => ⟨S256x512, .f32⟩
  | .local _ .vmem, ⟨5, _⟩ => ⟨S512x512, .f32⟩
  | .local _ .vmem, ⟨6, _⟩ => ⟨S512x256, .bf16⟩
  | .local _ .vmem, ⟨7, _⟩ => ⟨S256x512, .bf16⟩
  | .local _ .vmem, ⟨8, _⟩ => ⟨S4x3x128x128, .bf16⟩
  | .local _ .vmem, ⟨9, _⟩ => ⟨S4x3x128x128, .bf16⟩
  | .local _ .vmem, ⟨10, _⟩ => ⟨S4x4x128x128, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  (ofTc nBuf bufTy 1 58 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c2_i32_32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v81 : BitVec 32 := Scalar.addi v2 c2_i32_32
  let c4_i32_33 : BitVec 32 := 4#32
  let v82 : BitVec 32 := Scalar.remsi v81 c4_i32_33
  let c128_i32 : BitVec 32 := 128#32
  let v83 : BitVec 32 := Scalar.muli v82 c128_i32
  let v84 : Index := Scalar.indexCast v83
  let c0_34 : Index := 0#32
  ![v84.toNat, 0]
def k0_off2 (d0 : Dev nD) (c2_i32_32 : BitVec 32) : Fin 3 → Nat :=
  let c0_38 : Index := 0#32
  let c0_39 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v81 : BitVec 32 := Scalar.addi v2 c2_i32_32
  let c4_i32_33 : BitVec 32 := 4#32
  let v82 : BitVec 32 := Scalar.remsi v81 c4_i32_33
  let c128_i32 : BitVec 32 := 128#32
  let v83 : BitVec 32 := Scalar.muli v82 c128_i32
  let v92 : Index := Scalar.indexCast v83
  ![0, 0, v92.toNat]
def k0_off3 (d0 : Dev nD) (c2_i32_32 : BitVec 32) : Fin 3 → Nat :=
  let c0_40 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v81 : BitVec 32 := Scalar.addi v2 c2_i32_32
  let c4_i32_33 : BitVec 32 := 4#32
  let v82 : BitVec 32 := Scalar.remsi v81 c4_i32_33
  let c128_i32 : BitVec 32 := 128#32
  let v83 : BitVec 32 := Scalar.muli v82 c128_i32
  let v95 : Index := Scalar.indexCast v83
  let c0_41 : Index := 0#32
  ![0, v95.toNat, 0]
def k0_off4 (d0 : Dev nD) (c2_i32_32 : BitVec 32) : Fin 3 → Nat :=
  let c1 : Index := 1#32
  let c0_47 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v81 : BitVec 32 := Scalar.addi v2 c2_i32_32
  let c4_i32_33 : BitVec 32 := 4#32
  let v82 : BitVec 32 := Scalar.remsi v81 c4_i32_33
  let c128_i32 : BitVec 32 := 128#32
  let v83 : BitVec 32 := Scalar.muli v82 c128_i32
  let v112 : Index := Scalar.indexCast v83
  ![1, 0, v112.toNat]
def k0_off5 (d0 : Dev nD) (c2_i32_32 : BitVec 32) : Fin 3 → Nat :=
  let c1_48 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v81 : BitVec 32 := Scalar.addi v2 c2_i32_32
  let c4_i32_33 : BitVec 32 := 4#32
  let v82 : BitVec 32 := Scalar.remsi v81 c4_i32_33
  let c128_i32 : BitVec 32 := 128#32
  let v83 : BitVec 32 := Scalar.muli v82 c128_i32
  let v115 : Index := Scalar.indexCast v83
  let c0_49 : Index := 0#32
  ![1, v115.toNat, 0]
def k0_off6 (d0 : Dev nD) (c2_i32_32 : BitVec 32) : Fin 3 → Nat :=
  let c2 : Index := 2#32
  let c0_55 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v81 : BitVec 32 := Scalar.addi v2 c2_i32_32
  let c4_i32_33 : BitVec 32 := 4#32
  let v82 : BitVec 32 := Scalar.remsi v81 c4_i32_33
  let c128_i32 : BitVec 32 := 128#32
  let v83 : BitVec 32 := Scalar.muli v82 c128_i32
  let v132 : Index := Scalar.indexCast v83
  ![2, 0, v132.toNat]
def k0_off7 (d0 : Dev nD) (c2_i32_32 : BitVec 32) : Fin 3 → Nat :=
  let c2_56 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v81 : BitVec 32 := Scalar.addi v2 c2_i32_32
  let c4_i32_33 : BitVec 32 := 4#32
  let v82 : BitVec 32 := Scalar.remsi v81 c4_i32_33
  let c128_i32 : BitVec 32 := 128#32
  let v83 : BitVec 32 := Scalar.muli v82 c128_i32
  let v135 : Index := Scalar.indexCast v83
  let c0_57 : Index := 0#32
  ![2, v135.toNat, 0]
def k0_off8 (d0 : Dev nD) (c2_i32_32 : BitVec 32) : Fin 3 → Nat :=
  let c3 : Index := 3#32
  let c0_63 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v81 : BitVec 32 := Scalar.addi v2 c2_i32_32
  let c4_i32_33 : BitVec 32 := 4#32
  let v82 : BitVec 32 := Scalar.remsi v81 c4_i32_33
  let c128_i32 : BitVec 32 := 128#32
  let v83 : BitVec 32 := Scalar.muli v82 c128_i32
  let v152 : Index := Scalar.indexCast v83
  ![3, 0, v152.toNat]
def k0_off9 (d0 : Dev nD) (c2_i32_32 : BitVec 32) : Fin 3 → Nat :=
  let c3_64 : Index := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v81 : BitVec 32 := Scalar.addi v2 c2_i32_32
  let c4_i32_33 : BitVec 32 := 4#32
  let v82 : BitVec 32 := Scalar.remsi v81 c4_i32_33
  let c128_i32 : BitVec 32 := 128#32
  let v83 : BitVec 32 := Scalar.muli v82 c128_i32
  let v155 : Index := Scalar.indexCast v83
  let c0_65 : Index := 0#32
  ![3, v155.toNat, 0]
def k0_dev4 (d0 : Dev nD) : Nat :=
  let c0_i32_101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v81 : BitVec 32 := Scalar.addi v2 c2_i32_32
  let c4_i32_33 : BitVec 32 := 4#32
  let v82 : BitVec 32 := Scalar.remsi v81 c4_i32_33
  let c1_i32_100 : BitVec 32 := 1#32
  let v200 : BitVec 32 := Scalar.muli v82 c1_i32_100
  let v201 : BitVec 32 := Scalar.addi c0_i32_101 v200
  v201.toNat
def k0_dev5 (d0 : Dev nD) : Nat :=
  let c0_i32_113 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v81 : BitVec 32 := Scalar.addi v2 c2_i32_32
  let c4_i32_33 : BitVec 32 := 4#32
  let v82 : BitVec 32 := Scalar.remsi v81 c4_i32_33
  let c1_i32_112 : BitVec 32 := 1#32
  let v210 : BitVec 32 := Scalar.muli v82 c1_i32_112
  let v211 : BitVec 32 := Scalar.addi c0_i32_113 v210
  v211.toNat
def k0_dev6 (d0 : Dev nD) : Nat :=
  let c0_i32_124 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v81 : BitVec 32 := Scalar.addi v2 c2_i32_32
  let c4_i32_33 : BitVec 32 := 4#32
  let v82 : BitVec 32 := Scalar.remsi v81 c4_i32_33
  let c1_i32_123 : BitVec 32 := 1#32
  let v220 : BitVec 32 := Scalar.muli v82 c1_i32_123
  let v221 : BitVec 32 := Scalar.addi c0_i32_124 v220
  v221.toNat
def k0_dev7 (d0 : Dev nD) : Nat :=
  let c0_i32_135 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v81 : BitVec 32 := Scalar.addi v2 c2_i32_32
  let c4_i32_33 : BitVec 32 := 4#32
  let v82 : BitVec 32 := Scalar.remsi v81 c4_i32_33
  let c1_i32_134 : BitVec 32 := 1#32
  let v230 : BitVec 32 := Scalar.muli v82 c1_i32_134
  let v231 : BitVec 32 := Scalar.addi c0_i32_135 v230
  v231.toNat
def k0_dev8 (d0 : Dev nD) : Nat :=
  let c0_i32_212 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_140 : BitVec 32 := 1#32
  let v240 : BitVec 32 := Scalar.addi v2 c1_i32_140
  let c4_i32_141 : BitVec 32 := 4#32
  let v241 : BitVec 32 := Scalar.remsi v240 c4_i32_141
  let c1_i32_211 : BitVec 32 := 1#32
  let v359 : BitVec 32 := Scalar.muli v241 c1_i32_211
  let v360 : BitVec 32 := Scalar.addi c0_i32_212 v359
  v360.toNat
def k0_dev9 (d0 : Dev nD) : Nat :=
  let c0_i32_224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_140 : BitVec 32 := 1#32
  let v240 : BitVec 32 := Scalar.addi v2 c1_i32_140
  let c4_i32_141 : BitVec 32 := 4#32
  let v241 : BitVec 32 := Scalar.remsi v240 c4_i32_141
  let c1_i32_223 : BitVec 32 := 1#32
  let v369 : BitVec 32 := Scalar.muli v241 c1_i32_223
  let v370 : BitVec 32 := Scalar.addi c0_i32_224 v369
  v370.toNat
def k0_dev10 (d0 : Dev nD) : Nat :=
  let c0_i32_235 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_140 : BitVec 32 := 1#32
  let v240 : BitVec 32 := Scalar.addi v2 c1_i32_140
  let c4_i32_141 : BitVec 32 := 4#32
  let v241 : BitVec 32 := Scalar.remsi v240 c4_i32_141
  let c1_i32_234 : BitVec 32 := 1#32
  let v379 : BitVec 32 := Scalar.muli v241 c1_i32_234
  let v380 : BitVec 32 := Scalar.addi c0_i32_235 v379
  v380.toNat
def k0_dev11 (d0 : Dev nD) : Nat :=
  let c0_i32_246 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_140 : BitVec 32 := 1#32
  let v240 : BitVec 32 := Scalar.addi v2 c1_i32_140
  let c4_i32_141 : BitVec 32 := 4#32
  let v241 : BitVec 32 := Scalar.remsi v240 c4_i32_141
  let c1_i32_245 : BitVec 32 := 1#32
  let v389 : BitVec 32 := Scalar.muli v241 c1_i32_245
  let v390 : BitVec 32 := Scalar.addi c0_i32_246 v389
  v390.toNat
def k0_dev12 (d0 : Dev nD) : Nat :=
  let c0_i32_323 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_251 : BitVec 32 := 3#32
  let v399 : BitVec 32 := Scalar.addi v2 c3_i32_251
  let c4_i32_252 : BitVec 32 := 4#32
  let v400 : BitVec 32 := Scalar.remsi v399 c4_i32_252
  let c1_i32_322 : BitVec 32 := 1#32
  let v518 : BitVec 32 := Scalar.muli v400 c1_i32_322
  let v519 : BitVec 32 := Scalar.addi c0_i32_323 v518
  v519.toNat
def k0_dev13 (d0 : Dev nD) : Nat :=
  let c0_i32_334 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_251 : BitVec 32 := 3#32
  let v399 : BitVec 32 := Scalar.addi v2 c3_i32_251
  let c4_i32_252 : BitVec 32 := 4#32
  let v400 : BitVec 32 := Scalar.remsi v399 c4_i32_252
  let c1_i32_333 : BitVec 32 := 1#32
  let v528 : BitVec 32 := Scalar.muli v400 c1_i32_333
  let v529 : BitVec 32 := Scalar.addi c0_i32_334 v528
  v529.toNat
def k0_dev14 (d0 : Dev nD) : Nat :=
  let c0_i32_345 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_251 : BitVec 32 := 3#32
  let v399 : BitVec 32 := Scalar.addi v2 c3_i32_251
  let c4_i32_252 : BitVec 32 := 4#32
  let v400 : BitVec 32 := Scalar.remsi v399 c4_i32_252
  let c1_i32_344 : BitVec 32 := 1#32
  let v538 : BitVec 32 := Scalar.muli v400 c1_i32_344
  let v539 : BitVec 32 := Scalar.addi c0_i32_345 v538
  v539.toNat
def k0_dev15 (d0 : Dev nD) : Nat :=
  let c0_i32_356 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_251 : BitVec 32 := 3#32
  let v399 : BitVec 32 := Scalar.addi v2 c3_i32_251
  let c4_i32_252 : BitVec 32 := 4#32
  let v400 : BitVec 32 := Scalar.remsi v399 c4_i32_252
  let c1_i32_355 : BitVec 32 := 1#32
  let v548 : BitVec 32 := Scalar.muli v400 c1_i32_355
  let v549 : BitVec 32 := Scalar.addi c0_i32_356 v548
  v549.toNat
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_361 : BitVec 32 := 128#32
  let v558 : BitVec 32 := Scalar.muli v2 c128_i32_361
  let v559 : Index := Scalar.indexCast v558
  let c0_362 : Index := 0#32
  ![v559.toNat, 0]
def k0_off11 (d0 : Dev nD) : Fin 3 → Nat :=
  let c0_366 : Index := 0#32
  let c0_367 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_361 : BitVec 32 := 128#32
  let v558 : BitVec 32 := Scalar.muli v2 c128_i32_361
  let v567 : Index := Scalar.indexCast v558
  ![0, 0, v567.toNat]
def k0_off12 (d0 : Dev nD) : Fin 3 → Nat :=
  let c0_368 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_361 : BitVec 32 := 128#32
  let v558 : BitVec 32 := Scalar.muli v2 c128_i32_361
  let v570 : Index := Scalar.indexCast v558
  let c0_369 : Index := 0#32
  ![0, v570.toNat, 0]
def k0_off13 (d0 : Dev nD) : Fin 3 → Nat :=
  let c1_375 : Index := 1#32
  let c0_376 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_361 : BitVec 32 := 128#32
  let v558 : BitVec 32 := Scalar.muli v2 c128_i32_361
  let v587 : Index := Scalar.indexCast v558
  ![1, 0, v587.toNat]
def k0_off14 (d0 : Dev nD) : Fin 3 → Nat :=
  let c1_377 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_361 : BitVec 32 := 128#32
  let v558 : BitVec 32 := Scalar.muli v2 c128_i32_361
  let v590 : Index := Scalar.indexCast v558
  let c0_378 : Index := 0#32
  ![1, v590.toNat, 0]
def k0_off15 (d0 : Dev nD) : Fin 3 → Nat :=
  let c2_384 : Index := 2#32
  let c0_385 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_361 : BitVec 32 := 128#32
  let v558 : BitVec 32 := Scalar.muli v2 c128_i32_361
  let v607 : Index := Scalar.indexCast v558
  ![2, 0, v607.toNat]
def k0_off16 (d0 : Dev nD) : Fin 3 → Nat :=
  let c2_386 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_361 : BitVec 32 := 128#32
  let v558 : BitVec 32 := Scalar.muli v2 c128_i32_361
  let v610 : Index := Scalar.indexCast v558
  let c0_387 : Index := 0#32
  ![2, v610.toNat, 0]
def k0_off17 (d0 : Dev nD) : Fin 3 → Nat :=
  let c3_393 : Index := 3#32
  let c0_394 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_361 : BitVec 32 := 128#32
  let v558 : BitVec 32 := Scalar.muli v2 c128_i32_361
  let v627 : Index := Scalar.indexCast v558
  ![3, 0, v627.toNat]
def k0_off18 (d0 : Dev nD) : Fin 3 → Nat :=
  let c3_395 : Index := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_361 : BitVec 32 := 128#32
  let v558 : BitVec 32 := Scalar.muli v2 c128_i32_361
  let v630 : Index := Scalar.indexCast v558
  let c0_396 : Index := 0#32
  ![3, v630.toNat, 0]
def k0_off19 (d0 : Dev nD) (c0_i32_465 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v707 : BitVec 32 := Scalar.addi c0_i32_465 v2
  ![v707.toNat]
def k0_off20 (d0 : Dev nD) : Fin 4 → Nat :=
  let c0_i32_469 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_473 : BitVec 32 := 0#32
  let c0_i32_474 : BitVec 32 := 0#32
  ![0, v2.toNat, 0, 0]
def k0_dev16 (d0 : Dev nD) : Nat :=
  let c0_i32_472 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_466 : BitVec 32 := 2#32
  let v708 : BitVec 32 := Scalar.addi v2 c2_i32_466
  let c4_i32_467 : BitVec 32 := 4#32
  let v709 : BitVec 32 := Scalar.remsi v708 c4_i32_467
  let c1_i32_471 : BitVec 32 := 1#32
  let v710 : BitVec 32 := Scalar.muli v709 c1_i32_471
  let v711 : BitVec 32 := Scalar.addi c0_i32_472 v710
  v711.toNat
def k0_dev17 (d0 : Dev nD) : Nat :=
  let c0_i32_484 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_478 : BitVec 32 := 1#32
  let v721 : BitVec 32 := Scalar.addi v2 c1_i32_478
  let c4_i32_479 : BitVec 32 := 4#32
  let v722 : BitVec 32 := Scalar.remsi v721 c4_i32_479
  let c1_i32_483 : BitVec 32 := 1#32
  let v723 : BitVec 32 := Scalar.muli v722 c1_i32_483
  let v724 : BitVec 32 := Scalar.addi c0_i32_484 v723
  v724.toNat
def k0_dev18 (d0 : Dev nD) : Nat :=
  let c0_i32_496 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_490 : BitVec 32 := 3#32
  let v734 : BitVec 32 := Scalar.addi v2 c3_i32_490
  let c4_i32_491 : BitVec 32 := 4#32
  let v735 : BitVec 32 := Scalar.remsi v734 c4_i32_491
  let c1_i32_495 : BitVec 32 := 1#32
  let v736 : BitVec 32 := Scalar.muli v735 c1_i32_495
  let v737 : BitVec 32 := Scalar.addi c0_i32_496 v736
  v737.toNat
def k0_off21 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_402 : BitVec 32 := 128#32
  let v646 : BitVec 32 := Scalar.muli v2 c128_i32_402
  let v746 : Index := Scalar.indexCast v646
  let c0_501 : Index := 0#32
  ![v746.toNat, 0]
def k0_off22 (d0 : Dev nD) : Fin 4 → Nat :=
  let c1_i32_567 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_571 : BitVec 32 := 0#32
  let c0_i32_572 : BitVec 32 := 0#32
  ![1, v2.toNat, 0, 0]
def k0_dev19 (d0 : Dev nD) : Nat :=
  let c0_i32_570 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_564 : BitVec 32 := 2#32
  let v809 : BitVec 32 := Scalar.addi v2 c2_i32_564
  let c4_i32_565 : BitVec 32 := 4#32
  let v810 : BitVec 32 := Scalar.remsi v809 c4_i32_565
  let c1_i32_569 : BitVec 32 := 1#32
  let v811 : BitVec 32 := Scalar.muli v810 c1_i32_569
  let v812 : BitVec 32 := Scalar.addi c0_i32_570 v811
  v812.toNat
def k0_dev20 (d0 : Dev nD) : Nat :=
  let c0_i32_582 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_576 : BitVec 32 := 1#32
  let v822 : BitVec 32 := Scalar.addi v2 c1_i32_576
  let c4_i32_577 : BitVec 32 := 4#32
  let v823 : BitVec 32 := Scalar.remsi v822 c4_i32_577
  let c1_i32_581 : BitVec 32 := 1#32
  let v824 : BitVec 32 := Scalar.muli v823 c1_i32_581
  let v825 : BitVec 32 := Scalar.addi c0_i32_582 v824
  v825.toNat
def k0_dev21 (d0 : Dev nD) : Nat :=
  let c0_i32_594 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_588 : BitVec 32 := 3#32
  let v835 : BitVec 32 := Scalar.addi v2 c3_i32_588
  let c4_i32_589 : BitVec 32 := 4#32
  let v836 : BitVec 32 := Scalar.remsi v835 c4_i32_589
  let c1_i32_593 : BitVec 32 := 1#32
  let v837 : BitVec 32 := Scalar.muli v836 c1_i32_593
  let v838 : BitVec 32 := Scalar.addi c0_i32_594 v837
  v838.toNat
def k0_off23 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_402 : BitVec 32 := 128#32
  let v646 : BitVec 32 := Scalar.muli v2 c128_i32_402
  let v847 : Index := Scalar.indexCast v646
  let c128_599 : Index := 128#32
  ![v847.toNat, 128]
def k0_off24 (d0 : Dev nD) : Fin 4 → Nat :=
  let c2_i32_665 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_669 : BitVec 32 := 0#32
  let c0_i32_670 : BitVec 32 := 0#32
  ![2, v2.toNat, 0, 0]
def k0_dev22 (d0 : Dev nD) : Nat :=
  let c0_i32_668 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_662 : BitVec 32 := 2#32
  let v910 : BitVec 32 := Scalar.addi v2 c2_i32_662
  let c4_i32_663 : BitVec 32 := 4#32
  let v911 : BitVec 32 := Scalar.remsi v910 c4_i32_663
  let c1_i32_667 : BitVec 32 := 1#32
  let v912 : BitVec 32 := Scalar.muli v911 c1_i32_667
  let v913 : BitVec 32 := Scalar.addi c0_i32_668 v912
  v913.toNat
def k0_dev23 (d0 : Dev nD) : Nat :=
  let c0_i32_680 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_674 : BitVec 32 := 1#32
  let v923 : BitVec 32 := Scalar.addi v2 c1_i32_674
  let c4_i32_675 : BitVec 32 := 4#32
  let v924 : BitVec 32 := Scalar.remsi v923 c4_i32_675
  let c1_i32_679 : BitVec 32 := 1#32
  let v925 : BitVec 32 := Scalar.muli v924 c1_i32_679
  let v926 : BitVec 32 := Scalar.addi c0_i32_680 v925
  v926.toNat
def k0_dev24 (d0 : Dev nD) : Nat :=
  let c0_i32_692 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_686 : BitVec 32 := 3#32
  let v936 : BitVec 32 := Scalar.addi v2 c3_i32_686
  let c4_i32_687 : BitVec 32 := 4#32
  let v937 : BitVec 32 := Scalar.remsi v936 c4_i32_687
  let c1_i32_691 : BitVec 32 := 1#32
  let v938 : BitVec 32 := Scalar.muli v937 c1_i32_691
  let v939 : BitVec 32 := Scalar.addi c0_i32_692 v938
  v939.toNat
def k0_off25 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_402 : BitVec 32 := 128#32
  let v646 : BitVec 32 := Scalar.muli v2 c128_i32_402
  let v948 : Index := Scalar.indexCast v646
  let c256_697 : Index := 256#32
  ![v948.toNat, 256]
def k0_off26 (d0 : Dev nD) : Fin 4 → Nat :=
  let c3_i32_762 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_766 : BitVec 32 := 0#32
  let c0_i32_767 : BitVec 32 := 0#32
  ![3, v2.toNat, 0, 0]
def k0_dev25 (d0 : Dev nD) : Nat :=
  let c0_i32_765 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_759 : BitVec 32 := 2#32
  let v1011 : BitVec 32 := Scalar.addi v2 c2_i32_759
  let c4_i32_760 : BitVec 32 := 4#32
  let v1012 : BitVec 32 := Scalar.remsi v1011 c4_i32_760
  let c1_i32_764 : BitVec 32 := 1#32
  let v1013 : BitVec 32 := Scalar.muli v1012 c1_i32_764
  let v1014 : BitVec 32 := Scalar.addi c0_i32_765 v1013
  v1014.toNat
def k0_dev26 (d0 : Dev nD) : Nat :=
  let c0_i32_777 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_771 : BitVec 32 := 1#32
  let v1024 : BitVec 32 := Scalar.addi v2 c1_i32_771
  let c4_i32_772 : BitVec 32 := 4#32
  let v1025 : BitVec 32 := Scalar.remsi v1024 c4_i32_772
  let c1_i32_776 : BitVec 32 := 1#32
  let v1026 : BitVec 32 := Scalar.muli v1025 c1_i32_776
  let v1027 : BitVec 32 := Scalar.addi c0_i32_777 v1026
  v1027.toNat
def k0_dev27 (d0 : Dev nD) : Nat :=
  let c0_i32_789 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_783 : BitVec 32 := 3#32
  let v1037 : BitVec 32 := Scalar.addi v2 c3_i32_783
  let c4_i32_784 : BitVec 32 := 4#32
  let v1038 : BitVec 32 := Scalar.remsi v1037 c4_i32_784
  let c1_i32_788 : BitVec 32 := 1#32
  let v1039 : BitVec 32 := Scalar.muli v1038 c1_i32_788
  let v1040 : BitVec 32 := Scalar.addi c0_i32_789 v1039
  v1040.toNat
def k0_off27 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_402 : BitVec 32 := 128#32
  let v646 : BitVec 32 := Scalar.muli v2 c128_i32_402
  let v1049 : Index := Scalar.indexCast v646
  let c384_794 : Index := 384#32
  ![v1049.toNat, 384]
def k0_off28 (d0 : Dev nD) (c0_i32_798 : BitVec 32) (c1_i32_795 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1051 : BitVec 32 := Scalar.addi v2 c1_i32_795
  let c4_i32_796 : BitVec 32 := 4#32
  let v1052 : BitVec 32 := Scalar.remsi v1051 c4_i32_796
  let v1054 : BitVec 32 := Scalar.addi c0_i32_798 v1052
  ![v1054.toNat]
def k0_off29 (d0 : Dev nD) (c1_i32_795 : BitVec 32) : Fin 4 → Nat :=
  let c0_i32_801 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1051 : BitVec 32 := Scalar.addi v2 c1_i32_795
  let c4_i32_796 : BitVec 32 := 4#32
  let v1052 : BitVec 32 := Scalar.remsi v1051 c4_i32_796
  let c0_i32_805 : BitVec 32 := 0#32
  let c0_i32_806 : BitVec 32 := 0#32
  ![0, v1052.toNat, 0, 0]
def k0_off30 (d0 : Dev nD) (c1_i32_795 : BitVec 32) : Fin 4 → Nat :=
  let c0_809 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1051 : BitVec 32 := Scalar.addi v2 c1_i32_795
  let c4_i32_796 : BitVec 32 := 4#32
  let v1052 : BitVec 32 := Scalar.remsi v1051 c4_i32_796
  let v1063 : Index := Scalar.indexCast v1052
  let c0_810 : Index := 0#32
  let c0_811 : Index := 0#32
  ![0, v1063.toNat, 0, 0]
def k0_off31 (d0 : Dev nD) (c1_i32_795 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1051 : BitVec 32 := Scalar.addi v2 c1_i32_795
  let c4_i32_796 : BitVec 32 := 4#32
  let v1052 : BitVec 32 := Scalar.remsi v1051 c4_i32_796
  let c128_i32_797 : BitVec 32 := 128#32
  let v1053 : BitVec 32 := Scalar.muli v1052 c128_i32_797
  let v1067 : Index := Scalar.indexCast v1053
  let c0_812 : Index := 0#32
  ![v1067.toNat, 0]
def k0_off32 (d0 : Dev nD) (c1_i32_795 : BitVec 32) : Fin 4 → Nat :=
  let c1_i32_816 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1051 : BitVec 32 := Scalar.addi v2 c1_i32_795
  let c4_i32_796 : BitVec 32 := 4#32
  let v1052 : BitVec 32 := Scalar.remsi v1051 c4_i32_796
  let c0_i32_820 : BitVec 32 := 0#32
  let c0_i32_821 : BitVec 32 := 0#32
  ![1, v1052.toNat, 0, 0]
def k0_off33 (d0 : Dev nD) (c1_i32_795 : BitVec 32) : Fin 4 → Nat :=
  let c1_824 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1051 : BitVec 32 := Scalar.addi v2 c1_i32_795
  let c4_i32_796 : BitVec 32 := 4#32
  let v1052 : BitVec 32 := Scalar.remsi v1051 c4_i32_796
  let v1078 : Index := Scalar.indexCast v1052
  let c0_825 : Index := 0#32
  let c0_826 : Index := 0#32
  ![1, v1078.toNat, 0, 0]
def k0_off34 (d0 : Dev nD) (c1_i32_795 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1051 : BitVec 32 := Scalar.addi v2 c1_i32_795
  let c4_i32_796 : BitVec 32 := 4#32
  let v1052 : BitVec 32 := Scalar.remsi v1051 c4_i32_796
  let c128_i32_797 : BitVec 32 := 128#32
  let v1053 : BitVec 32 := Scalar.muli v1052 c128_i32_797
  let v1082 : Index := Scalar.indexCast v1053
  let c128_827 : Index := 128#32
  ![v1082.toNat, 128]
def k0_off35 (d0 : Dev nD) (c1_i32_795 : BitVec 32) : Fin 4 → Nat :=
  let c2_i32_831 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1051 : BitVec 32 := Scalar.addi v2 c1_i32_795
  let c4_i32_796 : BitVec 32 := 4#32
  let v1052 : BitVec 32 := Scalar.remsi v1051 c4_i32_796
  let c0_i32_835 : BitVec 32 := 0#32
  let c0_i32_836 : BitVec 32 := 0#32
  ![2, v1052.toNat, 0, 0]
def k0_off36 (d0 : Dev nD) (c1_i32_795 : BitVec 32) : Fin 4 → Nat :=
  let c2_839 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1051 : BitVec 32 := Scalar.addi v2 c1_i32_795
  let c4_i32_796 : BitVec 32 := 4#32
  let v1052 : BitVec 32 := Scalar.remsi v1051 c4_i32_796
  let v1093 : Index := Scalar.indexCast v1052
  let c0_840 : Index := 0#32
  let c0_841 : Index := 0#32
  ![2, v1093.toNat, 0, 0]
def k0_off37 (d0 : Dev nD) (c1_i32_795 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1051 : BitVec 32 := Scalar.addi v2 c1_i32_795
  let c4_i32_796 : BitVec 32 := 4#32
  let v1052 : BitVec 32 := Scalar.remsi v1051 c4_i32_796
  let c128_i32_797 : BitVec 32 := 128#32
  let v1053 : BitVec 32 := Scalar.muli v1052 c128_i32_797
  let v1097 : Index := Scalar.indexCast v1053
  let c256_842 : Index := 256#32
  ![v1097.toNat, 256]
def k0_off38 (d0 : Dev nD) (c1_i32_795 : BitVec 32) : Fin 4 → Nat :=
  let c3_i32_846 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1051 : BitVec 32 := Scalar.addi v2 c1_i32_795
  let c4_i32_796 : BitVec 32 := 4#32
  let v1052 : BitVec 32 := Scalar.remsi v1051 c4_i32_796
  let c0_i32_850 : BitVec 32 := 0#32
  let c0_i32_851 : BitVec 32 := 0#32
  ![3, v1052.toNat, 0, 0]
def k0_off39 (d0 : Dev nD) (c1_i32_795 : BitVec 32) : Fin 4 → Nat :=
  let c3_854 : Index := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1051 : BitVec 32 := Scalar.addi v2 c1_i32_795
  let c4_i32_796 : BitVec 32 := 4#32
  let v1052 : BitVec 32 := Scalar.remsi v1051 c4_i32_796
  let v1108 : Index := Scalar.indexCast v1052
  let c0_855 : Index := 0#32
  let c0_856 : Index := 0#32
  ![3, v1108.toNat, 0, 0]
def k0_off40 (d0 : Dev nD) (c1_i32_795 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1051 : BitVec 32 := Scalar.addi v2 c1_i32_795
  let c4_i32_796 : BitVec 32 := 4#32
  let v1052 : BitVec 32 := Scalar.remsi v1051 c4_i32_796
  let c128_i32_797 : BitVec 32 := 128#32
  let v1053 : BitVec 32 := Scalar.muli v1052 c128_i32_797
  let v1112 : Index := Scalar.indexCast v1053
  let c384_857 : Index := 384#32
  ![v1112.toNat, 384]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x64x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x256x512 : Shape := ⟨3, ![2, 256, 512]⟩
abbrev S512x1024 : Shape := ⟨2, ![512, 1024]⟩
abbrev S2x256x16x64 : Shape := ⟨4, ![2, 256, 16, 64]⟩
abbrev S1024x512 : Shape := ⟨2, ![1024, 512]⟩
abbrev S2x256x1024 : Shape := ⟨3, ![2, 256, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S2x16x256x256 : Shape := ⟨4, ![2, 16, 256, 256]⟩
abbrev S1x1x256x256 : Shape := ⟨4, ![1, 1, 256, 256]⟩
abbrev S2x16x256 : Shape := ⟨3, ![2, 16, 256]⟩
abbrev S2x16x256x1 : Shape := ⟨4, ![2, 16, 256, 1]⟩
abbrev S1x1x256x1 : Shape := ⟨4, ![1, 1, 256, 1]⟩
abbrev S2x16x64x256 : Shape := ⟨4, ![2, 16, 64, 256]⟩

abbrev nBuf : Space → Nat
  | .hbm => 137
  | .vmem => 0
  | .smem => 0
  | _ => 0

abbrev hbmTy0_0 (i : Nat) : BufTy := match i % 128 with
  | 0 => ⟨S2x256x512, .f32⟩
  | 1 => ⟨S512x1024, .f32⟩
  | 2 => ⟨S2x256x16x64, .f32⟩
  | 3 => ⟨S2x256x16x64, .f32⟩
  | 4 => ⟨S1024x512, .f32⟩
  | 5 => ⟨S2x256x1024, .f32⟩
  | 6 => ⟨S2x256x16x64, .f32⟩
  | 7 => ⟨S256, .i32⟩
  | 8 => ⟨S_, .i32⟩
  | 9 => ⟨S_, .i32⟩
  | 10 => ⟨S256, .i32⟩
  | 11 => ⟨S256, .i32⟩
  | 12 => ⟨S256, .i32⟩
  | 13 => ⟨S_, .i32⟩
  | 14 => ⟨S256, .i32⟩
  | 15 => ⟨S256, .i1⟩
  | 16 => ⟨S256, .i32⟩
  | 17 => ⟨S256, .i32⟩
  | 18 => ⟨S_, .i32⟩
  | 19 => ⟨S256, .i32⟩
  | 20 => ⟨S256, .i1⟩
  | 21 => ⟨S256, .i1⟩
  | 22 => ⟨S_, .i32⟩
  | 23 => ⟨S256, .i32⟩
  | 24 => ⟨S256, .i32⟩
  | 25 => ⟨S256, .i32⟩
  | 26 => ⟨S256x1, .i32⟩
  | 27 => ⟨S256, .i32⟩
  | 28 => ⟨S_, .i32⟩
  | 29 => ⟨S_, .i32⟩
  | 30 => ⟨S256, .i32⟩
  | 31 => ⟨S256, .i32⟩
  | 32 => ⟨S256, .i32⟩
  | 33 => ⟨S_, .i32⟩
  | 34 => ⟨S256, .i32⟩
  | 35 => ⟨S256, .i1⟩
  | 36 => ⟨S256, .i32⟩
  | 37 => ⟨S256, .i32⟩
  | 38 => ⟨S_, .i32⟩
  | 39 => ⟨S256, .i32⟩
  | 40 => ⟨S256, .i1⟩
  | 41 => ⟨S256, .i1⟩
  | 42 => ⟨S_, .i32⟩
  | 43 => ⟨S256, .i32⟩
  | 44 => ⟨S256, .i32⟩
  | 45 => ⟨S256, .i32⟩
  | 46 => ⟨S1x256, .i32⟩
  | 47 => ⟨S256x256, .i32⟩
  | 48 => ⟨S256x256, .i32⟩
  | 49 => ⟨S256x256, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x256, .i32⟩
  | 57 => ⟨S1x256, .i32⟩
  | 58 => ⟨S_, .i32⟩
  | 59 => ⟨S1x256, .i32⟩
  | 60 => ⟨S1x256, .i1⟩
  | 61 => ⟨S_, .i32⟩
  | 62 => ⟨S1x256, .i32⟩
  | 63 => ⟨S1x256, .i1⟩
  | 64 => ⟨S_, .i32⟩
  | 65 => ⟨S_, .i1⟩
  | 66 => ⟨S1x256, .i1⟩
  | 67 => ⟨S1x256, .i1⟩
  | 68 => ⟨S1x256, .i1⟩
  | 69 => ⟨S1x256, .i32⟩
  | 70 => ⟨S1x256, .i32⟩
  | 71 => ⟨S1x256, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S256x1, .i32⟩
  | 79 => ⟨S256x1, .i32⟩
  | 80 => ⟨S_, .i32⟩
  | 81 => ⟨S256x1, .i32⟩
  | 82 => ⟨S256x1, .i1⟩
  | 83 => ⟨S_, .i32⟩
  | 84 => ⟨S256x1, .i32⟩
  | 85 => ⟨S256x1, .i1⟩
  | 86 => ⟨S_, .i32⟩
  | 87 => ⟨S_, .i1⟩
  | 88 => ⟨S256x1, .i1⟩
  | 89 => ⟨S256x1, .i1⟩
  | 90 => ⟨S256x1, .i1⟩
  | 91 => ⟨S256x1, .i32⟩
  | 92 => ⟨S256x1, .i32⟩
  | 93 => ⟨S256x1, .i32⟩
  | 94 => ⟨S256x256, .i32⟩
  | 95 => ⟨S256x256, .i32⟩
  | 96 => ⟨S256x256, .i1⟩
  | 97 => ⟨S256x256, .i1⟩
  | 98 => ⟨S2x16x256x256, .f32⟩
  | 99 => ⟨S_, .f32⟩
  | 100 => ⟨S2x16x256x256, .f32⟩
  | 101 => ⟨S2x16x256x256, .f32⟩
  | 102 => ⟨S1x1x256x256, .i1⟩
  | 103 => ⟨S_, .f32⟩
  | 104 => ⟨S_, .f32⟩
  | 105 => ⟨S2x16x256x256, .i1⟩
  | 106 => ⟨S2x16x256x256, .f32⟩
  | 107 => ⟨S2x16x256x256, .f32⟩
  | 108 => ⟨S_, .f32⟩
  | 109 => ⟨S2x16x256, .f32⟩
  | 110 => ⟨S2x16x256x1, .f32⟩
  | 111 => ⟨S2x16x256x256, .f32⟩
  | 112 => ⟨S2x16x256x256, .f32⟩
  | 113 => ⟨S2x16x256x256, .f32⟩
  | 114 => ⟨S_, .i1⟩
  | 115 => ⟨S256, .i1⟩
  | 116 => ⟨S1x1x256x1, .i1⟩
  | 117 => ⟨S_, .f32⟩
  | 118 => ⟨S2x16x256, .f32⟩
  | 119 => ⟨S2x16x256x1, .f32⟩
  | 120 => ⟨S_, .f32⟩
  | 121 => ⟨S_, .f32⟩
  | 122 => ⟨S2x16x256x1, .i1⟩
  | 123 => ⟨S2x16x256x1, .f32⟩
  | 124 => ⟨S2x16x256x1, .f32⟩
  | 125 => ⟨S2x16x256x256, .f32⟩
  | 126 => ⟨S2x16x256x256, .f32⟩
  | 127 => ⟨S1x1x256x1, .i1⟩
  | _ => ⟨S2x256x512, .f32⟩

abbrev hbmTy0_1 (i : Nat) : BufTy := match i % 128 with
  | 0 => ⟨S_, .f32⟩
  | 1 => ⟨S_, .f32⟩
  | 2 => ⟨S2x16x256x256, .i1⟩
  | 3 => ⟨S2x16x256x256, .f32⟩
  | 4 => ⟨S2x16x256x256, .f32⟩
  | 5 => ⟨S2x16x64x256, .f32⟩
  | 6 => ⟨S2x256x16x64, .f32⟩
  | 7 => ⟨S2x256x1024, .f32⟩
  | 8 => ⟨S2x256x512, .f32⟩
  | _ => ⟨S2x256x512, .f32⟩

abbrev hbmTy (i : Nat) : BufTy := match i / 128 with
  | 0 => hbmTy0_0 i
  | 1 => hbmTy0_1 i
  | _ => ⟨S2x256x512, .f32⟩

abbrev bufTy : (tb : Table) → Fin (tcTables nBuf tb) → BufTy
  | .hbm, ⟨i, _⟩ => hbmTy i
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Geometry.lean ====
/- The places the four devices meet at: which device a copy goes to, the slots of the three exchange buffers, and what a
   slot holds once it is written or copied whole. -/
module

public import proofs.«01_k».proof.Proof.Gen.KernelIdeal.Points

@[expose] public section

set_option maxRecDepth 16384

noncomputable section

namespace Cert.KernelIdeal.Att

open Idealize.ShloMosaic Gen

variable {F : FTy → Type} [FloatOps F] [Named F]

/-! ## Devices -/

/-- The device `k` places after `c`. -/
def nb (c : Dev nD) (k : ℕ) : Dev nD := ⟨(c.val + k) % 4, Nat.mod_lt _ (by decide)⟩

/-- How far ahead the target of the `j`-th partial sum lies. -/
def ro : Fin 3 → ℕ := ![2, 1, 3]

/-- The device the `j`-th partial sum of `c` goes to. -/
def tgt (c : Dev nD) (j : Fin 3) : Dev nD := nb c (ro j)
/-- The device whose `j`-th partial sum comes to `c`. -/
def src (c : Dev nD) (j : Fin 3) : Dev nD := nb c (4 - ro j)
/-- The device the `d`-th copy of a finished block of `c` goes to. -/
def agT (c : Dev nD) (d : Fin 3) : Dev nD := nb c (d.val + 1)
/-- Which of a device's three partial sums goes to the device whose `k`-th barrier unit that device pays. -/
def jOf : Fin 3 → Fin 3 := ![2, 0, 1]

theorem src_tgt (c : Dev nD) (j : Fin 3) : src (tgt c j) j = c := by revert c j; decide
theorem tgt_src (c : Dev nD) (j : Fin 3) : tgt (src c j) j = c := by revert c j; decide
theorem tgt_jOf (c : Dev nD) (k : Fin 3) : tgt (agT c k) (jOf k) = c := by revert c k; decide
theorem agT_ne (c : Dev nD) (d : Fin 3) : agT c d ≠ c := by revert c d; decide

/-! ## Slots -/

/-- Slot `[a, b]` of the two partial-sum buffers. -/
def slotR (a : Fin 4) (b : Fin 3) : Finset S4x3x128x128.Idx := Finset.univ.filter fun i => (i 0).val = a.val ∧ (i 1).val = b.val
/-- Slot `[a, b]` of the gather buffer. -/
def slotA (a b : Fin 4) : Finset S4x4x128x128.Idx := Finset.univ.filter fun i => (i 0).val = a.val ∧ (i 1).val = b.val

/-- The place within a slot of a place of the partial-sum buffers. -/
def lowR (i : S4x3x128x128.Idx) : S1x1x128x128.Idx
  | ⟨0, _⟩ => ⟨0, Nat.one_pos⟩ | ⟨1, _⟩ => ⟨0, Nat.one_pos⟩ | ⟨2, _⟩ => i 2 | ⟨3, _⟩ => i 3
/-- The place within a slot of a place of the gather buffer. -/
def lowA (i : S4x4x128x128.Idx) : S1x1x128x128.Idx
  | ⟨0, _⟩ => ⟨0, Nat.one_pos⟩ | ⟨1, _⟩ => ⟨0, Nat.one_pos⟩ | ⟨2, _⟩ => i 2 | ⟨3, _⟩ => i 3

/-- A partial-sum buffer with the block `w` in every slot. -/
def fillR (w : S1x1x128x128.Idx → Elt F .bf16) : S4x3x128x128.Idx → Elt F .bf16 := fun i => w (lowR i)
/-- The gather buffer with the block `w` in every slot. -/
def fillA (w : S1x1x128x128.Idx → Elt F .bf16) : S4x4x128x128.Idx → Elt F .bf16 := fun i => w (lowA i)

abbrev rectR (off : Fin 4 → ℕ) (h : ∀ a, off a + S1x1x128x128.size a ≤ S4x3x128x128.size a) : Rect S4x3x128x128 :=
  Rect.unit (s := S4x3x128x128) off S1x1x128x128.size h
abbrev rectA (off : Fin 4 → ℕ) (h : ∀ a, off a + S1x1x128x128.size a ≤ S4x4x128x128.size a) : Rect S4x4x128x128 :=
  Rect.unit (s := S4x4x128x128) off S1x1x128x128.size h

/-- The rectangle at offset `[a, b, 0, 0]` is the slot. -/
theorem rectR_set (a : Fin 4) (b : Fin 3) {off : Fin 4 → ℕ} (h) (ho : off = ![a.val, b.val, 0, 0]) :
    (rectR off h).set = slotR a b := by
  subst ho
  ext i
  rw [Rect.mem_set_unit]
  simp only [slotR, Finset.mem_filter, Finset.mem_univ, true_and]
  constructor
  · intro hh
    have h0 := hh 0; have h1 := hh 1
    simp at h0 h1
    omega
  · rintro ⟨h0, h1⟩ x
    have l2 := (i 2).isLt; have l3 := (i 3).isLt
    fin_cases x <;> simp at l2 l3 ⊢ <;> omega

theorem rectA_set (a b : Fin 4) {off : Fin 4 → ℕ} (h) (ho : off = ![a.val, b.val, 0, 0]) :
    (rectA off h).set = slotA a b := by
  subst ho
  ext i
  rw [Rect.mem_set_unit]
  simp only [slotA, Finset.mem_filter, Finset.mem_univ, true_and]
  constructor
  · intro hh
    have h0 := hh 0; have h1 := hh 1
    simp at h0 h1
    omega
  · rintro ⟨h0, h1⟩ x
    have l2 := (i 2).isLt; have l3 := (i 3).isLt
    fin_cases x <;> simp at l2 l3 ⊢ <;> omega

theorem lowR_emb (a : Fin 4) (b : Fin 3) {off : Fin 4 → ℕ} (h) (ho : off = ![a.val, b.val, 0, 0]) (x : S1x1x128x128.Idx) :
    lowR ((rectR off h).emb x) = x := by
  subst ho
  funext y
  have l0 := (x 0).isLt; have l1 := (x 1).isLt
  apply Fin.ext
  fin_cases y <;> simp [lowR] at l0 l1 ⊢ <;> omega

theorem lowA_emb (a b : Fin 4) {off : Fin 4 → ℕ} (h) (ho : off = ![a.val, b.val, 0, 0]) (x : S1x1x128x128.Idx) :
    lowA ((rectA off h).emb x) = x := by
  subst ho
  funext y
  have l0 := (x 0).isLt; have l1 := (x 1).isLt
  apply Fin.ext
  fin_cases y <;> simp [lowA] at l0 l1 ⊢ <;> omega

/-! ## The exchange buffers -/

abbrev partM : Memref sig .tc .vmem S4x3x128x128 .bf16 := Memref.whole cc0_scratch2
abbrev rsM : Memref sig .tc .vmem S4x3x128x128 .bf16 := Memref.whole cc0_scratch3
abbrev agM : Memref sig .tc .vmem S4x4x128x128 .bf16 := Memref.whole cc0_scratch4

/-- One slot of a partial-sum buffer, as a copy names it. -/
abbrev sqR (m : Memref sig .tc .vmem S4x3x128x128 .bf16) (off : Fin 4 → ℕ) (h : ∀ a, off a + S1x1x128x128.size a ≤ S4x3x128x128.size a) : Memref sig .tc .vmem S128x128 .bf16 :=
  (m.slice (rectR off h) (fun _ => rfl)).squeeze S128x128 squeezes_S1x1x128x128_S128x128
/-- One slot of the gather buffer, as a copy names it. -/
abbrev sqA (m : Memref sig .tc .vmem S4x4x128x128 .bf16) (off : Fin 4 → ℕ) (h : ∀ a, off a + S1x1x128x128.size a ≤ S4x4x128x128.size a) : Memref sig .tc .vmem S128x128 .bf16 :=
  (m.slice (rectA off h) (fun _ => rfl)).squeeze S128x128 squeezes_S1x1x128x128_S128x128

section Sets
variable (a : Fin 4) (b : Fin 3) (b' : Fin 4) {off : Fin 4 → ℕ}

theorem sqR_part_set (h) (ho : off = ![a.val, b.val, 0, 0]) : (sqR partM off h).view.set = slotR a b := by
  show ((partM.view.slice (rectR off h)).reshape _ _).set = _
  rw [View.set_reshape]
  exact (View.set_slice_whole cc0_scratch2 (rectR off h)).trans (rectR_set a b h ho)
theorem sqR_rs_set (h) (ho : off = ![a.val, b.val, 0, 0]) : (sqR rsM off h).view.set = slotR a b := by
  show ((rsM.view.slice (rectR off h)).reshape _ _).set = _
  rw [View.set_reshape]
  exact (View.set_slice_whole cc0_scratch3 (rectR off h)).trans (rectR_set a b h ho)
theorem sqA_set (h) (ho : off = ![a.val, b'.val, 0, 0]) : (sqA agM off h).view.set = slotA a b' := by
  show ((agM.view.slice (rectA off h)).reshape _ _).set = _
  rw [View.set_reshape]
  exact (View.set_slice_whole cc0_scratch4 (rectA off h)).trans (rectA_set a b' h ho)

theorem part_setOn (h) (ho : off = ![a.val, b.val, 0, 0]) : partM.view.setOn (rectR off h).set ⊆ slotR a b := by
  rw [rectR_set a b h ho]; intro i hi; obtain ⟨x, hx, rfl⟩ := Finset.mem_map.mp hi; exact hx
theorem rs_setOn (h) (ho : off = ![a.val, b.val, 0, 0]) : rsM.view.setOn (rectR off h).set ⊆ slotR a b := by
  rw [rectR_set a b h ho]; intro i hi; obtain ⟨x, hx, rfl⟩ := Finset.mem_map.mp hi; exact hx
theorem ag_setOn (h) (ho : off = ![a.val, b'.val, 0, 0]) : agM.view.setOn (rectA off h).set ⊆ slotA a b' := by
  rw [rectA_set a b' h ho]; intro i hi; obtain ⟨x, hx, rfl⟩ := Finset.mem_map.mp hi; exact hx
theorem part_acc (h) (ho : off = ![a.val, b.val, 0, 0]) : (partM.access (rectR off h)).setOn Finset.univ ⊆ slotR a b := by
  rw [View.setOn_univ]; exact ((View.set_slice_whole cc0_scratch2 (rectR off h)).trans (rectR_set a b h ho)).subset
theorem ag_acc (h) (ho : off = ![a.val, b'.val, 0, 0]) : (agM.access (rectA off h)).setOn Finset.univ ⊆ slotA a b' := by
  rw [View.setOn_univ]; exact ((View.set_slice_whole cc0_scratch4 (rectA off h)).trans (rectA_set a b' h ho)).subset

/-- A slot written whole holds what was written. -/
theorem part_write (h) (ho : off = ![a.val, b.val, 0, 0]) (f : S4x3x128x128.Idx → Elt F .bf16) (w) :
    ∀ i ∈ slotR a b, (partM.access (rectR off h)).write (Elt F) f w Finset.univ i = fillR w i := by
  intro i hi
  rw [← rectR_set a b h ho] at hi
  rw [← (View.set_slice_whole cc0_scratch2 (rectR off h))] at hi
  obtain ⟨x, -, rfl⟩ := Finset.mem_map.mp hi
  refine (View.write_emb_of_mem (v := partM.access (rectR off h)) f w (Finset.mem_univ x)).trans ?_
  show w x = w (lowR ((rectR off h).emb x))
  rw [lowR_emb a b h ho]
theorem ag_write (h) (ho : off = ![a.val, b'.val, 0, 0]) (f : S4x4x128x128.Idx → Elt F .bf16) (w) :
    ∀ i ∈ slotA a b', (agM.access (rectA off h)).write (Elt F) f w Finset.univ i = fillA w i := by
  intro i hi
  rw [← rectA_set a b' h ho] at hi
  rw [← (View.set_slice_whole cc0_scratch4 (rectA off h))] at hi
  obtain ⟨x, -, rfl⟩ := Finset.mem_map.mp hi
  refine (View.write_emb_of_mem (v := agM.access (rectA off h)) f w (Finset.mem_univ x)).trans ?_
  show w x = w (lowA ((rectA off h).emb x))
  rw [lowA_emb a b' h ho]

/-- A slot copied whole holds what its source held. -/
theorem rs_copy (h h') (ho : off = ![a.val, b.val, 0, 0]) (fd fs : S4x3x128x128.Idx → Elt F .bf16) :
    ∀ i ∈ slotR a b, (sqR rsM off h).view.write (Elt F) fd ((sqR partM off h').view.read (Elt F) fs) Finset.univ i = fs i := by
  intro i hi
  rw [← sqR_rs_set a b h ho] at hi
  obtain ⟨x, -, rfl⟩ := Finset.mem_map.mp hi
  exact (View.write_emb_of_mem (v := (sqR rsM off h).view) fd _ (Finset.mem_univ x)).trans rfl
theorem ag_copy (h h') (ho : off = ![a.val, b'.val, 0, 0]) (fd fs : S4x4x128x128.Idx → Elt F .bf16) :
    ∀ i ∈ slotA a b', (sqA agM off h).view.write (Elt F) fd ((sqA agM off h').view.read (Elt F) fs) Finset.univ i = fs i := by
  intro i hi
  rw [← sqA_set a b' h ho] at hi
  obtain ⟨x, -, rfl⟩ := Finset.mem_map.mp hi
  exact (View.write_emb_of_mem (v := (sqA agM off h).view) fd _ (Finset.mem_univ x)).trans rfl

/-- A slot that holds a block is read as that block. -/
theorem rs_read (h) (ho : off = ![a.val, b.val, 0, 0]) (w : S1x1x128x128.Idx → Elt F .bf16) :
    rsM.view.readAt (Elt F) (rectR off h).toLoadRect (fillR w) = w := by
  funext x
  show w (lowR ((rectR off h).emb x)) = w x
  rw [lowR_emb a b h ho]
theorem ag_read (h) (ho : off = ![a.val, b'.val, 0, 0]) (w : S1x1x128x128.Idx → Elt F .bf16) :
    agM.view.readAt (Elt F) (rectA off h).toLoadRect (fillA w) = w := by
  funext x
  show w (lowA ((rectA off h).emb x)) = w x
  rw [lowA_emb a b' h ho]

end Sets

theorem slotR_disjoint {a a' : Fin 4} {b b' : Fin 3} (h : (a, b) ≠ (a', b')) : Disjoint (slotR a b) (slotR a' b') := by
  refine Finset.disjoint_left.mpr fun i hi hi' => h ?_
  simp only [slotR, Finset.mem_filter, Finset.mem_univ, true_and] at hi hi'
  exact Prod.ext (Fin.ext (hi.1.symm.trans hi'.1)) (Fin.ext (hi.2.symm.trans hi'.2))
theorem slotA_disjoint {a a' b b' : Fin 4} (h : (a, b) ≠ (a', b')) : Disjoint (slotA a b) (slotA a' b') := by
  refine Finset.disjoint_left.mpr fun i hi hi' => h ?_
  simp only [slotA, Finset.mem_filter, Finset.mem_univ, true_and] at hi hi'
  exact Prod.ext (Fin.ext (hi.1.symm.trans hi'.1)) (Fin.ext (hi.2.symm.trans hi'.2))
theorem slotR_cover : (Finset.univ : Finset (Fin 4 × Fin 3)).biUnion (fun p => slotR p.1 p.2) = Finset.univ := by
  ext i
  simp only [Finset.mem_biUnion, Finset.mem_univ, true_and, iff_true]
  exact ⟨(⟨(i 0).val, (i 0).isLt⟩, ⟨(i 1).val, (i 1).isLt⟩), by simp [slotR]⟩
theorem slotA_cover : (Finset.univ : Finset (Fin 4 × Fin 4)).biUnion (fun p => slotA p.1 p.2) = Finset.univ := by
  ext i
  simp only [Finset.mem_biUnion, Finset.mem_univ, true_and, iff_true]
  exact ⟨(⟨(i 0).val, (i 0).isLt⟩, ⟨(i 1).val, (i 1).isLt⟩), by simp [slotA]⟩

/-! ## The output block -/

/-- The rows of chunk `s` and the columns of quarter `hf` of the output. -/
def slotO (s hf : Fin 4) : Finset S512x512.Idx := Finset.univ.filter fun i => (i 0).val / 128 = s.val ∧ (i 1).val / 128 = hf.val

/-- The place within its tile of a place of the output. -/
def lowO (i : S512x512.Idx) : S128x128.Idx
  | ⟨0, _⟩ => ⟨(i 0).val % 128, Nat.mod_lt _ (by decide)⟩ | ⟨1, _⟩ => ⟨(i 1).val % 128, Nat.mod_lt _ (by decide)⟩

abbrev rectO (off : Fin 2 → ℕ) (h : ∀ a, off a + S128x128.size a ≤ S512x512.size a) : Rect S512x512 :=
  Rect.unit (s := S512x512) off S128x128.size h

theorem rectO_set (s hf : Fin 4) {off : Fin 2 → ℕ} (h) (ho : off = ![128 * s.val, 128 * hf.val]) :
    (rectO off h).set = slotO s hf := by
  subst ho
  ext i
  rw [Rect.mem_set_unit]
  simp only [slotO, Finset.mem_filter, Finset.mem_univ, true_and]
  constructor
  · intro hh
    have h0 := hh 0; have h1 := hh 1
    simp at h0 h1
    omega
  · rintro ⟨h0, h1⟩ x
    fin_cases x <;> simp <;> omega

theorem lowO_emb (s hf : Fin 4) {off : Fin 2 → ℕ} (h) (ho : off = ![128 * s.val, 128 * hf.val]) (x : S128x128.Idx) :
    lowO ((rectO off h).emb x) = x := by
  subst ho
  funext y
  have l0 := (x 0).isLt; have l1 := (x 1).isLt
  apply Fin.ext
  fin_cases y <;> simp [lowO] at l0 l1 ⊢ <;> omega

theorem slotO_disjoint {a a' b b' : Fin 4} (h : (a, b) ≠ (a', b')) : Disjoint (slotO a b) (slotO a' b') := by
  refine Finset.disjoint_left.mpr fun i hi hi' => h ?_
  simp only [slotO, Finset.mem_filter, Finset.mem_univ, true_and] at hi hi'
  exact Prod.ext (Fin.ext (hi.1.symm.trans hi'.1)) (Fin.ext (hi.2.symm.trans hi'.2))
theorem slotO_cover : (Finset.univ : Finset (Fin 4 × Fin 4)).biUnion (fun p => slotO p.1 p.2) = Finset.univ := by
  ext i
  simp only [Finset.mem_biUnion, Finset.mem_univ, true_and, iff_true]
  have h0 : (i 0).val < 512 := (i 0).isLt
  have h1 : (i 1).val < 512 := (i 1).isLt
  exact ⟨(⟨(i 0).val / 128, by omega⟩, ⟨(i 1).val / 128, by omega⟩), by simp [slotO]⟩

/-- The output buffer of the kernel. -/
abbrev outM : Memref sig .tc .vmem S512x512 .f32 := Memref.whole cc0_stg5_0

/-- The contents that hold `w` in every tile. -/
def fillO (w : S128x128.Idx → Elt F .f32) : S512x512.Idx → Elt F .f32 := fun i => w (lowO i)

section OutSets
variable (s hf : Fin 4) {off : Fin 2 → ℕ}

theorem out_setOn (h) (ho : off = ![128 * s.val, 128 * hf.val]) : outM.view.setOn (rectO off h).set ⊆ slotO s hf := by
  rw [rectO_set s hf h ho]; intro i hi; obtain ⟨x, hx, rfl⟩ := Finset.mem_map.mp hi; exact hx
theorem out_acc (h) (ho : off = ![128 * s.val, 128 * hf.val]) : (outM.access (rectO off h)).setOn Finset.univ ⊆ slotO s hf := by
  rw [View.setOn_univ]; exact ((View.set_slice_whole cc0_stg5_0 (rectO off h)).trans (rectO_set s hf h ho)).subset

/-- A tile written whole holds what was written. -/
theorem out_write (h) (ho : off = ![128 * s.val, 128 * hf.val]) (f : S512x512.Idx → Elt F .f32) (w) :
    ∀ i ∈ slotO s hf, (outM.access (rectO off h)).write (Elt F) f w Finset.univ i = fillO w i := by
  intro i hi
  rw [← rectO_set s hf h ho] at hi
  rw [← (View.set_slice_whole cc0_stg5_0 (rectO off h))] at hi
  obtain ⟨x, -, rfl⟩ := Finset.mem_map.mp hi
  refine (View.write_emb_of_mem (v := outM.access (rectO off h)) f w (Finset.mem_univ x)).trans ?_
  show w x = w (lowO ((rectO off h).emb x))
  rw [lowO_emb s hf h ho]

end OutSets

end Cert.KernelIdeal.Att
-- ==== Proof.Protocol.lean ====
/- The protocol the four devices follow: which duties each semaphore has, what paying one hands over, what each device
   owes at launch and in which order it pays, and the levels that order the waits. -/
module

public import proofs.«01_k».proof.Proof.Geometry
public import Idealize.ShloMosaic.Lib.Rounds
public import Idealize.ShloMosaic.Lib.Ring.Trips
public import Idealize.ShloMosaic.Lib.Tactic
public import Idealize.ShloMosaic.Harness.Basic

@[expose] public section

set_option maxRecDepth 16384

noncomputable section

namespace Cert.KernelIdeal.Att

open Idealize.ShloMosaic Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## Resources -/

abbrev UP : Type := URounds (GSem nD τ sig) Unit
abbrev UT : Type := URounds (GSem nD τ sig) (Fin 3)
abbrev UU : Type := UP × UT

local notation "𝕄" => MT nD τ sig Unit (Elt F) ℕ UU ℕ

abbrev EP : Emb UP (MT nD τ sig Unit (Elt F) ℕ UU ℕ) := embL
abbrev ER : Emb UT (MT nD τ sig Unit (Elt F) ℕ UU ℕ) := embR

/-! ## Semaphores -/

/-- The kernel's own semaphores: the partial sums' send and arrival ones, the gather's send and arrival ones. -/
abbrev OIx : Type := (Fin 4 × Fin 3) ⊕ (Fin 4 × Fin 3) ⊕ (Fin 4 × Fin 3) ⊕ (Fin 4 × Fin 4)

def rsS (hf : Fin 4) (j : Fin 3) : DmaSem sig := ⟨6 + (3 * hf.val + j.val), by have := hf.isLt; have := j.isLt; show _ < 58; omega⟩
def rsR (hf : Fin 4) (j : Fin 3) : DmaSem sig := ⟨18 + (3 * hf.val + j.val), by have := hf.isLt; have := j.isLt; show _ < 58; omega⟩
def agS (hf : Fin 4) (d : Fin 3) : DmaSem sig := ⟨30 + (3 * hf.val + d.val), by have := hf.isLt; have := d.isLt; show _ < 58; omega⟩
def agR (hf s : Fin 4) : DmaSem sig := ⟨42 + (4 * hf.val + s.val), by have := hf.isLt; have := s.isLt; show _ < 58; omega⟩

def osem : OIx → SemLoc sig
  | .inl p => .dma (rsS p.1 p.2)
  | .inr (.inl p) => .dma (rsR p.1 p.2)
  | .inr (.inr (.inl p)) => .dma (agS p.1 p.2)
  | .inr (.inr (.inr p)) => .dma (agR p.1 p.2)

/-- What a semaphore is for. -/
inductive Kd where
  | bar | own (o : OIx) | other

def f3 (n : ℕ) : Fin 4 × Fin 3 := (⟨n / 3 % 4, Nat.mod_lt _ (by decide)⟩, ⟨n % 3, Nat.mod_lt _ (by decide)⟩)
def f4 (n : ℕ) : Fin 4 × Fin 4 := (⟨n / 4 % 4, Nat.mod_lt _ (by decide)⟩, ⟨n % 4, Nat.mod_lt _ (by decide)⟩)

def kind : SemLoc sig → Kd
  | .reg _ => .bar
  | .dma s =>
    if s.val < 6 then .other else if s.val < 18 then .own (.inl (f3 (s.val - 6)))
    else if s.val < 30 then .own (.inr (.inl (f3 (s.val - 18))))
    else if s.val < 42 then .own (.inr (.inr (.inl (f3 (s.val - 30)))))
    else .own (.inr (.inr (.inr (f4 (s.val - 42)))))

theorem kind_rsS (hf : Fin 4) (j : Fin 3) : kind (.dma (rsS hf j)) = .own (.inl (hf, j)) := by revert hf j; intro hf j; fin_cases hf <;> fin_cases j <;> rfl
theorem kind_rsR (hf : Fin 4) (j : Fin 3) : kind (.dma (rsR hf j)) = .own (.inr (.inl (hf, j))) := by fin_cases hf <;> fin_cases j <;> rfl
theorem kind_agS (hf : Fin 4) (j : Fin 3) : kind (.dma (agS hf j)) = .own (.inr (.inr (.inl (hf, j)))) := by fin_cases hf <;> fin_cases j <;> rfl
theorem kind_agR (hf s : Fin 4) : kind (.dma (agR hf s)) = .own (.inr (.inr (.inr (hf, s)))) := by fin_cases hf <;> fin_cases s <;> rfl
theorem kind_osem (o : OIx) : kind (osem o) = .own o := by
  rcases o with p | p | p | p
  · exact kind_rsS _ _
  · exact kind_rsR _ _
  · exact kind_agS _ _
  · exact kind_agR _ _
theorem osem_inj : Function.Injective osem := fun o o' h => by
  have := congrArg kind h; rw [kind_osem, kind_osem] at this; injection this

abbrev barC (c : Dev nD) : GSem nD τ sig := ((c : Thread nD τ), .reg barrier0)
abbrev rsSC (c : Dev nD) (hf : Fin 4) (j : Fin 3) : GSem nD τ sig := ((c : Thread nD τ), .dma (rsS hf j))
abbrev rsRC (c : Dev nD) (hf : Fin 4) (j : Fin 3) : GSem nD τ sig := ((c : Thread nD τ), .dma (rsR hf j))
abbrev agSC (c : Dev nD) (hf : Fin 4) (d : Fin 3) : GSem nD τ sig := ((c : Thread nD τ), .dma (agS hf d))
abbrev agRC (c : Dev nD) (hf s : Fin 4) : GSem nD τ sig := ((c : Thread nD τ), .dma (agR hf s))
abbrev oC (c : Dev nD) (o : OIx) : GSem nD τ sig := ((c : Thread nD τ), osem o)

/-! ## Slots held -/

/-- The blocks the copies carry: what `c` sends in slot `[hf, j]`, and the finished block `c` gathers out. -/
structure Blocks (F : FTy → Type) where
  part : Dev nD → Fin 4 → Fin 3 → (S1x1x128x128.Idx → Elt F .bf16)
  red : Dev nD → Fin 4 → (S1x1x128x128.Idx → Elt F .bf16)

/-- `c`'s outgoing slot `[hf, j]` holds the block `w`; some block; and likewise the two landing buffers. -/
def partAt (c : Dev nD) (hf : Fin 4) (j : Fin 3) (w : S1x1x128x128.Idx → Elt F .bf16) : sProp 𝕄 :=
  partM.view.loc (c : Thread nD τ) ↦[slotR hf j]{fullShare} fillR w
def partAny (c : Dev nD) (hf : Fin 4) (j : Fin 3) : sProp 𝕄 :=
  iprop(∃ f : S4x3x128x128.Idx → Elt F .bf16, partM.view.loc (c : Thread nD τ) ↦[slotR hf j]{fullShare} f)
def rsAt (c : Dev nD) (hf : Fin 4) (j : Fin 3) (w : S1x1x128x128.Idx → Elt F .bf16) : sProp 𝕄 :=
  rsM.view.loc (c : Thread nD τ) ↦[slotR hf j]{fullShare} fillR w
def rsAny (c : Dev nD) (hf : Fin 4) (j : Fin 3) : sProp 𝕄 :=
  iprop(∃ f : S4x3x128x128.Idx → Elt F .bf16, rsM.view.loc (c : Thread nD τ) ↦[slotR hf j]{fullShare} f)
def agAt (q : PosShare TreeShare) (c : Dev nD) (hf s : Fin 4) (w : S1x1x128x128.Idx → Elt F .bf16) : sProp 𝕄 :=
  agM.view.loc (c : Thread nD τ) ↦[slotA hf s]{q} fillA w
def agAny (c : Dev nD) (hf s : Fin 4) : sProp 𝕄 :=
  iprop(∃ f : S4x4x128x128.Idx → Elt F .bf16, agM.view.loc (c : Thread nD τ) ↦[slotA hf s]{fullShare} f)

theorem partAt_any (c : Dev nD) (hf : Fin 4) (j : Fin 3) (w) : (partAt c hf j w : sProp 𝕄) ⊢ partAny c hf j := by
  unfold partAt partAny; iintro H; iexists _; iexact H
theorem rsAt_any (c : Dev nD) (hf : Fin 4) (j : Fin 3) (w) : (rsAt c hf j w : sProp 𝕄) ⊢ rsAny c hf j := by
  unfold rsAt rsAny; iintro H; iexists _; iexact H
theorem agAt_any (c : Dev nD) (hf s : Fin 4) (w) : (agAt fullShare c hf s w : sProp 𝕄) ⊢ agAny c hf s := by
  unfold agAt agAny; iintro H; iexists _; iexact H

/-- The share of a finished block lent to its `d`-th copy. -/
abbrev sh (d : Fin 3) : PosShare TreeShare := Ring.shares3 fullShare d

/-- The landing slot of `c`'s copy `[hf, j]`, on its target, with that the arrival cell there is open. -/
def landR (c : Dev nD) (hf : Fin 4) (j : Fin 3) : sProp 𝕄 :=
  iprop(rsAny (tgt c j) hf j ∗ reached ER (rsRC (tgt c j) hf j) 0)
/-- The landing slot of the `d`-th copy of `c`'s finished block `hf`, on its target, with that the arrival cell there is open. -/
def landA (c : Dev nD) (hf : Fin 4) (d : Fin 3) : sProp 𝕄 :=
  iprop(agAny (agT c d) hf c ∗ reached ER (agRC (agT c d) hf c) 0)
/-- What comes with the `k`-th barrier unit of `c`. -/
def barPay (c : Dev nD) (k : Fin 3) : sProp 𝕄 :=
  bigSep Finset.univ fun hf : Fin 4 => iprop(landR c hf (jOf k) ∗ landA c hf k.rev)

theorem agT_rev (c : Dev nD) (k : Fin 3) : agT (agT c k) k.rev = c := by revert c k; decide

/-! ## The schedule -/

/-- What one copy of a slot credits. -/
def N : ℕ := (sqR rsM ![0, 0, 0, 0] (by decide)).view.dmaCredit
theorem N_pos : 0 < N := View.dmaCredit_pos _ (by decide)

def dutiesK (p : Dev nD) : Kd → Finset (Fin 3)
  | .bar => Finset.univ
  | .own (.inr (.inr (.inr x))) => if x.2 = p then ∅ else {0}
  | .own _ => {0}
  | .other => ∅
def amountK : Kd → ℕ
  | .bar => 1
  | _ => N
def payK (B : Blocks F) (p : Dev nD) (k : Fin 3) : Kd → sProp 𝕄
  | .bar => barPay p k
  | .own (.inl x) => partAny p x.1 x.2
  | .own (.inr (.inl x)) => rsAt p x.1 x.2 (B.part (src p x.2) x.1 x.2)
  | .own (.inr (.inr (.inl x))) => agAt (sh x.2) p x.1 p (B.red p x.1)
  | .own (.inr (.inr (.inr x))) => agAt fullShare p x.1 x.2 (B.red x.2 x.1)
  | .other => iprop(emp)

/-- One round on every cell: three duties on a barrier cell, one on every send and arrival cell. -/
def sched (B : Blocks F) : Rounds.Schedule (GSem nD τ sig) (Fin 3) 𝕄 where
  duties g r := if r = 0 ∧ g.1.2 = .tc then dutiesK g.1.1 (kind g.2) else ∅
  unitless _ := False
  amount g _ _ := amountK (kind g.2)
  payload g _ k := payK B g.1.1 k (kind g.2)
  amount_pos g _ _ _ := by
    unfold amountK; split
    · exact Nat.one_pos
    · exact N_pos

instance sched_payload_storable (B : Blocks F) (g : GSem nD τ sig) (r : ℕ) (d : Fin 3) :
    BI.Storable (upEmb : UEmb _ 𝕄) ((sched B).payload g r d) := by
  show BI.Storable upEmb (payK B g.1.1 d (kind g.2))
  unfold payK
  split <;> (first | unfold barPay landR landA rsAny agAny | unfold partAny | unfold rsAt | unfold agAt | skip) <;> infer_instance

section Tables
variable (B : Blocks F) (c : Dev nD)

theorem duties_eq (sm : SemLoc sig) : (sched B).duties ((c : Thread nD τ), sm) 0 = dutiesK c (kind sm) := by
  have h : (0 : ℕ) = 0 ∧ (c : Thread nD τ).2 = .tc := ⟨rfl, rfl⟩
  unfold sched; dsimp only; rw [if_pos h]
theorem duties_later (g : GSem nD τ sig) : ∀ r, 1 ≤ r → (sched B).duties g r = ∅ :=
  fun r hr => if_neg fun h => by omega
theorem expect_eq (sm : SemLoc sig) : (sched B).expect ((c : Thread nD τ), sm) 0 = (dutiesK c (kind sm)).card * amountK (kind sm) := by
  unfold Schedule.expect Schedule.amountOf
  rw [duties_eq]
  exact Finset.sum_const_nat fun _ _ => rfl
theorem expect_own (sm : SemLoc sig) (hd : dutiesK c (kind sm) = {0}) (ha : amountK (kind sm) = N) : 0 + N = (sched B).expect ((c : Thread nD τ), sm) 0 := by
  rw [expect_eq, hd, ha, Finset.card_singleton, Nat.one_mul, Nat.zero_add]
theorem expect_bar : 0 + 3 = (sched B).expect (barC c) 0 := by rw [expect_eq]; rfl
theorem rest_own (sm : SemLoc sig) (hd : dutiesK c (kind sm) = {0}) :
    bigSep ((sched B).duties ((c : Thread nD τ), sm) 0 \ ∅) (fun k => (sched B).payload ((c : Thread nD τ), sm) 0 k) = payK B c 0 (kind sm) := by
  rw [Finset.sdiff_empty, duties_eq, hd, bigSep_singleton]; rfl
theorem rest_bar :
    bigSep ((sched B).duties (barC c) 0 \ ∅) (fun k => (sched B).payload (barC c) 0 k) = bigSep Finset.univ fun k : Fin 3 => barPay c k := by
  rw [Finset.sdiff_empty, duties_eq]; rfl

theorem dk_rsS (hf : Fin 4) (j : Fin 3) : dutiesK c (kind (.dma (rsS hf j))) = {0} := by rw [kind_rsS]; rfl
theorem dk_rsR (hf : Fin 4) (j : Fin 3) : dutiesK c (kind (.dma (rsR hf j))) = {0} := by rw [kind_rsR]; rfl
theorem dk_agS (hf : Fin 4) (j : Fin 3) : dutiesK c (kind (.dma (agS hf j))) = {0} := by rw [kind_agS]; rfl
theorem dk_agR (hf s : Fin 4) (h : s ≠ c) : dutiesK c (kind (.dma (agR hf s))) = {0} := by rw [kind_agR]; exact if_neg h
theorem ak_rsS (hf : Fin 4) (j : Fin 3) : amountK (kind (.dma (rsS hf j))) = N := by rw [kind_rsS]; rfl
theorem ak_rsR (hf : Fin 4) (j : Fin 3) : amountK (kind (.dma (rsR hf j))) = N := by rw [kind_rsR]; rfl
theorem ak_agS (hf : Fin 4) (j : Fin 3) : amountK (kind (.dma (agS hf j))) = N := by rw [kind_agS]; rfl
theorem ak_agR (hf s : Fin 4) : amountK (kind (.dma (agR hf s))) = N := by rw [kind_agR]; rfl
end Tables

/-! ## What is owed, in order -/

/-- The credits of a list, the first to be paid outermost. -/
def oweFrom : List (GSem nD τ sig × ℕ) → CellTallies nD τ sig Unit
  | [] => 0
  | x :: l => oweFrom l + tallyAt x.1 () x.2

/-- Every credit device `c` is to pay, in the order it pays them: three barrier units, twelve partial sums, twelve gathers. -/
def full (c : Dev nD) : List (GSem nD τ sig × ℕ) :=
  [(barC (agT c 0), 1), (barC (agT c 1), 1), (barC (agT c 2), 1),
   (rsRC (tgt c 0) 0 0, N), (rsRC (tgt c 0) 1 0, N), (rsRC (tgt c 0) 2 0, N), (rsRC (tgt c 0) 3 0, N),
   (rsRC (tgt c 1) 0 1, N), (rsRC (tgt c 1) 1 1, N), (rsRC (tgt c 1) 2 1, N), (rsRC (tgt c 1) 3 1, N),
   (rsRC (tgt c 2) 0 2, N), (rsRC (tgt c 2) 1 2, N), (rsRC (tgt c 2) 2 2, N), (rsRC (tgt c 2) 3 2, N),
   (agRC (agT c 1) 0 c, N), (agRC (agT c 0) 0 c, N), (agRC (agT c 2) 0 c, N),
   (agRC (agT c 1) 1 c, N), (agRC (agT c 0) 1 c, N), (agRC (agT c 2) 1 c, N),
   (agRC (agT c 1) 2 c, N), (agRC (agT c 0) 2 c, N), (agRC (agT c 2) 2 c, N),
   (agRC (agT c 1) 3 c, N), (agRC (agT c 0) 3 c, N), (agRC (agT c 2) 3 c, N)]

def rem (c : Dev nD) (n : ℕ) : List (GSem nD τ sig × ℕ) := (full c).drop n

/-- Device `c` with its first `n` credits paid. -/
def owing (c : Dev nD) (n : ℕ) : sProp 𝕄 := iprop(∃ W, owes (c : Thread nD τ) (oweFrom (rem c n)) W)

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- Barrier cells at 1, the partial sums' arrival cells at 2, the gathers' at 3, the rest at 0. -/
def lvS : SemLoc sig → ℕ
  | .reg _ => 1
  | .dma s => if s.val < 18 then 0 else if s.val < 30 then 2 else if s.val < 42 then 0 else 3
def lv (g : GSem nD τ sig) (_ : Unit) : ℕ := lvS g.2

theorem oweFrom_pos (l : List (GSem nD τ sig × ℕ)) {g : GSem nD τ sig} {u : Unit} (h : 0 < oweFrom l g u) : ∃ x ∈ l, x.1 = g := by
  induction l with
  | nil => exact absurd h (Nat.lt_irrefl 0)
  | cons x l ih =>
    rw [oweFrom, Pi.add_apply, Finsupp.add_apply] at h
    rcases Nat.add_pos_iff_pos_or_pos.mp h with h | h
    · obtain ⟨y, hy, e⟩ := ih h; exact ⟨y, List.mem_cons_of_mem _ hy, e⟩
    · rw [tallyAt_apply] at h
      split at h
      · next hg => exact ⟨x, List.mem_cons_self, hg.1.symm⟩
      · exact absurd h (Nat.lt_irrefl 0)

/-- A wait below everything still owed is allowed. -/
theorem mayWait (c : Dev nD) (sm : SemLoc sig) (n : ℕ) (h : ∀ x ∈ rem c n, x.1.1.2 = .tc ∧ lvS sm < lvS x.1.2) :
    (levAts L lv : sProp 𝕄) ⊢ MayWait (c : Thread nD τ) sm () (oweFrom (rem c n)) :=
  MayOwe.of_cut (L := L) (lev := lv) (lvS sm) (fun p hp => by rw [Finset.mem_singleton.mp hp, L_tc]; exact Finset.mem_singleton_self _)
    (fun g u hg => by
      obtain ⟨x, hx, rfl⟩ := oweFrom_pos _ hg
      rw [L, if_pos (h x hx).1]; exact Finset.mem_singleton_self _)
    (fun p hp => by rw [Finset.mem_singleton.mp hp]; exact le_refl _)
    (fun g u hg => by
      obtain ⟨x, hx, rfl⟩ := oweFrom_pos _ hg
      exact (h x hx).2)

theorem lv_rsR (hf : Fin 4) (j : Fin 3) : lvS (.dma (rsR hf j)) = 2 := by fin_cases hf <;> fin_cases j <;> rfl
theorem lv_agR (hf s : Fin 4) : lvS (.dma (agR hf s)) = 3 := by fin_cases hf <;> fin_cases s <;> rfl

theorem lv_bar0 : lvS (.reg barrier0) = 1 := rfl

theorem lv_full (c : Dev nD) : ∀ x ∈ rem c 0, x.1.1.2 = .tc ∧ 0 < lvS x.1.2 := by
  simp [rem, full, lv_rsR, lv_agR, lv_bar0]
theorem lv_bar (c : Dev nD) : ∀ x ∈ rem c 3, x.1.1.2 = .tc ∧ 1 < lvS x.1.2 := by
  simp [rem, full, lv_rsR, lv_agR]
theorem lv_rs (c : Dev nD) : ∀ x ∈ rem c 15, x.1.1.2 = .tc ∧ 2 < lvS x.1.2 := by
  simp [rem, full, lv_agR]
theorem rem_mono (c : Dev nD) {m n : ℕ} (h : m ≤ n) {x} (hx : x ∈ rem c n) : x ∈ rem c m := by
  unfold rem at hx ⊢
  obtain ⟨k, rfl⟩ := Nat.exists_eq_add_of_le h
  rw [← List.drop_drop] at hx
  exact List.mem_of_mem_drop hx

/-! ## The cells together -/

def barEmb : Dev nD ↪ GSem nD τ sig := ⟨fun c => barC c, fun _ _ h => congrArg (fun g : GSem nD τ sig => g.1.1) h⟩
def scEmb : Dev nD × OIx ↪ GSem nD τ sig :=
  ⟨fun ck => oC ck.1 ck.2, fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

theorem bar_mem (c : Dev nD) : barC c ∈ (barCells ∪ scCells : Finset (GSem nD τ sig)) :=
  Finset.mem_union_left _ (Finset.mem_map_of_mem barEmb (Finset.mem_univ c))
theorem own_mem (c : Dev nD) (o : OIx) : oC c o ∈ (barCells ∪ scCells : Finset (GSem nD τ sig)) :=
  Finset.mem_union_right _ (Finset.mem_map_of_mem scEmb (Finset.mem_univ (c, o)))

/-- What every device may consult: all cells' invariants, and that every barrier cell is open. -/
def records (B : Blocks F) (κ : GSem nD τ sig → ℕ) : sProp 𝕄 :=
  iprop((bigSep (barCells ∪ scCells) fun g => cellInv ER (sched B) (κ g) g) ∗ bigSep barCells fun g => reached ER g 0)
instance records_persistent (B : Blocks F) (κ : GSem nD τ sig → ℕ) : BI.Persistent (records B κ) := by unfold records; infer_instance

/-- With, inside the kernel on device `c`, the levels and that every cell of `c` is open. -/
def ctx (B : Blocks F) (κ : GSem nD τ sig → ℕ) (c : Dev nD) : sProp 𝕄 :=
  iprop(records B κ ∗ levAts L lv ∗ bigSep Finset.univ fun o : OIx => reached ER (oC c o) 0)
instance ctx_persistent (B : Blocks F) (κ : GSem nD τ sig → ℕ) (c : Dev nD) : BI.Persistent (ctx B κ c) := by unfold ctx; infer_instance

section Consult
variable (B : Blocks F) (κ : GSem nD τ sig → ℕ) (c : Dev nD)
theorem ctx_lev : ctx B κ c ⊢ (levAts L lv : sProp 𝕄) := by unfold ctx; iintro ⟨-, H, -⟩; iexact H
theorem ctx_inv {g : GSem nD τ sig} (hg : g ∈ (barCells ∪ scCells : Finset (GSem nD τ sig))) : ctx B κ c ⊢ (cellInv ER (sched B) (κ g) g : sProp 𝕄) := by
  have h : (bigSep (barCells ∪ scCells) fun g => (cellInv ER (sched B) (κ g) g : sProp 𝕄)) ⊢ cellInv ER (sched B) (κ g) g := bigSep_elim hg
  unfold ctx records
  iintro ⟨⟨H, -⟩, -, -⟩
  iapply h; iexact H
theorem ctx_bar (p : Dev nD) : ctx B κ c ⊢ (reached ER (barC p) 0 : sProp 𝕄) := by
  have h : (bigSep barCells fun g => (reached ER g 0 : sProp 𝕄)) ⊢ reached ER (barC p) 0 := bigSep_elim (Finset.mem_map_of_mem barEmb (Finset.mem_univ p))
  unfold ctx records
  iintro ⟨⟨-, H⟩, -, -⟩
  iapply h; iexact H
theorem ctx_own (o : OIx) : ctx B κ c ⊢ (reached ER (oC c o) 0 : sProp 𝕄) := by
  have h : (bigSep Finset.univ fun o : OIx => (reached ER (oC c o) 0 : sProp 𝕄)) ⊢ reached ER (oC c o) 0 := bigSep_elim (Finset.mem_univ o)
  unfold ctx
  iintro ⟨-, -, H⟩
  iapply h; iexact H
end Consult

end Cert.KernelIdeal.Att
-- ==== Proof.Ops.lean ====
/- One rule per kind of line of the kernel: signal, barrier wait, the two kinds of copy and of arrival wait, the final
   waits, and the loads and stores of slots. Each says what the line takes and what it gives back. -/
module

public import proofs.«01_k».proof.Proof.Protocol
public import proofs.«01_k».proof.Proof.Gen.KernelIdeal.Skeleton

@[expose] public section

set_option maxRecDepth 16384

noncomputable section

namespace Cert.KernelIdeal.Att

open Idealize.ShloMosaic Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

/-- The run of `p` on device `c` to `Q`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem credit_sqR (m : Memref sig .tc .vmem S4x3x128x128 .bf16) (off h) : (sqR m off h).view.dmaCredit = N := rfl
theorem credit_sqA (m : Memref sig .tc .vmem S4x4x128x128 .bf16) (off h) : (sqA m off h).view.dmaCredit = N := rfl

/-! ## The packages -/

/-- What `c` needs to send slot `[hf, j]`, besides the slot and its landing place. -/
def rsTok (c : Dev nD) (hf : Fin 4) (j : Fin 3) : sProp 𝕄 :=
  iprop(dutyTok ER (rsSC c hf j) 0 0 ∗ atPos ER (rsSC c hf j) 0 ∅ 0 ∗ dutyTok ER (rsRC (tgt c j) hf j) 0 0)
/-- What it holds while the copy is under way. -/
def rsFly (c : Dev nD) (hf : Fin 4) (j : Fin 3) : sProp 𝕄 :=
  iprop(cred (tallyAt (rsSC c hf j) () N) ∗ atPos ER (rsSC c hf j) 0 ∅ 0)
/-- And once it is complete. -/
def rsDone (c : Dev nD) (hf : Fin 4) (j : Fin 3) : sProp 𝕄 := iprop(semVal (rsSC c hf j) 0 ∗ partAny c hf j)
/-- What `c` needs to wait for the block arriving in slot `[hf, j]`. -/
def rsIn (c : Dev nD) (hf : Fin 4) (j : Fin 3) : sProp 𝕄 :=
  iprop(cred (tallyAt (rsRC c hf j) () N) ∗ atPos ER (rsRC c hf j) 0 ∅ 0)
def rsGot (B : Blocks F) (c : Dev nD) (hf : Fin 4) (j : Fin 3) : sProp 𝕄 :=
  iprop(semVal (rsRC c hf j) 0 ∗ rsAt c hf j (B.part (src c j) hf j))
def agTok (c : Dev nD) (hf : Fin 4) (d : Fin 3) : sProp 𝕄 :=
  iprop(dutyTok ER (agSC c hf d) 0 0 ∗ atPos ER (agSC c hf d) 0 ∅ 0 ∗ dutyTok ER (agRC (agT c d) hf c) 0 0)
def agFly (c : Dev nD) (hf : Fin 4) (d : Fin 3) : sProp 𝕄 :=
  iprop(cred (tallyAt (agSC c hf d) () N) ∗ atPos ER (agSC c hf d) 0 ∅ 0)
def agDone (B : Blocks F) (c : Dev nD) (hf : Fin 4) (d : Fin 3) : sProp 𝕄 :=
  iprop(semVal (agSC c hf d) 0 ∗ agAt (sh d) c hf c (B.red c hf))
def agIn (c : Dev nD) (hf : Fin 4) (d : Fin 3) : sProp 𝕄 :=
  iprop(cred (tallyAt (agRC c hf (agT c d)) () N) ∗ atPos ER (agRC c hf (agT c d)) 0 ∅ 0)
def agGot (B : Blocks F) (c : Dev nD) (hf : Fin 4) (d : Fin 3) : sProp 𝕄 :=
  iprop(semVal (agRC c hf (agT c d)) 0 ∗ agAt fullShare c hf (agT c d) (B.red (agT c d) hf))
/-- What `c` needs to signal its `k`-th peer: the token, and its own landing slots for that peer's blocks. -/
def barOut (c : Dev nD) (k : Fin 3) : sProp 𝕄 :=
  iprop(dutyTok ER (barC (agT c k)) 0 k ∗ bigSep Finset.univ fun hf : Fin 4 => iprop(rsAny c hf (jOf k) ∗ agAny c hf (agT c k)))
def barIn (c : Dev nD) : sProp 𝕄 := iprop(cred (tallyAt (barC c) () 3) ∗ atPos ER (barC c) 0 ∅ 0)

section Rules
variable (B : Blocks F) (κ : GSem nD τ sig → ℕ) (c : Dev nD) {α : Type} {Q : α → sProp (MT nD τ sig Unit (Elt F) ℕ UU ℕ)}
variable {k : PUnit → Prog (TpuEff nD τ sig (Elt F) Λ₀ .tc) α}

theorem give_land (d : Fin 3) :
    ctx B κ c ⊢ iprop((bigSep Finset.univ fun hf : Fin 4 => iprop(rsAny c hf (jOf d) ∗ agAny c hf (agT c d))) -∗ barPay (agT c d) d) := by
  unfold barPay landR landA
  rw [tgt_jOf, agT_rev]
  have h : iprop(ctx B κ c ∗ bigSep Finset.univ fun hf : Fin 4 => iprop(rsAny c hf (jOf d) ∗ agAny c hf (agT c d)))
      ⊢ bigSep Finset.univ fun hf : Fin 4 => iprop((rsAny c hf (jOf d) ∗ reached ER (rsRC c hf (jOf d)) 0)
        ∗ agAny c hf (agT c d) ∗ reached ER (agRC c hf (agT c d)) 0) :=
    bigSep_with_persistent fun hf _ => by
      iintro ⟨#Hc, Hr, Ha⟩
      isplitl [Hr]
      · isplitl [Hr]; · iexact Hr
        iapply (ctx_own B κ c (.inr (.inl (hf, jOf d)))); iexact Hc
      isplitl [Ha]; · iexact Ha
      iapply (ctx_own B κ c (.inr (.inr (.inr (hf, agT c d))))); iexact Hc
  iintro #Hc Hb
  iapply h
  isplitr; · iexact Hc
  iexact Hb

/-- Signalling the `d`-th peer hands it `c`'s landing slots for its blocks. -/
theorem op_signal (n : ℕ) (d : Fin 3) (p : Dev nD) (hp : p = agT c d) (hn : rem c n = (barC (agT c d), 1) :: rem c (n + 1)) :
    ctx B κ c ⊢ iprop(owing c n -∗ barOut c d -∗ (owing c (n + 1) -∗ run c (k ⟨⟩) Q)
      -∗ run c (.op (.semSignal (p, .tc) barrier0 1) k) Q) := by
  subst hp
  unfold owing barOut
  iintro #Hc Ho ⟨Ht, Hb⟩ Hk
  icases Ho with ⟨%W, Ho⟩
  rw [hn]
  iapply (Rounds.wp_signal 𝒱₀ ER (sched B) (c : Thread nD τ) none (dst := (agT c d : Thread nD τ)) (κ := κ (barC (agT c d))) (d := d)
    (by rw [duties_eq]; exact Finset.mem_univ _) (k' := 1) rfl () (oweFrom (rem c (n + 1))) rfl) $$ [Ho Ht Hb]
  · isplitr; · iapply (ctx_inv B κ c (bar_mem _)); iexact Hc
    isplitl [Ho]; · iexact Ho
    isplitl [Ht]; · iexact Ht
    isplitl [Hb]
    · rw [show (sched B).payload ((agT c d : Thread nD τ), .reg barrier0) 0 d = barPay (agT c d) d from rfl]
      iapply (give_land B κ c d) $$ Hc Hb
    · iapply (ctx_bar B κ c (agT c d)); iexact Hc
  iintro Ho
  iapply Hk
  iexists W; iexact Ho

/-- The barrier wait brings the landing slots of all of `c`'s copies. -/
theorem op_barrier :
    ctx B κ c ⊢ iprop(owing c 3 -∗ barIn c -∗ ((owing c 3 ∗ semVal (barC c) 0 ∗ bigSep Finset.univ fun d : Fin 3 => barPay c d) -∗ run c (k ⟨⟩) Q)
      -∗ run c (.op (.semWait barrier0 3) k) Q) := by
  unfold owing barIn
  iintro #Hc Ho ⟨Hcr, Ha⟩ Hk
  icases Ho with ⟨%W, Ho⟩
  iapply (Rounds.wp_wait_rest_token 𝒱₀ ER (sched B) (c : Thread nD τ) none (κ := κ (barC c))
      (wpE_semWait_eq 𝒱₀ (c : Thread nD τ) none Set.univ) (Set.mem_univ _) () (O := oweFrom (rem c 3)) (W := W) (R := 0) (m := 0) (T := ∅)
      (k' := 3) (expect_bar B c)) $$ [Hcr Ho Ha]
  · isplitr; · iapply (ctx_inv B κ c (bar_mem c)); iexact Hc
    isplitl [Hcr]; · iexact Hcr
    isplitl [Ho]; · iexact Ho
    isplitr; · iapply (mayWait c (.reg barrier0) 3 (lv_bar c)); iapply (ctx_lev B κ c); iexact Hc
    iexact Ha
  iintro ⟨Ho, Ha, -, Hp⟩
  ihave Hp := (Entails.of_eq (rest_bar B c)) $$ Hp
  imod (Rounds.cell_close ER (sched B) (Set.mem_univ (κ (barC c))) (fun h => h) (R := 0 + 1) (duties_later B (barC c))) $$ [Ha] with Hz
  · isplitr; · iapply (ctx_inv B κ c (bar_mem c)); iexact Hc
    iexact Ha
  iapply Hk
  isplitl [Ho]; · iexists _; iexact Ho
  isplitl [Hz]; · iexact Hz
  iexact Hp

/-- A wait for the one duty of a cell of `c`, closing the cell: what it pays comes out. -/
theorem op_wait (l : SemLoc sig) (o : OIx) (hlo : osem o = l) (n : ℕ) (hd : dutiesK c (kind (l)) = {0}) (ha : amountK (kind (l)) = N)
    (hlv : ∀ x ∈ rem c n, x.1.1.2 = .tc ∧ lvS l < lvS x.1.2)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (l) N K) :
    ctx B κ c ⊢ iprop(owing c n -∗ cred (tallyAt (((c : Thread nD τ), l)) () N) -∗ atPos ER (((c : Thread nD τ), l)) 0 ∅ 0
      -∗ ((owing c n ∗ semVal (((c : Thread nD τ), l)) 0 ∗ payK B c 0 (kind (l))) -∗ run c (k ⟨⟩) Q) -∗ run c (.op w k) Q) := by
  iintro #Hc Ho Hcr Ha Hk
  unfold owing
  icases Ho with ⟨%W, Ho⟩
  iapply (Rounds.wp_wait_rest_token 𝒱₀ ER (sched B) (c : Thread nD τ) none (κ := κ (((c : Thread nD τ), l)))
      hw (Set.mem_univ _) () (O := oweFrom (rem c n)) (W := W) (R := 0) (m := 0) (T := ∅)
      (expect_own B c (l) hd ha)) $$ [Hcr Ho Ha]
  · isplitr; · iapply (ctx_inv B κ c (hlo ▸ own_mem c o)); iexact Hc
    isplitl [Hcr]; · iexact Hcr
    isplitl [Ho]; · iexact Ho
    isplitr; · iapply (mayWait c (l) n hlv); iapply (ctx_lev B κ c); iexact Hc
    iexact Ha
  iintro ⟨Ho, Ha, -, Hp⟩
  ihave Hp := (Entails.of_eq (rest_own B c (l) hd)) $$ Hp
  imod (Rounds.cell_close ER (sched B) (Set.mem_univ (κ (((c : Thread nD τ), l)))) (fun h => h) (R := 0 + 1) (duties_later B (((c : Thread nD τ), l)))) $$ [Ha] with Hz
  · isplitr; · iapply (ctx_inv B κ c (hlo ▸ own_mem c o)); iexact Hc
    iexact Ha
  iapply Hk
  isplitl [Ho]; · iexists _; iexact Ho
  isplitl [Hz]; · iexact Hz
  iexact Hp

/-- The wait for the block arriving in slot `[hf, j]`. -/
theorem op_rs_wait (n : ℕ) (hn : 15 ≤ n) (hf : Fin 4) (j : Fin 3) (s : DmaSem sig) (hs : s = rsR hf j)
    {m m' : Memref sig .tc .vmem S4x3x128x128 .bf16} {off off' : Fin 4 → ℕ} {h h'} {h₁ h₂} :
    ctx B κ c ⊢ iprop(owing c n -∗ rsIn c hf j -∗ ((owing c n ∗ rsGot B c hf j) -∗ run c (k ⟨⟩) Q)
      -∗ run c (.op (.waitDma2 s (sqR m off h) (sqR m' off' h') h₁ h₂) k) Q) := by
  subst hs
  unfold rsIn rsGot
  iintro #Hc Ho ⟨Hcr, Ha⟩ Hk
  iapply (op_wait B κ c (.dma (rsR hf j)) (.inr (.inl (hf, j))) rfl (w := .waitDma2 (rsR hf j) (sqR m off h) (sqR m' off' h') h₁ h₂) n (dk_rsR c hf j) (ak_rsR hf j)
    (fun x hx => by rw [show lvS (.dma (rsR hf j)) = 2 from lv_rsR hf j]; exact lv_rs c x (rem_mono c hn hx))
    (fun K => wpE_waitDma2_eq 𝒱₀ (c : Thread nD τ) none Set.univ K)) $$ Hc Ho Hcr Ha
  iintro ⟨Ho, Hz, Hp⟩
  iapply Hk
  ihave Hp := (Entails.of_eq (show (payK B c 0 (kind (.dma (rsR hf j))) : sProp 𝕄) = rsAt c hf j (B.part (src c j) hf j) from by rw [kind_rsR hf j]; rfl)) $$ Hp
  isplitl [Ho]; · iexact Ho
  isplitl [Hz]; · iexact Hz
  iexact Hp

/-- The wait for the finished block of the `d`-th next device. -/
theorem op_ag_wait (n : ℕ) (hn : 27 ≤ n) (hf : Fin 4) (d : Fin 3) (s : DmaSem sig) (hs : s = agR hf (agT c d))
    {m m' : Memref sig .tc .vmem S4x4x128x128 .bf16} {off off' : Fin 4 → ℕ} {h h'} {h₁ h₂} :
    ctx B κ c ⊢ iprop(owing c n -∗ agIn c hf d -∗ ((owing c n ∗ agGot B c hf d) -∗ run c (k ⟨⟩) Q)
      -∗ run c (.op (.waitDma2 s (sqA m off h) (sqA m' off' h') h₁ h₂) k) Q) := by
  subst hs
  unfold agIn agGot
  iintro #Hc Ho ⟨Hcr, Ha⟩ Hk
  iapply (op_wait B κ c (.dma (agR hf (agT c d))) (.inr (.inr (.inr (hf, agT c d)))) rfl (w := .waitDma2 (agR hf (agT c d)) (sqA m off h) (sqA m' off' h') h₁ h₂) n (dk_agR c hf _ (agT_ne c d)) (ak_agR hf _)
    (fun x hx => absurd (rem_mono c hn hx) List.not_mem_nil)
    (fun K => wpE_waitDma2_eq 𝒱₀ (c : Thread nD τ) none Set.univ K)) $$ Hc Ho Hcr Ha
  iintro ⟨Ho, Hz, Hp⟩
  iapply Hk
  ihave Hp := (Entails.of_eq (show (payK B c 0 (kind (.dma (agR hf (agT c d)))) : sProp 𝕄) = agAt fullShare c hf (agT c d) (B.red (agT c d) hf) from by rw [kind_agR hf _]; rfl)) $$ Hp
  isplitl [Ho]; · iexact Ho
  isplitl [Hz]; · iexact Hz
  iexact Hp

/-- The wait for the copy of slot `[hf, j]` to be complete. -/
theorem op_rs_end (n : ℕ) (hn : 27 ≤ n) (hf : Fin 4) (j : Fin 3) (s : DmaSem sig) (hs : s = rsS hf j)
    {m m' : Memref sig .tc .vmem S4x3x128x128 .bf16} {off off' : Fin 4 → ℕ} {h h'} {h₁ h₂} :
    ctx B κ c ⊢ iprop(owing c n -∗ rsFly c hf j -∗ ((owing c n ∗ rsDone c hf j) -∗ run c (k ⟨⟩) Q)
      -∗ run c (.op (.waitDma2 s (sqR m off h) (sqR m' off' h') h₁ h₂) k) Q) := by
  subst hs
  unfold rsFly rsDone
  iintro #Hc Ho ⟨Hcr, Ha⟩ Hk
  iapply (op_wait B κ c (.dma (rsS hf j)) (.inl (hf, j)) rfl (w := .waitDma2 (rsS hf j) (sqR m off h) (sqR m' off' h') h₁ h₂) n (dk_rsS c hf j) (ak_rsS hf j)
    (fun x hx => absurd (rem_mono c hn hx) List.not_mem_nil)
    (fun K => wpE_waitDma2_eq 𝒱₀ (c : Thread nD τ) none Set.univ K)) $$ Hc Ho Hcr Ha
  iintro ⟨Ho, Hz, Hp⟩
  iapply Hk
  ihave Hp := (Entails.of_eq (show (payK B c 0 (kind (.dma (rsS hf j))) : sProp 𝕄) = partAny c hf j from by rw [kind_rsS hf j]; rfl)) $$ Hp
  isplitl [Ho]; · iexact Ho
  isplitl [Hz]; · iexact Hz
  iexact Hp

/-- The wait for the `d`-th copy of the finished block `hf` to be complete. -/
theorem op_ag_end (n : ℕ) (hn : 27 ≤ n) (hf : Fin 4) (d : Fin 3) (s : DmaSem sig) (hs : s = agS hf d)
    {m m' : Memref sig .tc .vmem S4x4x128x128 .bf16} {off off' : Fin 4 → ℕ} {h h'} {h₁ h₂} :
    ctx B κ c ⊢ iprop(owing c n -∗ agFly c hf d -∗ ((owing c n ∗ agDone B c hf d) -∗ run c (k ⟨⟩) Q)
      -∗ run c (.op (.waitDma2 s (sqA m off h) (sqA m' off' h') h₁ h₂) k) Q) := by
  subst hs
  unfold agFly agDone
  iintro #Hc Ho ⟨Hcr, Ha⟩ Hk
  iapply (op_wait B κ c (.dma (agS hf d)) (.inr (.inr (.inl (hf, d)))) rfl (w := .waitDma2 (agS hf d) (sqA m off h) (sqA m' off' h') h₁ h₂) n (dk_agS c hf d) (ak_agS hf d)
    (fun x hx => absurd (rem_mono c hn hx) List.not_mem_nil)
    (fun K => wpE_waitDma2_eq 𝒱₀ (c : Thread nD τ) none Set.univ K)) $$ Hc Ho Hcr Ha
  iintro ⟨Ho, Hz, Hp⟩
  iapply Hk
  ihave Hp := (Entails.of_eq (show (payK B c 0 (kind (.dma (agS hf d))) : sProp 𝕄) = agAt (sh d) c hf c (B.red c hf) from by rw [kind_agS hf d]; rfl)) $$ Hp
  isplitl [Ho]; · iexact Ho
  isplitl [Hz]; · iexact Hz
  iexact Hp

/-- The copy of slot `[hf, j]` to the device it is for. -/
theorem op_rs_send (n : ℕ) (hf : Fin 4) (j : Fin 3) (p : Dev nD) (hp : p = tgt c j) (s s' : DmaSem sig) (hs : s = rsS hf j) (hs' : s' = rsR hf j)
    (hn : rem c n = (rsRC (tgt c j) hf j, N) :: rem c (n + 1))
    {off off' : Fin 4 → ℕ} {h h'} (ho : off = ![hf.val, j.val, 0, 0]) (ho' : off' = ![hf.val, j.val, 0, 0]) {hsc h₁ h₂ h₃} :
    ctx B κ c ⊢ iprop(owing c n -∗ rsTok c hf j -∗ partAt c hf j (B.part c hf j) -∗ landR c hf j
      -∗ ((owing c (n + 1) ∗ rsFly c hf j) -∗ run c (k ⟨⟩) Q)
      -∗ run c (.op (.enqueueDma (sqR partM off h) (.remote (Dev.tc p : Thread nD τ) (sqR rsM off' h') (.dma s) hsc) (.dma s') h₁ h₂ h₃) k) Q) := by
  subst hp hs hs'
  obtain rfl : off = off' := ho.trans ho'.symm
  unfold rsTok landR rsFly rsAny partAt owing
  iintro #Hc Ho ⟨Ht, Ha, Ht'⟩ Hp ⟨⟨%fd, Hl⟩, #Hr⟩ Hk
  icases Ho with ⟨%W, Ho⟩
  have e : (sqR partM off h).view.set = slotR hf j := sqR_part_set hf j h ho
  have e' : (sqR rsM off h').view.set = slotR hf j := sqR_rs_set hf j h' ho'
  rw [hn]
  iapply (Rounds.wp_send_pointsTo 𝒱₀ ER (sched B) (c : Thread nD τ) none (κ₁ := κ (rsSC c hf j)) (κ₂ := κ (rsRC (tgt c j) hf j))
    (c' := (tgt c j : Thread nD τ)) (sS := .dma (rsS hf j)) (sem := .dma (rsR hf j)) (src := sqR partM off h) (dst := sqR rsM off h') (q := fullShare) (fs := fillR (B.part c hf j))
    (r₁ := 0) (r₂ := 0) (d₁ := 0) (d₂ := 0) (fd := fd)
    (by rw [duties_eq, dk_rsS]; exact Finset.mem_singleton_self _) (by rw [duties_eq, dk_rsR]; exact Finset.mem_singleton_self _)
    () () N rfl (ak_rsS hf j) (ak_rsR hf j) (oweFrom (rem c (n + 1))) rfl (W := W)
    (by
      show _ ⊢ payK B c 0 (kind (.dma (rsS hf j)))
      rw [kind_rsS, sqR_part_set hf j h ho]
      exact partAt_any c hf j (B.part c hf j))
    (by
      show _ ⊢ payK B (tgt c j) 0 (kind (.dma (rsR hf j)))
      rw [kind_rsR, sqR_rs_set hf j h' ho']
      show _ ⊢ rsAt (tgt c j) hf j (B.part (src (tgt c j) j) hf j)
      rw [src_tgt]
      exact Entails.of_eq (pointsTo_congr (rs_copy hf j h' h ho' fd _)))) $$ [Hp Hl Ho Ht Ht']
  · isplitr; · iapply (ctx_inv B κ c (own_mem c (.inl (hf, j)))); iexact Hc
    isplitr; · iapply (ctx_inv B κ c (own_mem (tgt c j) (.inr (.inl (hf, j))))); iexact Hc
    isplitl [Hp]; · rw [e]; iexact Hp
    isplitl [Hl]; · rw [e']; iexact Hl
    isplitl [Ho]; · iexact Ho
    isplitl [Ht]; · iexact Ht
    isplitr; · iapply (ctx_own B κ c (.inl (hf, j))); iexact Hc
    isplitl [Ht']; · iexact Ht'
    iexact Hr
  iintro ⟨Hcr, Ho⟩
  iapply Hk
  isplitl [Ho]; · iexists W; iexact Ho
  isplitl [Hcr]; · iexact Hcr
  iexact Ha

/-- The `d`-th copy of the finished block `hf`. -/
theorem op_ag_send (n : ℕ) (hf : Fin 4) (d : Fin 3) (p : Dev nD) (hp : p = agT c d) (s s' : DmaSem sig) (hs : s = agS hf d) (hs' : s' = agR hf c)
    (hn : rem c n = (agRC (agT c d) hf c, N) :: rem c (n + 1))
    {off off' : Fin 4 → ℕ} {h h'} (ho : off = ![hf.val, c.val, 0, 0]) (ho' : off' = ![hf.val, c.val, 0, 0]) {hsc h₁ h₂ h₃} :
    ctx B κ c ⊢ iprop(owing c n -∗ agTok c hf d -∗ agAt (sh d) c hf c (B.red c hf) -∗ landA c hf d
      -∗ ((owing c (n + 1) ∗ agFly c hf d) -∗ run c (k ⟨⟩) Q)
      -∗ run c (.op (.enqueueDma (sqA agM off h) (.remote (Dev.tc p : Thread nD τ) (sqA agM off' h') (.dma s) hsc) (.dma s') h₁ h₂ h₃) k) Q) := by
  subst hp hs hs'
  obtain rfl : off = off' := ho.trans ho'.symm
  unfold agTok landA agFly agAny owing agAt
  iintro #Hc Ho ⟨Ht, Ha, Ht'⟩ Hp ⟨⟨%fd, Hl⟩, #Hr⟩ Hk
  icases Ho with ⟨%W, Ho⟩
  have e : (sqA agM off h).view.set = slotA hf c := sqA_set hf c h ho
  have e' : (sqA agM off h').view.set = slotA hf c := sqA_set hf c h' ho'
  rw [hn]
  iapply (Rounds.wp_send_pointsTo (c' := (agT c d : Thread nD τ)) 𝒱₀ ER (sched B) (c : Thread nD τ) none (κ₁ := κ (agSC c hf d)) (κ₂ := κ (agRC (agT c d) hf c))
    (sS := .dma (agS hf d)) (sem := .dma (agR hf c)) (src := sqA agM off h) (dst := sqA agM off h') (q := sh d) (fs := fillA (B.red c hf))
    (r₁ := 0) (r₂ := 0) (d₁ := 0) (d₂ := 0) (fd := fd)
    (by rw [duties_eq, dk_agS]; exact Finset.mem_singleton_self _) (by rw [duties_eq, dk_agR _ _ _ (fun e => agT_ne c d e.symm)]; exact Finset.mem_singleton_self _)
    () () N (credit_sqA agM off h') (ak_agS hf d) (ak_agR hf c) (oweFrom (rem c (n + 1))) rfl (W := W)
    (by
      show _ ⊢ payK B c 0 (kind (.dma (agS hf d)))
      rw [kind_agS, e]
      exact Entails.refl _)
    (by
      show _ ⊢ payK B (agT c d) 0 (kind (.dma (agR hf c)))
      rw [kind_agR, e']
      exact Entails.of_eq (pointsTo_congr (ag_copy hf c h' h ho' fd _)))) $$ [Hp Hl Ho Ht Ht']
  · isplitr; · iapply (ctx_inv B κ c (own_mem c (.inr (.inr (.inl (hf, d)))))); iexact Hc
    isplitr; · iapply (ctx_inv B κ c (own_mem (agT c d) (.inr (.inr (.inr (hf, c)))))); iexact Hc
    isplitl [Hp]; · rw [e]; iexact Hp
    isplitl [Hl]; · rw [e']; iexact Hl
    isplitl [Ho]; · iexact Ho
    isplitl [Ht]; · iexact Ht
    isplitr; · iapply (ctx_own B κ c (.inr (.inr (.inl (hf, d))))); iexact Hc
    isplitl [Ht']; · iexact Ht'
    iexact Hr
  iintro ⟨Hcr, Ho⟩
  iapply Hk
  isplitl [Ho]; · iexists W; iexact Ho
  isplitl [Hcr]; · iexact Hcr
  iexact Ha

end Rules

end Cert.KernelIdeal.Att
-- ==== Proof.Mem.lean ====
/- The loads and stores of the kernel, on the buffers a device holds whole and on the slots of the exchange buffers. -/
module

public import proofs.«01_k».proof.Proof.Ops

@[expose] public section

set_option maxRecDepth 16384

noncomputable section

namespace Cert.KernelIdeal.Att

open Idealize.ShloMosaic Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev xM : Memref sig .tc .vmem S512x512 .f32 := Memref.whole cc0_stg0_0
abbrev wqM : Memref sig .tc .vmem S512x256 .f32 := Memref.whole cc0_stg1_0
abbrev kM : Memref sig .tc .vmem S4x64x512 .bf16 := Memref.whole cc0_stg2_0
abbrev vM : Memref sig .tc .vmem S4x512x64 .bf16 := Memref.whole cc0_stg3_0
abbrev woM : Memref sig .tc .vmem S256x512 .f32 := Memref.whole cc0_stg4_0
abbrev wqbM : Memref sig .tc .vmem S512x256 .bf16 := Memref.whole cc0_scratch0
abbrev wobM : Memref sig .tc .vmem S256x512 .bf16 := Memref.whole cc0_scratch1

/-- What each device's argument buffers hold when its region starts. -/
structure Inp (F : FTy → Type) where
  X : Dev nD → S512x512.Idx → Elt F .f32
  Wq : Dev nD → S512x256.Idx → Elt F .f32
  K : Dev nD → S4x64x512.Idx → Elt F .bf16
  V : Dev nD → S4x512x64.Idx → Elt F .bf16
  Wo : Dev nD → S256x512.Idx → Elt F .f32

/-- The scaled query weights and the output weights as the kernel stores them. -/
def wqB (I : Inp F) (c : Dev nD) : S512x256.Idx → Elt F .bf16 := k0_pay1 (I.Wq c)
def woB (I : Inp F) (c : Dev nD) : S256x512.Idx → Elt F .bf16 := k0_pay3 (k0_pay2 (I.Wo c))

def atX (I : Inp F) (c : Dev nD) : sProp 𝕄 := xM.view.loc (c : Thread nD τ) ↦[Finset.univ]{fullShare} I.X c
def atWq (I : Inp F) (c : Dev nD) : sProp 𝕄 := wqM.view.loc (c : Thread nD τ) ↦[Finset.univ]{fullShare} I.Wq c
def atK (I : Inp F) (c : Dev nD) : sProp 𝕄 := kM.view.loc (c : Thread nD τ) ↦[Finset.univ]{fullShare} I.K c
def atV (I : Inp F) (c : Dev nD) : sProp 𝕄 := vM.view.loc (c : Thread nD τ) ↦[Finset.univ]{fullShare} I.V c
def atWo (I : Inp F) (c : Dev nD) : sProp 𝕄 := woM.view.loc (c : Thread nD τ) ↦[Finset.univ]{fullShare} I.Wo c
def atWqb (I : Inp F) (c : Dev nD) : sProp 𝕄 := wqbM.view.loc (c : Thread nD τ) ↦[Finset.univ]{fullShare} wqB I c
def atWob (I : Inp F) (c : Dev nD) : sProp 𝕄 := wobM.view.loc (c : Thread nD τ) ↦[Finset.univ]{fullShare} woB I c
def anyWqb (c : Dev nD) : sProp 𝕄 :=
  iprop(∃ f : S512x256.Idx → Elt F .bf16, wqbM.view.loc (c : Thread nD τ) ↦[Finset.univ]{fullShare} f)
def anyWob (c : Dev nD) : sProp 𝕄 :=
  iprop(∃ f : S256x512.Idx → Elt F .bf16, wobM.view.loc (c : Thread nD τ) ↦[Finset.univ]{fullShare} f)

/-- Everything a device only reads, once its weights are stored. -/
def ins (I : Inp F) (c : Dev nD) : sProp 𝕄 := iprop(atX I c ∗ atK I c ∗ atV I c ∗ atWqb I c ∗ atWob I c)

def outAny (c : Dev nD) (s hf : Fin 4) : sProp 𝕄 :=
  iprop(∃ f : S512x512.Idx → Elt F .f32, outM.view.loc (c : Thread nD τ) ↦[slotO s hf]{fullShare} f)
def outAt (c : Dev nD) (s hf : Fin 4) (w : S128x128.Idx → Elt F .f32) : sProp 𝕄 :=
  outM.view.loc (c : Thread nD τ) ↦[slotO s hf]{fullShare} fillO w

theorem zero2 : (![0, 0] : Fin 2 → ℕ) = fun _ => 0 := by funext a; fin_cases a <;> rfl

section Loads
variable (I : Inp F) (c : Dev nD) {α : Type} {Q : α → sProp (MT nD τ sig Unit (Elt F) ℕ UU ℕ)}

theorem ld_x {r : LoadRect S512x512} {hl} {k : (r.shape.Idx → Elt F .f32) → Prog (TpuEff nD τ sig (Elt F) Λ₀ .tc) α} :
    ins I c ⊢ iprop((ins I c -∗ run c (k (xM.view.readAt (Elt F) r (I.X c))) Q) -∗ run c (.op (.load xM r hl) k) Q) := by
  unfold ins atX
  iintro ⟨H, H'⟩ Hk
  iapply (wp_load 𝒱₀ (c : Thread nD τ) none Set.univ (m := xM) (Finset.subset_univ _)) $$ H
  iintro H
  iapply Hk
  isplitl [H]; · iexact H
  iexact H'
theorem ld_k {r : LoadRect S4x64x512} {hl} {k : (r.shape.Idx → Elt F .bf16) → Prog (TpuEff nD τ sig (Elt F) Λ₀ .tc) α} :
    ins I c ⊢ iprop((ins I c -∗ run c (k (kM.view.readAt (Elt F) r (I.K c))) Q) -∗ run c (.op (.load kM r hl) k) Q) := by
  unfold ins atK
  iintro ⟨H0, H, H'⟩ Hk
  iapply (wp_load 𝒱₀ (c : Thread nD τ) none Set.univ (m := kM) (Finset.subset_univ _)) $$ H
  iintro H
  iapply Hk
  isplitl [H0]; · iexact H0
  isplitl [H]; · iexact H
  iexact H'
theorem ld_v {r : LoadRect S4x512x64} {hl} {k : (r.shape.Idx → Elt F .bf16) → Prog (TpuEff nD τ sig (Elt F) Λ₀ .tc) α} :
    ins I c ⊢ iprop((ins I c -∗ run c (k (vM.view.readAt (Elt F) r (I.V c))) Q) -∗ run c (.op (.load vM r hl) k) Q) := by
  unfold ins atV
  iintro ⟨H0, H1, H, H'⟩ Hk
  iapply (wp_load 𝒱₀ (c : Thread nD τ) none Set.univ (m := vM) (Finset.subset_univ _)) $$ H
  iintro H
  iapply Hk
  isplitl [H0]; · iexact H0
  isplitl [H1]; · iexact H1
  isplitl [H]; · iexact H
  iexact H'
theorem ld_wqb {inb} {hl} {k : (S512x256.Idx → Elt F .bf16) → Prog (TpuEff nD τ sig (Elt F) Λ₀ .tc) α} :
    ins I c ⊢ iprop((ins I c -∗ run c (k (wqB I c)) Q)
      -∗ run c (.op (.load wqbM (Rect.unit (s := S512x256) ![0, 0] S512x256.size inb).toLoadRect hl) k) Q) := by
  unfold ins atWqb
  iintro ⟨H0, H1, H2, H, H'⟩ Hk
  iapply (wp_load 𝒱₀ (c : Thread nD τ) none Set.univ (m := wqbM) (Finset.subset_univ _)) $$ H
  rw [show wqbM.view.readAt (Elt F) (Rect.unit (s := S512x256) ![0, 0] S512x256.size inb).toLoadRect (wqB I c) = wqB I c from
    Memref.readAt_unit_zero (Elt F) cc0_scratch0 zero2 inb _]
  iintro H
  iapply Hk
  isplitl [H0]; · iexact H0
  isplitl [H1]; · iexact H1
  isplitl [H2]; · iexact H2
  isplitl [H]; · iexact H
  iexact H'
theorem ld_wob {r : LoadRect S256x512} {hl} {k : (r.shape.Idx → Elt F .bf16) → Prog (TpuEff nD τ sig (Elt F) Λ₀ .tc) α} :
    ins I c ⊢ iprop((ins I c -∗ run c (k (wobM.view.readAt (Elt F) r (woB I c))) Q) -∗ run c (.op (.load wobM r hl) k) Q) := by
  unfold ins atWob
  iintro ⟨H0, H1, H2, H3, H⟩ Hk
  iapply (wp_load 𝒱₀ (c : Thread nD τ) none Set.univ (m := wobM) (Finset.subset_univ _)) $$ H
  iintro H
  iapply Hk
  isplitl [H0]; · iexact H0
  isplitl [H1]; · iexact H1
  isplitl [H2]; · iexact H2
  isplitl [H3]; · iexact H3
  iexact H

end Loads

section Slots
variable (B : Blocks F) (c : Dev nD) {α : Type} {Q : α → sProp (MT nD τ sig Unit (Elt F) ℕ UU ℕ)}

/-- A store over the whole of an outgoing slot, with the load of its old contents that goes before. -/
theorem st_part (hf : Fin 4) (j : Fin 3) {off : Fin 4 → ℕ} {h h'} {hl hx hm} {w : S1x1x128x128.Idx → Elt F .bf16}
    {k : PUnit → Prog (TpuEff nD τ sig (Elt F) Λ₀ .tc) α} (ho : off = ![hf.val, j.val, 0, 0]) :
    partAny c hf j ⊢ iprop((partAt c hf j w -∗ run c (k ⟨⟩) Q)
      -∗ run c (.op (.load partM (rectR off h).toLoadRect hl) fun _ => .op (.store partM (rectR off h') w Finset.univ hx hm) k) Q) := by
  unfold partAny partAt
  iintro ⟨%f, H⟩ Hk
  iapply (wp_load 𝒱₀ (c : Thread nD τ) none Set.univ (m := partM) (part_setOn hf j h ho)) $$ H
  iintro H
  iapply (wp_store 𝒱₀ (c : Thread nD τ) none Set.univ (m := partM) (r := rectR off h') (part_acc hf j h' ho)) $$ H
  iintro H
  iapply Hk
  iapply (Entails.of_eq (pointsTo_congr (part_write hf j h' ho f w)))
  iexact H

/-- A load of a landed block. -/
theorem ld_rs (hf : Fin 4) (j : Fin 3) {off : Fin 4 → ℕ} {h} {hl}
    {k : (S1x1x128x128.Idx → Elt F .bf16) → Prog (TpuEff nD τ sig (Elt F) Λ₀ .tc) α} (ho : off = ![hf.val, j.val, 0, 0]) :
    rsGot B c hf j ⊢ iprop((rsGot B c hf j -∗ run c (k (B.part (src c j) hf j)) Q)
      -∗ run c (.op (.load rsM (rectR off h).toLoadRect hl) k) Q) := by
  unfold rsGot rsAt
  iintro ⟨Hs, H⟩ Hk
  iapply (wp_load 𝒱₀ (c : Thread nD τ) none Set.univ (m := rsM) (rs_setOn hf j h ho)) $$ H
  rw [rs_read hf j h ho]
  iintro H
  iapply Hk
  isplitl [Hs]; · iexact Hs
  iexact H

/-- A load of a gathered block. -/
theorem ld_ag (hf : Fin 4) (d : Fin 3) {off : Fin 4 → ℕ} {h} {hl}
    {k : (S1x1x128x128.Idx → Elt F .bf16) → Prog (TpuEff nD τ sig (Elt F) Λ₀ .tc) α} (ho : off = ![hf.val, (agT c d).val, 0, 0]) :
    agGot B c hf d ⊢ iprop((agGot B c hf d -∗ run c (k (B.red (agT c d) hf)) Q)
      -∗ run c (.op (.load agM (rectA off h).toLoadRect hl) k) Q) := by
  unfold agGot agAt
  iintro ⟨Hs, H⟩ Hk
  iapply (wp_load 𝒱₀ (c : Thread nD τ) none Set.univ (m := agM) (ag_setOn hf (agT c d) h ho)) $$ H
  rw [ag_read hf (agT c d) h ho]
  iintro H
  iapply Hk
  isplitl [Hs]; · iexact Hs
  iexact H

/-- A store of a whole output tile, with the load of its old contents that goes before. -/
theorem st_out (s hf : Fin 4) {off : Fin 2 → ℕ} {h h'} {hl hx hm} {w : S128x128.Idx → Elt F .f32}
    {k : PUnit → Prog (TpuEff nD τ sig (Elt F) Λ₀ .tc) α} (ho : off = ![128 * s.val, 128 * hf.val]) :
    outAny c s hf ⊢ iprop((outAt c s hf w -∗ run c (k ⟨⟩) Q)
      -∗ run c (.op (.load outM (rectO off h).toLoadRect hl) fun _ => .op (.store outM (rectO off h') w Finset.univ hx hm) k) Q) := by
  unfold outAny outAt
  iintro ⟨%f, H⟩ Hk
  iapply (wp_load 𝒱₀ (c : Thread nD τ) none Set.univ (m := outM) (out_setOn s hf h ho)) $$ H
  iintro H
  iapply (wp_store 𝒱₀ (c : Thread nD τ) none Set.univ (m := outM) (r := rectO off h') (out_acc s hf h' ho)) $$ H
  iintro H
  iapply Hk
  iapply (Entails.of_eq (pointsTo_congr (out_write s hf h' ho f w)))
  iexact H

/-- The own gather slot while the kernel runs through its four conditional stores: written once the device's own turn is past. -/
def agStep (hf : Fin 4) (w : S1x1x128x128.Idx → Elt F .bf16) (n : ℕ) : sProp 𝕄 :=
  if c.val < n then agAt fullShare c hf c w else agAny c hf c

/-- The conditional store of turn `n`. -/
theorem st_ag (hf : Fin 4) (n : Fin 4) {off : Fin 4 → ℕ} {h h'} {w : S1x1x128x128.Idx → Elt F .bf16}
    {v : BitVec 1} {hl : v = 1#1 → _} {hx : v = 1#1 → _} {hm : v = 1#1 → _} {k : PUnit → Prog (TpuEff nD τ sig (Elt F) Λ₀ .tc) α} (ho : off = ![hf.val, n.val, 0, 0]) (hv : v = 1#1 ↔ c = n) :
    agStep c hf w n.val ⊢ iprop((agStep c hf w (n.val + 1) -∗ run c (k ⟨⟩) Q)
      -∗ run c (if hh : v = 1#1 then (.op (.load agM (rectA off h).toLoadRect (hl hh)) fun _ => .op (.store agM (rectA off h') w Finset.univ (hx hh) (hm hh)) k)
          else k ⟨⟩) Q) := by
  unfold agStep
  by_cases e : c = n
  · have e' : c.val = n.val := congrArg Fin.val e
    rw [dif_pos (hv.mpr e), if_neg (by omega), if_pos (by omega)]
    rw [← e'] at ho
    unfold agAny agAt
    iintro ⟨%f, H⟩ Hk
    iapply (wp_load 𝒱₀ (c : Thread nD τ) none Set.univ (m := agM) (ag_setOn hf c h ho)) $$ H
    iintro H
    iapply (wp_store 𝒱₀ (c : Thread nD τ) none Set.univ (m := agM) (r := rectA off h') (ag_acc hf c h' ho)) $$ H
    iintro H
    iapply Hk
    iapply (Entails.of_eq (pointsTo_congr (ag_write hf c h' ho f w)))
    iexact H
  · have e' : c.val ≠ n.val := fun hh => e (Fin.ext hh)
    rw [dif_neg (fun hh => e (hv.mp hh))]
    have e2 : (c.val < n.val + 1) = (c.val < n.val) := propext ⟨fun _ => by omega, fun _ => by omega⟩
    simp only [e2]
    iintro H Hk
    iapply Hk
    iexact H

theorem ag_first (hf : Fin 4) (w) : (agAny c hf c : sProp 𝕄) ⊢ agStep c hf w 0 := by
  unfold agStep; rw [if_neg (Nat.not_lt_zero _)]

/-- After its four turns the own slot is lent out in thirds. -/
theorem ag_last (hf : Fin 4) (w) (hw : w = B.red c hf) : agStep c hf w 4 ⊢ iprop(agAt (sh 0) c hf c (B.red c hf) ∗ agAt (sh 1) c hf c (B.red c hf)
    ∗ agAt (sh 2) c hf c (B.red c hf)) := by
  subst hw
  unfold agStep; rw [if_pos c.isLt]
  unfold agAt
  exact (Ring.pointsTo_thirds _ _).1
theorem ag_back (hf : Fin 4) (w) : iprop(agAt (sh 0) c hf c w ∗ agAt (sh 1) c hf c w ∗ agAt (sh 2) c hf c w) ⊢ (agAny c hf c : sProp 𝕄) := by
  have h : iprop(agAt (sh 0) c hf c w ∗ agAt (sh 1) c hf c w ∗ agAt (sh 2) c hf c w) ⊢ (agAt fullShare c hf c w : sProp 𝕄) := by
    unfold agAt; exact (Ring.pointsTo_thirds _ _).2
  exact h.trans (agAt_any c hf c w)

end Slots

end Cert.KernelIdeal.Att
-- ==== Proof.Values.lean ====
/- What the kernel computes, said once: the attention of a head on a chunk of rows, the partial output of a chunk, and the
   finished block of a quarter, as functions of the argument buffers. -/
module

public import proofs.«01_k».proof.Proof.Mem

@[expose] public section

set_option maxRecDepth 16384

noncomputable section

namespace Cert.KernelIdeal.Att

open Idealize.ShloMosaic Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The rows and columns that attend to one another, within a chunk of 128. -/
def mk : IVec S128x128 1 := k0_pay9 k0_pay4 k0_pay5 k0_pay6 k0_pay7 k0_pay8

theorem inb_x (s : Fin 4) : ∀ a, (![128 * s.val, 0] : Fin 2 → ℕ) a + S128x512.size a ≤ S512x512.size a := by revert s; decide
theorem inb_k (h s : Fin 4) : ∀ a, (![h.val, 0, 128 * s.val] : Fin 3 → ℕ) a + S1x64x128.size a ≤ S4x64x512.size a := by revert h s; decide
theorem inb_v (h s : Fin 4) : ∀ a, (![h.val, 128 * s.val, 0] : Fin 3 → ℕ) a + S1x128x64.size a ≤ S4x512x64.size a := by revert h s; decide
theorem inb_w (hf : Fin 4) : ∀ a, (![0, 128 * hf.val] : Fin 2 → ℕ) a + S256x128.size a ≤ S256x512.size a := by revert hf; decide

section Loads
variable (I : Inp F) (c : Dev nD)

/-- Chunk `s` of the rows, of head `h`'s keys and of its values, and quarter `hf` of the output weights. -/
def xl (s : Fin 4) : S128x512.Idx → Elt F .f32 :=
  xM.view.readAt (Elt F) (Rect.unit (s := S512x512) ![128 * s.val, 0] S128x512.size (inb_x s)).toLoadRect (I.X c)
def kl (h s : Fin 4) : S1x64x128.Idx → Elt F .bf16 :=
  kM.view.readAt (Elt F) (Rect.unit (s := S4x64x512) ![h.val, 0, 128 * s.val] S1x64x128.size (inb_k h s)).toLoadRect (I.K c)
def vl (h s : Fin 4) : S1x128x64.Idx → Elt F .bf16 :=
  vM.view.readAt (Elt F) (Rect.unit (s := S4x512x64) ![h.val, 128 * s.val, 0] S1x128x64.size (inb_v h s)).toLoadRect (I.V c)
def wl (hf : Fin 4) : S256x128.Idx → Elt F .bf16 :=
  wobM.view.readAt (Elt F) (Rect.unit (s := S256x512) ![0, 128 * hf.val] S256x128.size (inb_w hf)).toLoadRect (woB I c)

variable {α : Type} {Q : α → sProp (MT nD τ sig Unit (Elt F) ℕ UU ℕ)}

theorem ldx (s : Fin 4) {off : Fin 2 → ℕ} {h} {hl} {k : (S128x512.Idx → Elt F .f32) → Prog (TpuEff nD τ sig (Elt F) Λ₀ .tc) α}
    (ho : off = ![128 * s.val, 0]) :
    ins I c ⊢ iprop((ins I c -∗ run c (k (xl I c s)) Q)
      -∗ run c (.op (.load xM (Rect.unit (s := S512x512) off S128x512.size h).toLoadRect hl) k) Q) := by
  subst ho; exact ld_x I c
theorem ldk (hd s : Fin 4) {off : Fin 3 → ℕ} {h} {hl} {k : (S1x64x128.Idx → Elt F .bf16) → Prog (TpuEff nD τ sig (Elt F) Λ₀ .tc) α}
    (ho : off = ![hd.val, 0, 128 * s.val]) :
    ins I c ⊢ iprop((ins I c -∗ run c (k (kl I c hd s)) Q)
      -∗ run c (.op (.load kM (Rect.unit (s := S4x64x512) off S1x64x128.size h).toLoadRect hl) k) Q) := by
  subst ho; exact ld_k I c
theorem ldv (hd s : Fin 4) {off : Fin 3 → ℕ} {h} {hl} {k : (S1x128x64.Idx → Elt F .bf16) → Prog (TpuEff nD τ sig (Elt F) Λ₀ .tc) α}
    (ho : off = ![hd.val, 128 * s.val, 0]) :
    ins I c ⊢ iprop((ins I c -∗ run c (k (vl I c hd s)) Q)
      -∗ run c (.op (.load vM (Rect.unit (s := S4x512x64) off S1x128x64.size h).toLoadRect hl) k) Q) := by
  subst ho; exact ld_v I c
theorem ldw (hf : Fin 4) {off : Fin 2 → ℕ} {h} {hl} {k : (S256x128.Idx → Elt F .bf16) → Prog (TpuEff nD τ sig (Elt F) Λ₀ .tc) α}
    (ho : off = ![0, 128 * hf.val]) :
    ins I c ⊢ iprop((ins I c -∗ run c (k (wl I c hf)) Q)
      -∗ run c (.op (.load wobM (Rect.unit (s := S256x512) off S256x128.size h).toLoadRect hl) k) Q) := by
  subst ho; exact ld_wob I c
theorem ldwo {inb} {hl} {k : (S256x512.Idx → Elt F .bf16) → Prog (TpuEff nD τ sig (Elt F) Λ₀ .tc) α} :
    ins I c ⊢ iprop((ins I c -∗ run c (k (woB I c)) Q)
      -∗ run c (.op (.load wobM (Rect.unit (s := S256x512) ![0, 0] S256x512.size inb).toLoadRect hl) k) Q) := by
  have e : wobM.view.readAt (Elt F) (Rect.unit (s := S256x512) ![0, 0] S256x512.size inb).toLoadRect (woB I c) = woB I c :=
    Memref.readAt_unit_zero (Elt F) cc0_scratch1 zero2 inb _
  have h := ld_wob I c (r := (Rect.unit (s := S256x512) ![0, 0] S256x512.size inb).toLoadRect) (hl := hl) (k := k) (Q := Q)
  rw [e] at h
  exact h

end Loads

/-! ## The arithmetic -/

/-- The four heads' slices of a chunk's queries. -/
def qs (q : FVec F S128x256 .bf16) : Fin 4 → FVec F S128x64 .bf16
  | 0 => extractStridedSlice S128x64 ![0, 0] q slices_S128x256_o0_0_S128x64
  | 1 => extractStridedSlice S128x64 ![0, 64] q slices_S128x256_o0_64_S128x64
  | 2 => extractStridedSlice S128x64 ![0, 128] q slices_S128x256_o0_128_S128x64
  | 3 => extractStridedSlice S128x64 ![0, 192] q slices_S128x256_o0_192_S128x64

/-- Head `h` of device `c` on chunk `s`. -/
def hd (I : Inp F) (c : Dev nD) (s h : Fin 4) : FVec F S128x64 .bf16 :=
  k0_pay14 mk (qs (k0_pay10 (xl I c s) (wqB I c)) h) (k0_pay13 (kl I c h s)) (vl I c h s)

/-- The four heads of a chunk through the output weights, each through its 64 rows of them. -/
def proj (a₀ a₁ a₂ a₃ : FVec F S128x64 .bf16) (w : FVec F S256x512 .bf16) : FVec F S128x512 .f32 :=
  addf (addf (addf
    (matmul dot_S128x64_S64x512_S128x512_1_0_0_1_n_n none a₀ (extractStridedSlice S64x512 ![0, 0] w slices_S256x512_o0_0_S64x512) (constant S128x512 .f32 0x00000000#32))
    (matmul dot_S128x64_S64x512_S128x512_1_0_0_1_n_n none a₁ (extractStridedSlice S64x512 ![64, 0] w slices_S256x512_o64_0_S64x512) (constant S128x512 .f32 0x00000000#32)))
    (matmul dot_S128x64_S64x512_S128x512_1_0_0_1_n_n none a₂ (extractStridedSlice S64x512 ![128, 0] w slices_S256x512_o128_0_S64x512) (constant S128x512 .f32 0x00000000#32)))
    (matmul dot_S128x64_S64x512_S128x512_1_0_0_1_n_n none a₃ (extractStridedSlice S64x512 ![192, 0] w slices_S256x512_o192_0_S64x512) (constant S128x512 .f32 0x00000000#32))

/-- The partial output of device `c` on chunk `s`, rounded for the copies. -/
def chunk (I : Inp F) (c : Dev nD) (s : Fin 4) : FVec F S128x512 .bf16 :=
  truncf .bf16 (proj (hd I c s 0) (hd I c s 1) (hd I c s 2) (hd I c s 3) (woB I c)) bitsLt_bf16_f32

/-- Quarter `hf` of a partial output, as a slot holds it. -/
def quarter (v : FVec F S128x512 .bf16) : Fin 4 → FVec F S1x1x128x128 .bf16
  | 0 => k0_pay22 (extractStridedSlice S128x128 ![0, 0] v slices_S128x512_o0_0_S128x128)
  | 1 => k0_pay22 (extractStridedSlice S128x128 ![0, 128] v slices_S128x512_o0_128_S128x128)
  | 2 => k0_pay22 (extractStridedSlice S128x128 ![0, 256] v slices_S128x512_o0_256_S128x128)
  | 3 => k0_pay22 (extractStridedSlice S128x128 ![0, 384] v slices_S128x512_o0_384_S128x128)

/-- Device `c`'s own share of quarter `hf` of its own chunk. -/
def own (I : Inp F) (c : Dev nD) (hf : Fin 4) : FVec F S128x128 .f32 :=
  k0_pay80 (hd I c c 0) (hd I c c 1) (hd I c c 2) (hd I c c 3) (wl I c hf)

/-- The block that `c` sends in slot `[hf, j]`. -/
def partV (I : Inp F) (c : Dev nD) (hf : Fin 4) (j : Fin 3) : FVec F S1x1x128x128 .bf16 := quarter (chunk I c (tgt c j)) hf

/-- Quarter `hf` of the finished chunk of `c`: its own share and the three that arrive, in order. -/
def redF (I : Inp F) (c : Dev nD) (hf : Fin 4) : FVec F S128x128 .f32 :=
  k0_pay82 (k0_pay81 (own I c hf) (partV I (src c 0) hf 0) (partV I (src c 1) hf 1)) (partV I (src c 2) hf 2)
/-- The same, rounded for the copies. -/
def redV (I : Inp F) (c : Dev nD) (hf : Fin 4) : FVec F S1x1x128x128 .bf16 := k0_pay79 (redF I c hf)

def blocksOf (I : Inp F) : Blocks F := ⟨partV I, redV I⟩

/-- The output tile of chunk `s` and quarter `hf`. -/
def tile (I : Inp F) (c : Dev nD) (s hf : Fin 4) : FVec F S128x128 .f32 := if s = c then redF I c hf else k0_pay94 (redV I s hf)

theorem tile_own (I : Inp F) (c : Dev nD) (hf : Fin 4) : tile I c c hf = redF I c hf := if_pos rfl
theorem tile_peer (I : Inp F) (c : Dev nD) (d : Fin 3) (hf : Fin 4) : tile I c (agT c d) hf = k0_pay94 (redV I (agT c d) hf) := if_neg (agT_ne c d)

end Cert.KernelIdeal.Att
-- ==== Proof.Tails.lean ====
/- The kernel cut into eight runs of its printed parts, each naming the one after it, and the rules that step through them. -/
module

public import proofs.«01_k».proof.Proof.Values

@[expose] public section

set_option maxRecDepth 16384

noncomputable section

namespace Cert.KernelIdeal.Att

open Idealize.ShloMosaic Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- A piece of the kernel on the buffers and semaphores the region hands it. -/
abbrev onBufs {β : Type 1} (f : (a0 : Memref sig .tc .vmem S512x512 .f32) → a0.IsWhole → (a1 : Memref sig .tc .vmem S512x256 .f32) → a1.IsWhole → (a2 : Memref sig .tc .vmem S4x64x512 .bf16) → a2.IsWhole → (a3 : Memref sig .tc .vmem S4x512x64 .bf16) → a3.IsWhole → (a4 : Memref sig .tc .vmem S256x512 .f32) → a4.IsWhole → (a5 : Memref sig .tc .vmem S512x512 .f32) → a5.IsWhole → (a6 : Memref sig .tc .vmem S512x256 .bf16) → a6.IsWhole → (a7 : Memref sig .tc .vmem S256x512 .bf16) → a7.IsWhole → (a8 : Memref sig .tc .vmem S4x3x128x128 .bf16) → a8.IsWhole → (a9 : Memref sig .tc .vmem S4x3x128x128 .bf16) → a9.IsWhole → (a10 : Memref sig .tc .vmem S4x4x128x128 .bf16) → a10.IsWhole → DmaSems sig S12 → DmaSems sig S12 → DmaSems sig S12 → DmaSems sig S16 → β) : β :=
  f xM (Memref.isWhole_whole _) wqM (Memref.isWhole_whole _) kM (Memref.isWhole_whole _) vM (Memref.isWhole_whole _) woM (Memref.isWhole_whole _) outM (Memref.isWhole_whole _) wqbM (Memref.isWhole_whole _) wobM (Memref.isWhole_whole _) partM (Memref.isWhole_whole _) rsM (Memref.isWhole_whole _) agM (Memref.isWhole_whole _) cc0_scratch5 cc0_scratch6 cc0_scratch7 cc0_scratch8

theorem word_one : (1#32).toInt = 1 := rfl
theorem word_three : (3#32).toInt = 3 := rfl
theorem bar_sem (h) : (SemArray.scalar (d := fun a => a.elim0) (sig.barrier 0 h) : Sems sig S_).sem = barrier0 := rfl

/-- The kernel at the last gathered tile. -/
def tailH (c : Dev nD) (v2 v1179 : BitVec 32) : Prog (TpuEff nD τ sig (Elt F) Λ₀ .tc) PUnit := do
  let ⟨v1259, c4_i32_1014⟩ : Σ' (v1259 : BitVec 32), BitVec 32 ← onBufs (k0_part40 (F := F)) c v2 v1179
  onBufs (k0_part41 (F := F)) v2 v1259 c4_i32_1014
  let ⟨v1304, c4_i32_1084⟩ : Σ' (v1304 : BitVec 32), BitVec 32 ← onBufs (k0_part42 (F := F)) v2
  onBufs (k0_part43 (F := F)) v2 v1304 c4_i32_1084
  let ⟨v1349, c4_i32_1154⟩ : Σ' (v1349 : BitVec 32), BitVec 32 ← onBufs (k0_part44 (F := F)) v2
  onBufs (k0_part45 (F := F)) c v2 v1349 c4_i32_1154
  onBufs (k0_part46 (F := F)) c v2
  onBufs (k0_part47 (F := F)) c v2
  onBufs (k0_part48 (F := F)) c v2
  Prog.lift (.waitDma2 ((cc0_scratch7.slice (Rect.unit (s := S12) ![11] S1.size inb_S12_S1_11)).squeeze S_ squeezes_S1_S_).sem
    (sqA agM (k0_off26 c) (k0_off26_inb c)) (sqA agM (k0_off26 c) (k0_off26_inb c))
    (((Memref.isWhole_whole _).wordExact_slice rfl _ (k0_off26_wordsbf16 c)).reshape _ _) (((Memref.isWhole_whole _).wordExact_slice rfl _ (k0_off26_wordsbf16 c)).reshape _ _))
  pure ⟨⟩

/-- The kernel once all quarters are finished. -/
def tailG (c : Dev nD) (v2 v1052 v1053 : BitVec 32) (v1066 : FVec F S128x128 .f32) : Prog (TpuEff nD τ sig (Elt F) Λ₀ .tc) PUnit := do
  onBufs (k0_part34 (F := F)) c v1052 v1053 v1066
  let ⟨v1115, v1116⟩ : Σ' (v1115 : BitVec 32), BitVec 32 ← onBufs (k0_part35 (F := F)) c v2 v1052 v1053
  onBufs (k0_part36 (F := F)) c v1115 v1116
  let ⟨v1178, v1179, c0_i32_924⟩ : Σ' (v1178 : BitVec 32) (v1179 : BitVec 32), BitVec 32 ← onBufs (k0_part37 (F := F)) c v2 v1115 v1116
  let v1207 : FVec F S128x128 .f32 ← onBufs (k0_part38 (F := F)) c v1178 v1179 c0_i32_924
  onBufs (k0_part39 (F := F)) c v1178 v1179 v1207
  tailH c v2 v1179

/-- The kernel after the second. -/
def tailF (c : Dev nD) (v2 : BitVec 32) (v585 v605 v625 v645 : FVec F S128x64 .bf16) (v646 : BitVec 32) (v896 : FVec F S128x128 .f32) : Prog (TpuEff nD τ sig (Elt F) Λ₀ .tc) PUnit := do
  let ⟨v950, v952⟩ : Σ' (v950 : Vec F S256x128 .bf16), FVec F S128x128 .f32 ← onBufs (k0_part29 (F := F)) c v2 v585 v646 v896
  let v973 : FVec F S128x128 .f32 ← onBufs (k0_part30 (F := F)) v2 v605 v625 v645 v950 v952
  let ⟨v997, v1008⟩ : Σ' (v997 : FVec F S128x128 .f32), BitVec 32 ← onBufs (k0_part31 (F := F)) v2 v973
  let ⟨v1037, c4_i32_784⟩ : Σ' (v1037 : BitVec 32), BitVec 32 ← onBufs (k0_part32 (F := F)) c v2 v997 v1008
  let ⟨v1052, v1053, v1066⟩ : Σ' (v1052 : BitVec 32) (v1053 : BitVec 32), FVec F S128x128 .f32 ← onBufs (k0_part33 (F := F)) c v2 v646 v997 v1037 c4_i32_784
  tailG c v2 v1052 v1053 v1066

/-- The kernel after the first finished quarter. -/
def tailE (c : Dev nD) (v2 : BitVec 32) (v585 v605 v625 v645 : FVec F S128x64 .bf16) (v646 : BitVec 32) (v748 : Vec F S256x128 .bf16) (v750 : FVec F S128x128 .f32) (v751 : FVec F S64x128 .bf16) (cst_504 : FVec F S128x128 .f32) : Prog (TpuEff nD τ sig (Elt F) Λ₀ .tc) PUnit := do
  let v771 : FVec F S128x128 .f32 ← onBufs (k0_part23 (F := F)) v2 v605 v625 v645 v748 v750 v751 cst_504
  let ⟨v795, v807⟩ : Σ' (v795 : FVec F S128x128 .f32), BitVec 1 ← onBufs (k0_part24 (F := F)) v2 v771
  let v836 : BitVec 32 ← onBufs (k0_part25 (F := F)) c v2 v795 v807
  let v860 : FVec F S128x128 .f32 ← onBufs (k0_part26 (F := F)) c v2 v585 v605 v625 v645 v646 v795 v836
  let v884 : FVec F S128x128 .f32 ← onBufs (k0_part27 (F := F)) v2 v860
  let v896 : FVec F S128x128 .f32 ← onBufs (k0_part28 (F := F)) c v2 v884
  tailF c v2 v585 v605 v625 v645 v646 v896

/-- The kernel after the third. -/
def tailD (c : Dev nD) (v2 : BitVec 32) (v80 : IVec S128x128 1) : Prog (TpuEff nD τ sig (Elt F) Λ₀ .tc) PUnit := do
  let ⟨v558, v565, v585, v586, v589⟩ : Σ' (v558 : BitVec 32) (v565 : FVec F S128x256 .bf16) (v585 : FVec F S128x64 .bf16) (v586 : FVec F S128x64 .bf16), FVec F S64x128 .bf16 ← onBufs (k0_part17 (F := F)) c v2 v80
  let ⟨v605, v625, v626, v629, v631⟩ : Σ' (v605 : FVec F S128x64 .bf16) (v625 : FVec F S128x64 .bf16) (v626 : FVec F S128x64 .bf16) (v629 : FVec F S64x128 .bf16), Vec F S1x128x64 .bf16 ← onBufs (k0_part18 (F := F)) c v80 v558 v565 v586 v589
  let ⟨v645, v646, v658⟩ : Σ' (v645 : FVec F S128x64 .bf16) (v646 : BitVec 32), FVec F S128x128 .f32 ← onBufs (k0_part19 (F := F)) v2 v80 v585 v605 v625 v626 v629 v631
  let v682 : FVec F S128x128 .f32 ← onBufs (k0_part20 (F := F)) v2 v658
  let ⟨v694, v721⟩ : Σ' (v694 : FVec F S128x128 .f32), BitVec 32 ← onBufs (k0_part21 (F := F)) c v2 v682
  let ⟨v748, v750, v751, cst_504⟩ : Σ' (v748 : Vec F S256x128 .bf16) (v750 : FVec F S128x128 .f32) (v751 : FVec F S64x128 .bf16), FVec F S128x128 .f32 ← onBufs (k0_part22 (F := F)) c v2 v585 v646 v694 v721
  tailE c v2 v585 v605 v625 v645 v646 v748 v750 v751 cst_504

/-- The kernel after the second chunk's partial output. -/
def tailC (c : Dev nD) (v2 : BitVec 32) (v80 : IVec S128x128 1) (v241 : BitVec 32) : Prog (TpuEff nD τ sig (Elt F) Λ₀ .tc) PUnit := do
  let ⟨v400, v401, v408, v415, v416⟩ : Σ' (v400 : BitVec 32) (v401 : BitVec 32) (v408 : FVec F S128x256 .bf16) (v415 : FVec F S128x64 .bf16), FVec F S128x128 .f32 ← onBufs (k0_part12 (F := F)) c v2 v241
  let ⟨v428, v448, v455, v456, v457⟩ : Σ' (v428 : FVec F S128x64 .bf16) (v448 : FVec F S128x64 .bf16) (v455 : FVec F S128x64 .bf16) (v456 : FVec F S128x128 .f32), FVec F S128x128 .f32 ← onBufs (k0_part13 (F := F)) c v80 v401 v408 v415 v416
  let ⟨v497, v499⟩ : Σ' (v497 : FVec F S128x512 .f32), FVec F S128x512 .f32 ← onBufs (k0_part14 (F := F)) c v80 v401 v408 v428 v448 v455 v456 v457
  onBufs (k0_part15 (F := F)) v400 v497 v499
  onBufs (k0_part16 (F := F)) c v400
  tailD c v2 v80

/-- The kernel after the first phase of copies. -/
def tailB (c : Dev nD) (v2 : BitVec 32) (v80 : IVec S128x128 1) (v241 v242 : BitVec 32) (v245 : FVec F S128x512 .f32) : Prog (TpuEff nD τ sig (Elt F) Λ₀ .tc) PUnit := do
  let ⟨v249, v269, v276, v284, v285⟩ : Σ' (v249 : FVec F S128x256 .bf16) (v269 : FVec F S128x64 .bf16) (v276 : FVec F S128x64 .bf16) (v284 : FVec F S128x1 .f32), FVec F S128x128 .bf16 ← onBufs (k0_part8 (F := F)) c v80 v242 v245
  let ⟨v289, v309, v324, v326⟩ : Σ' (v289 : FVec F S128x64 .bf16) (v309 : FVec F S128x64 .bf16) (v324 : FVec F S128x1 .f32), FVec F S128x64 .f32 ← onBufs (k0_part9 (F := F)) c v80 v242 v249 v276 v284 v285
  onBufs (k0_part10 (F := F)) v269 v289 v309 v324 v326
  onBufs (k0_part11 (F := F)) c v241
  tailC c v2 v80 v241

/-- The kernel. -/
def tailA : Prog (TpuEff nD τ sig (Elt F) Λ₀ .tc) PUnit := do
  let ⟨c, v2, v3, v26⟩ : Σ' (c : Dev nD) (v2 : BitVec 32) (v3 : Sems sig S_), FVec F S256x512 .bf16 ← onBufs (k0_part1 (F := F))
  let ⟨v54, v57, v71, v73, v74⟩ : Σ' (v54 : IVec S128x128 32) (v57 : IVec S128x128 32) (v71 : IVec S128x128 1) (v73 : IVec S128x128 32), IVec S128x128 32 ← onBufs (k0_part2 (F := F)) v26
  let ⟨v80, v82, v83, v90, v110, v111, v114⟩ : Σ' (v80 : IVec S128x128 1) (v82 : BitVec 32) (v83 : BitVec 32) (v90 : FVec F S128x256 .bf16) (v110 : FVec F S128x64 .bf16) (v111 : FVec F S128x64 .bf16), FVec F S64x128 .bf16 ← onBufs (k0_part3 (F := F)) c v2 v54 v57 v71 v73 v74
  let ⟨v130, v150, v151, v154⟩ : Σ' (v130 : FVec F S128x64 .bf16) (v150 : FVec F S128x64 .bf16) (v151 : FVec F S128x64 .bf16), FVec F S64x128 .bf16 ← onBufs (k0_part4 (F := F)) c v80 v83 v90 v111 v114
  let ⟨v183, v192⟩ : Σ' (v183 : FVec F S128x512 .bf16), FVec F S128x128 .bf16 ← onBufs (k0_part5 (F := F)) c v80 v110 v130 v150 v151 v154
  onBufs (k0_part6 (F := F)) c v3 v82 v183 v192
  let ⟨v241, v242, v245⟩ : Σ' (v241 : BitVec 32) (v242 : BitVec 32), FVec F S128x512 .f32 ← onBufs (k0_part7 (F := F)) c v2 v82
  tailB c v2 v80 v241 v242 v245

set_option maxRecDepth 65536 in
theorem body_eq : onBufs (cc0_body (F := F)) = tailA := rfl

/-- The word a device computes its place from. -/
abbrev place (c : Dev nD) : BitVec 32 := Scalar.remsi (Scalar.divsi c.word 1#32) 4#32

theorem turn (c n : Fin 4) : Scalar.cmpi .ne (Scalar.extui (Scalar.cmpi .eq (place c) (BitVec.ofNat 32 n.val)) : BitVec 32) 0#32 = 1#1 ↔ c = n := by
  revert c n; decide

/-- The arrival semaphore named by its place in the array. -/
theorem agR_at (hf s : Fin 4) {off : Fin 1 → ℕ} {h} (ho : off = ![4 * hf.val + s.val]) :
    ((cc0_scratch8.slice (Rect.unit (s := S16) off S1.size h)).squeeze S_ squeezes_S1_S_).sem = agR hf s := by
  subst ho
  revert h; revert hf s; decide

/-- A fact for each quarter; for each of the three. -/
abbrev four (P : Fin 4 → sProp 𝕄) : sProp 𝕄 := iprop(P 0 ∗ P 1 ∗ P 2 ∗ P 3)
abbrev three (P : Fin 3 → sProp 𝕄) : sProp 𝕄 := iprop(P 0 ∗ P 1 ∗ P 2)

theorem mk_eq : k0_pay9 k0_pay4 k0_pay5 k0_pay6 k0_pay7 k0_pay8 = mk := rfl

theorem over_four (P : Fin 4 → sProp 𝕄) : bigSep Finset.univ P = four P :=
  bigSep_univ_eq_bigSepL [0, 1, 2, 3] (by decide) (by decide) P
theorem over_three (P : Fin 3 → sProp 𝕄) : bigSep Finset.univ P = three P :=
  bigSep_univ_eq_bigSepL [0, 1, 2] (by decide) (by decide) P

/-- What the three barrier units bring: every landing slot. -/
theorem bar_all (c : Dev nD) : (bigSep Finset.univ fun d : Fin 3 => barPay c d : sProp 𝕄)
    ⊢ iprop(four (fun hf => landR c hf 0) ∗ four (fun hf => landR c hf 1) ∗ four (fun hf => landR c hf 2) ∗ four fun hf => three (landA c hf)) := by
  unfold barPay
  simp only [over_three, over_four, four, three, show jOf 0 = 2 from rfl, show jOf 1 = 0 from rfl, show jOf 2 = 1 from rfl,
    show Fin.rev (0 : Fin 3) = 2 from rfl, show Fin.rev (1 : Fin 3) = 1 from rfl, show Fin.rev (2 : Fin 3) = 0 from rfl]
  iintro ⟨⟨⟨A0, A1⟩, ⟨A2, A3⟩, ⟨A4, A5⟩, A6, A7⟩, ⟨⟨B0, B1⟩, ⟨B2, B3⟩, ⟨B4, B5⟩, B6, B7⟩, ⟨C0, C1⟩, ⟨C2, C3⟩, ⟨C4, C5⟩, C6, C7⟩
  isplitl [B0 B2 B4 B6]; · iframe
  isplitl [C0 C2 C4 C6]; · iframe
  isplitl [A0 A2 A4 A6]; · iframe
  isplitl [A1 B1 C1]; · iframe
  isplitl [A3 B3 C3]; · iframe
  isplitl [A5 B5 C5]; · iframe
  iframe

section Weights
variable (I : Inp F) (c : Dev nD) {α : Type} {Q : α → sProp (MT nD τ sig Unit (Elt F) ℕ UU ℕ)}

theorem ld_wq {inb} {hl} {k : (S512x256.Idx → Elt F .f32) → Prog (TpuEff nD τ sig (Elt F) Λ₀ .tc) α} :
    atWq I c ⊢ iprop((atWq I c -∗ run c (k (I.Wq c)) Q)
      -∗ run c (.op (.load wqM (Rect.unit (s := S512x256) ![0, 0] S512x256.size inb).toLoadRect hl) k) Q) := by
  unfold atWq
  iintro H Hk
  iapply (wp_load 𝒱₀ (c : Thread nD τ) none Set.univ (m := wqM) (Finset.subset_univ _)) $$ H
  rw [show wqM.view.readAt (Elt F) (Rect.unit (s := S512x256) ![0, 0] S512x256.size inb).toLoadRect (I.Wq c) = I.Wq c from
    Memref.readAt_unit_zero (Elt F) cc0_stg1_0 zero2 inb _]
  iintro H
  iapply Hk $$ H
theorem ld_wo {inb} {hl} {k : (S256x512.Idx → Elt F .f32) → Prog (TpuEff nD τ sig (Elt F) Λ₀ .tc) α} :
    atWo I c ⊢ iprop((atWo I c -∗ run c (k (I.Wo c)) Q)
      -∗ run c (.op (.load woM (Rect.unit (s := S256x512) ![0, 0] S256x512.size inb).toLoadRect hl) k) Q) := by
  unfold atWo
  iintro H Hk
  iapply (wp_load 𝒱₀ (c : Thread nD τ) none Set.univ (m := woM) (Finset.subset_univ _)) $$ H
  rw [show woM.view.readAt (Elt F) (Rect.unit (s := S256x512) ![0, 0] S256x512.size inb).toLoadRect (I.Wo c) = I.Wo c from
    Memref.readAt_unit_zero (Elt F) cc0_stg4_0 zero2 inb _]
  iintro H
  iapply Hk $$ H
theorem put_wqb {inb inb'} {hl hx hm} {k : PUnit → Prog (TpuEff nD τ sig (Elt F) Λ₀ .tc) α} :
    anyWqb c ⊢ iprop((atWqb I c -∗ run c (k ⟨⟩) Q)
      -∗ run c (.op (.load wqbM (Rect.unit (s := S512x256) ![0, 0] S512x256.size inb).toLoadRect hl) fun _ =>
        .op (.store wqbM (Rect.unit (s := S512x256) ![0, 0] S512x256.size inb') (k0_pay1 (I.Wq c)) Finset.univ hx hm) k) Q) := by
  unfold anyWqb atWqb
  iintro ⟨%f, H⟩ Hk
  iapply (wp_load 𝒱₀ (c : Thread nD τ) none Set.univ (m := wqbM) (Finset.subset_univ _)) $$ H
  iintro H
  iapply (wp_store 𝒱₀ (c : Thread nD τ) none Set.univ (m := wqbM) (r := Rect.unit (s := S512x256) ![0, 0] S512x256.size inb') (w := (k0_pay1 (I.Wq c))) (Mk := Finset.univ) (S := Finset.univ) (Finset.subset_univ _)) $$ H
  rw [show (wqbM.access (Rect.unit (s := S512x256) ![0, 0] S512x256.size inb')).write (Elt F) f (k0_pay1 (I.Wq c)) Finset.univ = wqB I c from
    Memref.write_access_unit_zero_univ (Elt F) cc0_scratch0 zero2 inb' f _]
  iintro H
  iapply Hk $$ H
theorem put_wob {inb inb'} {hl hx hm} {k : PUnit → Prog (TpuEff nD τ sig (Elt F) Λ₀ .tc) α} :
    anyWob c ⊢ iprop((atWob I c -∗ run c (k ⟨⟩) Q)
      -∗ run c (.op (.load wobM (Rect.unit (s := S256x512) ![0, 0] S256x512.size inb).toLoadRect hl) fun _ =>
        .op (.store wobM (Rect.unit (s := S256x512) ![0, 0] S256x512.size inb') (k0_pay3 (k0_pay2 (I.Wo c))) Finset.univ hx hm) k) Q) := by
  unfold anyWob atWob
  iintro ⟨%f, H⟩ Hk
  iapply (wp_load 𝒱₀ (c : Thread nD τ) none Set.univ (m := wobM) (Finset.subset_univ _)) $$ H
  iintro H
  iapply (wp_store 𝒱₀ (c : Thread nD τ) none Set.univ (m := wobM) (r := Rect.unit (s := S256x512) ![0, 0] S256x512.size inb') (w := (k0_pay3 (k0_pay2 (I.Wo c)))) (Mk := Finset.univ) (S := Finset.univ) (Finset.subset_univ _)) $$ H
  rw [show (wobM.access (Rect.unit (s := S256x512) ![0, 0] S256x512.size inb')).write (Elt F) f (k0_pay3 (k0_pay2 (I.Wo c))) Finset.univ = woB I c from
    Memref.write_access_unit_zero_univ (Elt F) cc0_scratch1 zero2 inb' f _]
  iintro H
  iapply Hk $$ H

end Weights

section Step
variable (c : Dev nD) {α β : Type} {Q : α → sProp (MT nD τ sig Unit (Elt F) ℕ UU ℕ)} {k : PUnit → Prog (TpuEff nD τ sig (Elt F) Λ₀ .tc) α}

theorem run_ret (a : α) : Q a ⊢ run c (.ret a) Q := by
  unfold run; rw [wp_ret]; iintro H; imodintro; iexact H
theorem run_bind (p : Prog (TpuEff nD τ sig (Elt F) Λ₀ .tc) β) (f : β → Prog (TpuEff nD τ sig (Elt F) Λ₀ .tc) α) :
    run c p (fun x => run c (f x) Q) ⊢ run c (p >>= f) Q := by
  unfold run; rw [wp_bind]

theorem run_eq {p p' : Prog (TpuEff nD τ sig (Elt F) Λ₀ .tc) α} (h : p = p') : run c p' Q ⊢ run c p Q := Entails.of_eq (by rw [h])

theorem part_put (hf : Fin 4) (j : Fin 3) {off : Fin 4 → ℕ} {h h'} {hl hx hm} {w : S1x1x128x128.Idx → Elt F .bf16}
    (w') (ho : off = ![hf.val, j.val, 0, 0]) (hw : w = w') :
    partAny c hf j ⊢ iprop((partAt c hf j w' -∗ run c (k ⟨⟩) Q)
      -∗ run c (.op (.load partM (rectR off h).toLoadRect hl) fun _ => .op (.store partM (rectR off h') w Finset.univ hx hm) k) Q) :=
  hw ▸ st_part c hf j ho
theorem out_put (s hf : Fin 4) {off : Fin 2 → ℕ} {h h'} {hl hx hm} {w : S128x128.Idx → Elt F .f32}
    (w') (ho : off = ![128 * s.val, 128 * hf.val]) (hw : w = w') :
    outAny c s hf ⊢ iprop((outAt c s hf w' -∗ run c (k ⟨⟩) Q)
      -∗ run c (.op (.load outM (rectO off h).toLoadRect hl) fun _ => .op (.store outM (rectO off h') w Finset.univ hx hm) k) Q) :=
  hw ▸ st_out c s hf ho
theorem ag_put (hf : Fin 4) (n : Fin 4) (m m' : ℕ) (hm : n.val = m) (hm' : m + 1 = m') {off : Fin 4 → ℕ} {h h'} {w : S1x1x128x128.Idx → Elt F .bf16}
    {v : BitVec 1} {hl : v = 1#1 → _} {hx : v = 1#1 → _} {hy : v = 1#1 → _} (w') (ho : off = ![hf.val, n.val, 0, 0]) (hv : v = 1#1 ↔ c = n) (hw : w = w') :
    agStep c hf w' m ⊢ iprop((agStep c hf w' m' -∗ run c (k ⟨⟩) Q)
      -∗ run c (if hh : v = 1#1 then (.op (.load agM (rectA off h).toLoadRect (hl hh)) fun _ => .op (.store agM (rectA off h') w Finset.univ (hx hh) (hy hh)) k)
          else k ⟨⟩) Q) := by
  subst hw; subst hm; subst hm'; exact st_ag c hf n ho hv

end Step

end Cert.KernelIdeal.Att
-- ==== Proof.SegA.lean ====
/- The kernel up to the end of the first phase of copies: the barrier, the first chunk's partial output and its four copies. -/
module

public import proofs.«01_k».proof.Proof.Tails

@[expose] public section

set_option maxRecDepth 16384

noncomputable section

namespace Cert.KernelIdeal.Att

open Idealize.ShloMosaic Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (κ : GSem nD τ sig → ℕ) (c : Dev nD)

set_option maxHeartbeats 4000000 in
theorem segA {Q : PUnit → sProp 𝕄} : ctx (blocksOf I) κ c ⊢ iprop(owing c 0 -∗ three (barOut c) -∗ barIn c
    -∗ (atX I c ∗ atWq I c ∗ atK I c ∗ atV I c ∗ atWo I c) -∗ anyWqb c -∗ anyWob c -∗ four (fun hf => partAny c hf 0) -∗ four (fun hf => rsTok c hf 0)
    -∗ (∀ v241, ∀ v242, (owing c 7 ∗ ins I c ∗ atWq I c ∗ atWo I c ∗ semVal (barC c) 0 ∗ four (fun hf => rsFly c hf 0)
        ∗ four (fun hf => landR c hf 1) ∗ four (fun hf => landR c hf 2) ∗ four fun hf => three (landA c hf))
        -∗ run c (tailB c (place c) mk v241 v242 (k0_pay24 (xl I c (tgt c 1)))) Q)
    -∗ run c tailA Q) := by
  unfold tailA
  rw [k0_part1_eq_skeleton, k0_part2_eq_skeleton, k0_part3_eq_skeleton, k0_part4_eq_skeleton, k0_part5_eq_skeleton, k0_part6_eq_skeleton, k0_part7_eq_skeleton]
  unfold onBufs k0_part1_skel k0_part2_skel k0_part3_skel k0_part4_skel k0_part5_skel k0_part6_skel k0_part7_skel
  simp only [semSignalWord, semWaitWord, Prog.lift, Prog.bind_op, Prog.bind_ret, Prog.pure_eq_ret, wp_deviceId, word_one, word_three, bar_sem, mk_eq]
  iintro #Hc Ho ⟨S0, S1, S2⟩ Hb ⟨Hx, Hwq, HK, HV, Hwo⟩ Aq Ao ⟨P0, P1, P2, P3⟩ ⟨T0, T1, T2, T3⟩ Hk
  iapply (op_signal (blocksOf I) κ c 0 0 _ (Fin.ext (k0_dev1_eq c)) rfl) $$ Hc Ho S0; iintro Ho
  iapply (op_signal (blocksOf I) κ c 1 1 _ (Fin.ext (k0_dev2_eq c)) rfl) $$ Hc Ho S1; iintro Ho
  iapply (op_signal (blocksOf I) κ c 2 2 _ (Fin.ext (k0_dev3_eq c)) rfl) $$ Hc Ho S2; iintro Ho
  iapply (ld_wq I c) $$ Hwq; iintro Hwq
  iapply (put_wqb I c) $$ Aq; iintro Aq
  iapply (ld_wo I c) $$ Hwo; iintro Hwo
  iapply (put_wob I c) $$ Ao; iintro Ao
  ihave Hi : ins I c $$ [Hx HK HV Aq Ao]
  · unfold ins; iframe
  iapply (ldx I c (tgt c 0) ?_) $$ Hi
  · exact k0_off1_eq c 1
  iintro Hi
  iapply (ld_wqb I c) $$ Hi; iintro Hi
  iapply (ldk I c 0 (tgt c 0) ?_) $$ Hi
  · exact k0_off2_eq c 1
  iintro Hi
  iapply (ldv I c 0 (tgt c 0) ?_) $$ Hi
  · exact k0_off3_eq c 1
  iintro Hi
  iapply (ldk I c 1 (tgt c 0) ?_) $$ Hi
  · exact k0_off4_eq c 1
  iintro Hi
  iapply (ldv I c 1 (tgt c 0) ?_) $$ Hi
  · exact k0_off5_eq c 1
  iintro Hi
  iapply (ldk I c 2 (tgt c 0) ?_) $$ Hi
  · exact k0_off6_eq c 1
  iintro Hi
  iapply (ldv I c 2 (tgt c 0) ?_) $$ Hi
  · exact k0_off7_eq c 1
  iintro Hi
  iapply (ldk I c 3 (tgt c 0) ?_) $$ Hi
  · exact k0_off8_eq c 1
  iintro Hi
  iapply (ldv I c 3 (tgt c 0) ?_) $$ Hi
  · exact k0_off9_eq c 1
  iintro Hi
  iapply (ldwo I c) $$ Hi; iintro Hi
  iapply (part_put c 0 0 ((blocksOf I).part c 0 0) rfl ?_) $$ P0
  · rfl
  iintro P0
  iapply (part_put c 1 0 ((blocksOf I).part c 1 0) rfl ?_) $$ P1
  · rfl
  iintro P1
  iapply (part_put c 2 0 ((blocksOf I).part c 2 0) rfl ?_) $$ P2
  · rfl
  iintro P2
  iapply (part_put c 3 0 ((blocksOf I).part c 3 0) rfl ?_) $$ P3
  · rfl
  iintro P3
  iapply (op_barrier (blocksOf I) κ c) $$ Hc Ho Hb; iintro ⟨Ho, Hz, Hp⟩
  ihave Hp := bar_all c $$ Hp
  icases Hp with ⟨⟨L0, L1, L2, L3⟩, Hp⟩
  iapply (op_rs_send (blocksOf I) κ c 3 0 0 _ (Fin.ext (k0_dev4_eq c)) _ _ rfl rfl rfl rfl rfl) $$ Hc Ho T0 P0 L0; iintro ⟨Ho, T0⟩
  iapply (op_rs_send (blocksOf I) κ c 4 1 0 _ (Fin.ext (k0_dev5_eq c)) _ _ rfl rfl rfl rfl rfl) $$ Hc Ho T1 P1 L1; iintro ⟨Ho, T1⟩
  iapply (op_rs_send (blocksOf I) κ c 5 2 0 _ (Fin.ext (k0_dev6_eq c)) _ _ rfl rfl rfl rfl rfl) $$ Hc Ho T2 P2 L2; iintro ⟨Ho, T2⟩
  iapply (op_rs_send (blocksOf I) κ c 6 3 0 _ (Fin.ext (k0_dev7_eq c)) _ _ rfl rfl rfl rfl rfl) $$ Hc Ho T3 P3 L3; iintro ⟨Ho, T3⟩
  iapply (ldx I c (tgt c 1) ?_) $$ Hi
  · exact k0_off1_eq c 0
  iintro Hi
  iapply Hk
  icases Hp with ⟨H1, H2, H3⟩
  unfold four
  iframe

end Cert.KernelIdeal.Att
-- ==== Proof.SegB.lean ====
/- The second chunk's partial output, and the first two of its copies. -/
module

public import proofs.«01_k».proof.Proof.Tails

@[expose] public section

set_option maxRecDepth 16384

noncomputable section

namespace Cert.KernelIdeal.Att

open Idealize.ShloMosaic Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (κ : GSem nD τ sig → ℕ) (c : Dev nD)

set_option maxHeartbeats 4000000 in
theorem segB (v241 v242) {Q : PUnit → sProp 𝕄} : ctx (blocksOf I) κ c ⊢ iprop(owing c 7 -∗ ins I c -∗ four (fun hf => partAny c hf 1)
    -∗ (rsTok c 0 1 ∗ rsTok c 1 1) -∗ (landR c 0 1 ∗ landR c 1 1)
    -∗ ((owing c 9 ∗ ins I c ∗ (rsFly c 0 1 ∗ rsFly c 1 1)
        ∗ partAt c 2 1 ((blocksOf I).part c 2 1) ∗ partAt c 3 1 ((blocksOf I).part c 3 1)) -∗ run c (tailC c (place c) mk v241) Q)
    -∗ run c (tailB c (place c) mk v241 v242 (k0_pay24 (xl I c (tgt c 1)))) Q) := by
  unfold tailB
  rw [k0_part8_eq_skeleton, k0_part9_eq_skeleton, k0_part10_eq_skeleton, k0_part11_eq_skeleton]
  unfold onBufs k0_part8_skel k0_part9_skel k0_part10_skel k0_part11_skel
  simp only [semSignalWord, semWaitWord, Prog.lift, Prog.bind_op, Prog.bind_ret, Prog.pure_eq_ret, wp_deviceId, word_one, word_three, bar_sem, mk_eq]
  iintro #Hc Ho Hi ⟨P0, P1, P2, P3⟩ ⟨T0, T1⟩ ⟨L0, L1⟩ Hk
  iapply (ld_wqb I c) $$ Hi; iintro Hi
  iapply (ldk I c 0 (tgt c 1) ?_) $$ Hi
  · exact k0_off2_eq c 0
  iintro Hi
  iapply (ldv I c 0 (tgt c 1) ?_) $$ Hi
  · exact k0_off3_eq c 0
  iintro Hi
  iapply (ldk I c 1 (tgt c 1) ?_) $$ Hi
  · exact k0_off4_eq c 0
  iintro Hi
  iapply (ldv I c 1 (tgt c 1) ?_) $$ Hi
  · exact k0_off5_eq c 0
  iintro Hi
  iapply (ldk I c 2 (tgt c 1) ?_) $$ Hi
  · exact k0_off6_eq c 0
  iintro Hi
  iapply (ldv I c 2 (tgt c 1) ?_) $$ Hi
  · exact k0_off7_eq c 0
  iintro Hi
  iapply (ldk I c 3 (tgt c 1) ?_) $$ Hi
  · exact k0_off8_eq c 0
  iintro Hi
  iapply (ldv I c 3 (tgt c 1) ?_) $$ Hi
  · exact k0_off9_eq c 0
  iintro Hi
  iapply (ldwo I c) $$ Hi; iintro Hi
  iapply (part_put c 0 1 ((blocksOf I).part c 0 1) rfl ?_) $$ P0
  · rfl
  iintro P0
  iapply (part_put c 1 1 ((blocksOf I).part c 1 1) rfl ?_) $$ P1
  · rfl
  iintro P1
  iapply (part_put c 2 1 ((blocksOf I).part c 2 1) rfl ?_) $$ P2
  · rfl
  iintro P2
  iapply (part_put c 3 1 ((blocksOf I).part c 3 1) rfl ?_) $$ P3
  · rfl
  iintro P3
  iapply (op_rs_send (blocksOf I) κ c 7 0 1 _ (Fin.ext (k0_dev8_eq c)) _ _ rfl rfl rfl rfl rfl) $$ Hc Ho T0 P0 L0; iintro ⟨Ho, T0⟩
  iapply (op_rs_send (blocksOf I) κ c 8 1 1 _ (Fin.ext (k0_dev9_eq c)) _ _ rfl rfl rfl rfl rfl) $$ Hc Ho T1 P1 L1; iintro ⟨Ho, T1⟩
  iapply Hk
  iframe

end Cert.KernelIdeal.Att
-- ==== Proof.SegC.lean ====
/- The rest of the second chunk's copies, the third chunk's partial output, and the first three of its copies. -/
module

public import proofs.«01_k».proof.Proof.Tails

@[expose] public section

set_option maxRecDepth 16384

noncomputable section

namespace Cert.KernelIdeal.Att

open Idealize.ShloMosaic Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (κ : GSem nD τ sig → ℕ) (c : Dev nD)

set_option maxHeartbeats 4000000 in
theorem segC (v241) {Q : PUnit → sProp 𝕄} : ctx (blocksOf I) κ c ⊢ iprop(owing c 9 -∗ ins I c -∗ (rsTok c 2 1 ∗ rsTok c 3 1) -∗ (landR c 2 1 ∗ landR c 3 1)
    -∗ (partAt c 2 1 ((blocksOf I).part c 2 1) ∗ partAt c 3 1 ((blocksOf I).part c 3 1))
    -∗ four (fun hf => partAny c hf 2) -∗ (rsTok c 0 2 ∗ rsTok c 1 2 ∗ rsTok c 2 2) -∗ (landR c 0 2 ∗ landR c 1 2 ∗ landR c 2 2)
    -∗ ((owing c 14 ∗ ins I c ∗ (rsFly c 2 1 ∗ rsFly c 3 1) ∗ (rsFly c 0 2 ∗ rsFly c 1 2 ∗ rsFly c 2 2)
        ∗ partAt c 3 2 ((blocksOf I).part c 3 2)) -∗ run c (tailD c (place c) mk) Q)
    -∗ run c (tailC c (place c) mk v241) Q) := by
  unfold tailC
  rw [k0_part12_eq_skeleton, k0_part13_eq_skeleton, k0_part14_eq_skeleton, k0_part15_eq_skeleton, k0_part16_eq_skeleton]
  unfold onBufs k0_part12_skel k0_part13_skel k0_part14_skel k0_part15_skel k0_part16_skel
  simp only [semSignalWord, semWaitWord, Prog.lift, Prog.bind_op, Prog.bind_ret, Prog.pure_eq_ret, wp_deviceId, word_one, word_three, bar_sem, mk_eq]
  iintro #Hc Ho Hi ⟨T2, T3⟩ ⟨L2, L3⟩ ⟨P2, P3⟩ ⟨Q0, Q1, Q2, Q3⟩ ⟨U0, U1, U2⟩ ⟨M0, M1, M2⟩ Hk
  iapply (op_rs_send (blocksOf I) κ c 9 2 1 _ (Fin.ext (k0_dev10_eq c)) _ _ rfl rfl rfl rfl rfl) $$ Hc Ho T2 P2 L2; iintro ⟨Ho, T2⟩
  iapply (op_rs_send (blocksOf I) κ c 10 3 1 _ (Fin.ext (k0_dev11_eq c)) _ _ rfl rfl rfl rfl rfl) $$ Hc Ho T3 P3 L3; iintro ⟨Ho, T3⟩
  iapply (ldx I c (tgt c 2) ?_) $$ Hi
  · exact k0_off1_eq c 2
  iintro Hi
  iapply (ld_wqb I c) $$ Hi; iintro Hi
  iapply (ldk I c 0 (tgt c 2) ?_) $$ Hi
  · exact k0_off2_eq c 2
  iintro Hi
  iapply (ldv I c 0 (tgt c 2) ?_) $$ Hi
  · exact k0_off3_eq c 2
  iintro Hi
  iapply (ldk I c 1 (tgt c 2) ?_) $$ Hi
  · exact k0_off4_eq c 2
  iintro Hi
  iapply (ldv I c 1 (tgt c 2) ?_) $$ Hi
  · exact k0_off5_eq c 2
  iintro Hi
  iapply (ldk I c 2 (tgt c 2) ?_) $$ Hi
  · exact k0_off6_eq c 2
  iintro Hi
  iapply (ldv I c 2 (tgt c 2) ?_) $$ Hi
  · exact k0_off7_eq c 2
  iintro Hi
  iapply (ldk I c 3 (tgt c 2) ?_) $$ Hi
  · exact k0_off8_eq c 2
  iintro Hi
  iapply (ldv I c 3 (tgt c 2) ?_) $$ Hi
  · exact k0_off9_eq c 2
  iintro Hi
  iapply (ldwo I c) $$ Hi; iintro Hi
  iapply (part_put c 0 2 ((blocksOf I).part c 0 2) rfl ?_) $$ Q0
  · rfl
  iintro Q0
  iapply (part_put c 1 2 ((blocksOf I).part c 1 2) rfl ?_) $$ Q1
  · rfl
  iintro Q1
  iapply (part_put c 2 2 ((blocksOf I).part c 2 2) rfl ?_) $$ Q2
  · rfl
  iintro Q2
  iapply (part_put c 3 2 ((blocksOf I).part c 3 2) rfl ?_) $$ Q3
  · rfl
  iintro Q3
  iapply (op_rs_send (blocksOf I) κ c 11 0 2 _ (Fin.ext (k0_dev12_eq c)) _ _ rfl rfl rfl rfl rfl) $$ Hc Ho U0 Q0 M0; iintro ⟨Ho, U0⟩
  iapply (op_rs_send (blocksOf I) κ c 12 1 2 _ (Fin.ext (k0_dev13_eq c)) _ _ rfl rfl rfl rfl rfl) $$ Hc Ho U1 Q1 M1; iintro ⟨Ho, U1⟩
  iapply (op_rs_send (blocksOf I) κ c 13 2 2 _ (Fin.ext (k0_dev14_eq c)) _ _ rfl rfl rfl rfl rfl) $$ Hc Ho U2 Q2 M2; iintro ⟨Ho, U2⟩
  iapply Hk
  iframe

end Cert.KernelIdeal.Att
-- ==== Proof.Turns.lean ====
/- The parts that store a finished block by its device's place. -/
module

public import proofs.«01_k».proof.Proof.Tails

@[expose] public section

set_option maxRecDepth 16384

noncomputable section

namespace Cert.KernelIdeal.Att

open Idealize.ShloMosaic Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (κ : GSem nD τ sig → ℕ) (c : Dev nD)

set_option maxHeartbeats 4000000 in
theorem part21 (v682 : FVec F S128x128 .f32) (h : k0_pay82 v682 ((blocksOf I).part (src c 2) 0 2) = redF I c 0)
    {K : (Σ' (_ : FVec F S128x128 .f32), BitVec 32) → sProp 𝕄} : ctx (blocksOf I) κ c ⊢ iprop(owing c 15 -∗ rsGot (blocksOf I) c 0 2 -∗ agAny c 0 c -∗ agTok c 0 1 -∗ landA c 0 1
    -∗ (∀ v721, (owing c 16 ∗ rsGot (blocksOf I) c 0 2 ∗ agFly c 0 1 ∗ agAt (sh 0) c 0 c ((blocksOf I).red c 0) ∗ agAt (sh 2) c 0 c ((blocksOf I).red c 0)) -∗ K ⟨redF I c 0, v721⟩)
    -∗ run c (onBufs (k0_part21 (F := F)) c (place c) v682) K) := by
  rw [k0_part21_eq_skeleton]
  unfold onBufs k0_part21_skel
  simp only [semSignalWord, semWaitWord, Prog.lift, Prog.bind_op, Prog.bind_ret, Prog.pure_eq_ret, wp_deviceId, word_one, word_three, bar_sem, mk_eq]
  iintro #Hc Ho R2 A T1 L1 Hk
  iapply (ld_rs (blocksOf I) c 0 2 rfl) $$ R2; iintro R2
  ihave A := ag_first c 0 (k0_pay79 (k0_pay82 v682 ((blocksOf I).part (src c 2) 0 2))) $$ A
  iapply (ag_put c 0 0 0 1 rfl rfl (k0_pay79 (k0_pay82 v682 ((blocksOf I).part (src c 2) 0 2))) rfl (turn c 0) ?_) $$ A
  · rfl
  iintro A
  iapply (ag_put c 0 1 1 2 rfl rfl (k0_pay79 (k0_pay82 v682 ((blocksOf I).part (src c 2) 0 2))) rfl (turn c 1) ?_) $$ A
  · rfl
  iintro A
  iapply (ag_put c 0 2 2 3 rfl rfl (k0_pay79 (k0_pay82 v682 ((blocksOf I).part (src c 2) 0 2))) rfl (turn c 2) ?_) $$ A
  · rfl
  iintro A
  iapply (ag_put c 0 3 3 4 rfl rfl (k0_pay79 (k0_pay82 v682 ((blocksOf I).part (src c 2) 0 2))) rfl (turn c 3) ?_) $$ A
  · rfl
  iintro A
  ihave A := ag_last (blocksOf I) c 0 _ (congrArg k0_pay79 h) $$ A
  icases A with ⟨G0, G1, G2⟩
  iapply (op_ag_send (blocksOf I) κ c 15 0 1 _ (Fin.ext (k0_dev16_eq c)) _ _ rfl (agR_at 0 c (k0_off19_eq c 0)) rfl (k0_off20_eq c) (k0_off20_eq c)) $$ Hc Ho T1 G1 L1; iintro ⟨Ho, T1⟩
  iapply run_ret
  rw [show k0_pay67 v682 ((blocksOf I).part (src c 2) 0 2) = redF I c 0 from h]
  iapply Hk
  iframe

set_option maxHeartbeats 4000000 in
theorem part28 (v884 : FVec F S128x128 .f32) (h : k0_pay82 v884 ((blocksOf I).part (src c 2) 2 2) = redF I c 2)
    {K : FVec F S128x128 .f32 → sProp 𝕄} : ctx (blocksOf I) κ c ⊢ iprop(owing c 21 -∗ rsGot (blocksOf I) c 2 2 -∗ agAny c 2 c -∗ agTok c 2 1 -∗ landA c 2 1
    -∗ ((owing c 22 ∗ rsGot (blocksOf I) c 2 2 ∗ agFly c 2 1 ∗ agAt (sh 0) c 2 c ((blocksOf I).red c 2) ∗ agAt (sh 2) c 2 c ((blocksOf I).red c 2)) -∗ K (redF I c 2))
    -∗ run c (onBufs (k0_part28 (F := F)) c (place c) v884) K) := by
  rw [k0_part28_eq_skeleton]
  unfold onBufs k0_part28_skel
  simp only [semSignalWord, semWaitWord, Prog.lift, Prog.bind_op, Prog.bind_ret, Prog.pure_eq_ret, wp_deviceId, word_one, word_three, bar_sem, mk_eq]
  iintro #Hc Ho R2 A T1 L1 Hk
  iapply (ld_rs (blocksOf I) c 2 2 rfl) $$ R2; iintro R2
  ihave A := ag_first c 2 (k0_pay79 (k0_pay82 v884 ((blocksOf I).part (src c 2) 2 2))) $$ A
  iapply (ag_put c 2 0 0 1 rfl rfl (k0_pay79 (k0_pay82 v884 ((blocksOf I).part (src c 2) 2 2))) rfl (turn c 0) ?_) $$ A
  · rfl
  iintro A
  iapply (ag_put c 2 1 1 2 rfl rfl (k0_pay79 (k0_pay82 v884 ((blocksOf I).part (src c 2) 2 2))) rfl (turn c 1) ?_) $$ A
  · rfl
  iintro A
  iapply (ag_put c 2 2 2 3 rfl rfl (k0_pay79 (k0_pay82 v884 ((blocksOf I).part (src c 2) 2 2))) rfl (turn c 2) ?_) $$ A
  · rfl
  iintro A
  iapply (ag_put c 2 3 3 4 rfl rfl (k0_pay79 (k0_pay82 v884 ((blocksOf I).part (src c 2) 2 2))) rfl (turn c 3) ?_) $$ A
  · rfl
  iintro A
  ihave A := ag_last (blocksOf I) c 2 _ (congrArg k0_pay79 h) $$ A
  icases A with ⟨G0, G1, G2⟩
  iapply (op_ag_send (blocksOf I) κ c 21 2 1 _ (Fin.ext (k0_dev22_eq c)) _ _ rfl (agR_at 2 c (k0_off19_eq c 2)) rfl (k0_off24_eq c) (k0_off24_eq c)) $$ Hc Ho T1 G1 L1; iintro ⟨Ho, T1⟩
  iapply run_ret
  rw [show k0_pay82 v884 ((blocksOf I).part (src c 2) 2 2) = redF I c 2 from h]
  iapply Hk
  iframe

end Cert.KernelIdeal.Att
-- ==== Proof.SegD.lean ====
/- The device's own chunk, and its first finished quarter. -/
module

public import proofs.«01_k».proof.Proof.Turns

@[expose] public section

set_option maxRecDepth 16384

noncomputable section

namespace Cert.KernelIdeal.Att

open Idealize.ShloMosaic Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (κ : GSem nD τ sig → ℕ) (c : Dev nD)

set_option maxHeartbeats 4000000 in
theorem segD {Q : PUnit → sProp 𝕄} : ctx (blocksOf I) κ c ⊢ iprop(owing c 14 -∗ ins I c -∗ rsTok c 3 2 -∗ landR c 3 2 -∗ partAt c 3 2 ((blocksOf I).part c 3 2)
    -∗ three (rsIn c 0) -∗ agAny c 0 c -∗ three (agTok c 0) -∗ three (landA c 0) -∗ outAny c c 0
    -∗ (∀ v646, (owing c 18 ∗ ins I c ∗ rsFly c 3 2 ∗ three (rsGot (blocksOf I) c 0) ∗ three (agFly c 0) ∗ outAt c c 0 (redF I c 0))
      -∗ run c (tailE c (place c) (hd I c c 0) (hd I c c 1) (hd I c c 2) (hd I c c 3) v646 (wl I c 1) (k0_pay72 (hd I c c 0) (wl I c 1)) (k0_pay73 (wl I c 1)) (constant S128x128 .f32 0x00000000#32)) Q)
    -∗ run c (tailD c (place c) mk) Q) := by
  unfold tailD
  rw [k0_part17_eq_skeleton, k0_part18_eq_skeleton, k0_part19_eq_skeleton, k0_part20_eq_skeleton, k0_part22_eq_skeleton]
  unfold k0_part17_skel k0_part18_skel k0_part19_skel k0_part20_skel k0_part22_skel
  simp only [semSignalWord, semWaitWord, Prog.lift, Prog.bind_op, Prog.bind_ret, Prog.pure_eq_ret, wp_deviceId, word_one, word_three, bar_sem, mk_eq]
  iintro #Hc Ho Hi T L P ⟨R0, R1, R2⟩ A ⟨T0, T1, T2⟩ ⟨L0, L1, L2⟩ O Hk
  iapply (op_rs_send (blocksOf I) κ c 14 3 2 _ (Fin.ext (k0_dev15_eq c)) _ _ rfl rfl rfl rfl rfl) $$ Hc Ho T P L; iintro ⟨Ho, T⟩
  iapply (ldx I c c ?_) $$ Hi
  · exact k0_off10_eq c
  iintro Hi
  iapply (ld_wqb I c) $$ Hi; iintro Hi
  iapply (ldk I c 0 c ?_) $$ Hi
  · exact k0_off11_eq c
  iintro Hi
  iapply (ldv I c 0 c ?_) $$ Hi
  · exact k0_off12_eq c
  iintro Hi
  iapply (ldk I c 1 c ?_) $$ Hi
  · exact k0_off13_eq c
  iintro Hi
  iapply (ldv I c 1 c ?_) $$ Hi
  · exact k0_off14_eq c
  iintro Hi
  iapply (ldk I c 2 c ?_) $$ Hi
  · exact k0_off15_eq c
  iintro Hi
  iapply (ldv I c 2 c ?_) $$ Hi
  · exact k0_off16_eq c
  iintro Hi
  iapply (ldk I c 3 c ?_) $$ Hi
  · exact k0_off17_eq c
  iintro Hi
  iapply (ldv I c 3 c ?_) $$ Hi
  · exact k0_off18_eq c
  iintro Hi
  iapply (ldw I c 0 ?_) $$ Hi
  · exact rfl
  iintro Hi
  iapply (op_rs_wait (blocksOf I) κ c 15 (by decide) 0 0 _ rfl) $$ Hc Ho R0; iintro ⟨Ho, R0⟩
  iapply (ld_rs (blocksOf I) c 0 0 rfl) $$ R0; iintro R0
  iapply (op_rs_wait (blocksOf I) κ c 15 (by decide) 0 1 _ rfl) $$ Hc Ho R1; iintro ⟨Ho, R1⟩
  iapply (ld_rs (blocksOf I) c 0 1 rfl) $$ R1; iintro R1
  iapply (op_rs_wait (blocksOf I) κ c 15 (by decide) 0 2 _ rfl) $$ Hc Ho R2; iintro ⟨Ho, R2⟩
  iapply (run_bind c _ _)
  iapply (part21 I κ c _ ?_) $$ Hc Ho R2 A T1 L1
  · rfl
  iintro %v721 ⟨Ho, R2, T1, G0, G2⟩
  dsimp only
  iapply (op_ag_send (blocksOf I) κ c 16 0 0 _ (Fin.ext (k0_dev17_eq c)) _ _ rfl (agR_at 0 c (k0_off19_eq c 0)) rfl (k0_off20_eq c) (k0_off20_eq c)) $$ Hc Ho T0 G0 L0; iintro ⟨Ho, T0⟩
  iapply (op_ag_send (blocksOf I) κ c 17 0 2 _ (Fin.ext (k0_dev18_eq c)) _ _ rfl (agR_at 0 c (k0_off19_eq c 0)) rfl (k0_off20_eq c) (k0_off20_eq c)) $$ Hc Ho T2 G2 L2; iintro ⟨Ho, T2⟩
  iapply (out_put c c 0 (redF I c 0) ?_ rfl) $$ O
  · exact k0_off21_eq c
  iintro O
  iapply (ldw I c 1 ?_) $$ Hi
  · exact rfl
  iintro Hi
  iapply (run_eq c (p' := tailE c (place c) (hd I c c 0) (hd I c c 1) (hd I c c 2) (hd I c c 3) _ (wl I c 1) (k0_pay72 (hd I c c 0) (wl I c 1)) (k0_pay73 (wl I c 1)) (constant S128x128 .f32 0x00000000#32)) ?_)
  · rfl
  iapply Hk
  unfold three
  iframe

end Cert.KernelIdeal.Att
-- ==== Proof.Turns2.lean ====
/- The parts that store a finished block by its device's place. -/
module

public import proofs.«01_k».proof.Proof.Tails

@[expose] public section

set_option maxRecDepth 16384

noncomputable section

namespace Cert.KernelIdeal.Att

open Idealize.ShloMosaic Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (κ : GSem nD τ sig → ℕ) (c : Dev nD)

set_option maxHeartbeats 4000000 in
theorem part24 (v771 : FVec F S128x128 .f32) (h : k0_pay75 v771 ((blocksOf I).part (src c 1) 1 1) ((blocksOf I).part (src c 2) 1 2) = redF I c 1)
    {K : (Σ' (_ : FVec F S128x128 .f32), BitVec 1) → sProp 𝕄} : ctx (blocksOf I) κ c ⊢ iprop(owing c 18 -∗ rsGot (blocksOf I) c 1 1 -∗ rsIn c 1 2 -∗ agAny c 1 c
    -∗ ((owing c 18 ∗ rsGot (blocksOf I) c 1 1 ∗ rsGot (blocksOf I) c 1 2 ∗ agStep c 1 (k0_pay79 (redF I c 1)) 3) -∗ K ⟨redF I c 1, Scalar.cmpi .ne (Scalar.extui (Scalar.cmpi .eq (place c) 3#32) : BitVec 32) 0#32⟩)
    -∗ run c (onBufs (k0_part24 (F := F)) (place c) v771) K) := by
  rw [k0_part24_eq_skeleton]
  unfold onBufs k0_part24_skel
  simp only [semSignalWord, semWaitWord, Prog.lift, Prog.bind_op, Prog.bind_ret, Prog.pure_eq_ret, wp_deviceId, word_one, word_three, bar_sem, mk_eq]
  iintro #Hc Ho R1 R2 A Hk
  iapply (ld_rs (blocksOf I) c 1 1 rfl) $$ R1; iintro R1
  iapply (op_rs_wait (blocksOf I) κ c 18 (by decide) 1 2 _ rfl) $$ Hc Ho R2; iintro ⟨Ho, R2⟩
  iapply (ld_rs (blocksOf I) c 1 2 rfl) $$ R2; iintro R2
  ihave A := ag_first c 1 (k0_pay79 (redF I c 1)) $$ A
  iapply (ag_put c 1 0 0 1 rfl rfl (k0_pay79 (redF I c 1)) rfl (turn c 0) ?_) $$ A
  · rw [← h]; rfl
  iintro A
  iapply (ag_put c 1 1 1 2 rfl rfl (k0_pay79 (redF I c 1)) rfl (turn c 1) ?_) $$ A
  · rw [← h]; rfl
  iintro A
  iapply (ag_put c 1 2 2 3 rfl rfl (k0_pay79 (redF I c 1)) rfl (turn c 2) ?_) $$ A
  · rw [← h]; rfl
  iintro A
  iapply run_ret
  rw [h]
  iapply Hk
  iframe

set_option maxHeartbeats 4000000 in
theorem part25 {K : BitVec 32 → sProp 𝕄} : ctx (blocksOf I) κ c ⊢ iprop(owing c 18 -∗ agStep c 1 (k0_pay79 (redF I c 1)) 3 -∗ (agTok c 1 0 ∗ agTok c 1 1) -∗ (landA c 1 0 ∗ landA c 1 1)
    -∗ (∀ v, (owing c 20 ∗ agFly c 1 0 ∗ agFly c 1 1 ∗ agAt (sh 2) c 1 c ((blocksOf I).red c 1)) -∗ K v)
    -∗ run c (onBufs (k0_part25 (F := F)) c (place c) (redF I c 1) (Scalar.cmpi .ne (Scalar.extui (Scalar.cmpi .eq (place c) 3#32) : BitVec 32) 0#32)) K) := by
  rw [k0_part25_eq_skeleton]
  unfold onBufs k0_part25_skel
  simp only [semSignalWord, semWaitWord, Prog.lift, Prog.bind_op, Prog.bind_ret, Prog.pure_eq_ret, wp_deviceId, word_one, word_three, bar_sem, mk_eq]
  iintro #Hc Ho A ⟨T0, T1⟩ ⟨L0, L1⟩ Hk
  iapply (ag_put c 1 3 3 4 rfl rfl (k0_pay79 (redF I c 1)) rfl (turn c 3) ?_) $$ A
  · rfl
  iintro A
  ihave A := ag_last (blocksOf I) c 1 (k0_pay79 (redF I c 1)) rfl $$ A
  icases A with ⟨G0, G1, G2⟩
  iapply (op_ag_send (blocksOf I) κ c 18 1 1 _ (Fin.ext (k0_dev19_eq c)) _ _ rfl (agR_at 1 c (k0_off19_eq c 1)) rfl (k0_off22_eq c) (k0_off22_eq c)) $$ Hc Ho T1 G1 L1; iintro ⟨Ho, T1⟩
  iapply (op_ag_send (blocksOf I) κ c 19 1 0 _ (Fin.ext (k0_dev20_eq c)) _ _ rfl (agR_at 1 c (k0_off19_eq c 1)) rfl (k0_off22_eq c) (k0_off22_eq c)) $$ Hc Ho T0 G0 L0; iintro ⟨Ho, T0⟩
  iapply run_ret
  iapply Hk
  iframe

set_option maxHeartbeats 4000000 in
theorem part31 (v973 : FVec F S128x128 .f32) (h : k0_pay89 v973 ((blocksOf I).part (src c 1) 3 1) ((blocksOf I).part (src c 2) 3 2) = redF I c 3)
    {K : (Σ' (_ : FVec F S128x128 .f32), BitVec 32) → sProp 𝕄} : ctx (blocksOf I) κ c ⊢ iprop(owing c 24 -∗ rsIn c 3 1 -∗ rsIn c 3 2 -∗ agAny c 3 c
    -∗ ((owing c 24 ∗ rsGot (blocksOf I) c 3 1 ∗ rsGot (blocksOf I) c 3 2 ∗ agStep c 3 (k0_pay79 (redF I c 3)) 3) -∗ K ⟨redF I c 3, (Scalar.extui (Scalar.cmpi .eq (place c) 3#32) : BitVec 32)⟩)
    -∗ run c (onBufs (k0_part31 (F := F)) (place c) v973) K) := by
  rw [k0_part31_eq_skeleton]
  unfold onBufs k0_part31_skel
  simp only [semSignalWord, semWaitWord, Prog.lift, Prog.bind_op, Prog.bind_ret, Prog.pure_eq_ret, wp_deviceId, word_one, word_three, bar_sem, mk_eq]
  iintro #Hc Ho R1 R2 A Hk
  iapply (op_rs_wait (blocksOf I) κ c 24 (by decide) 3 1 _ rfl) $$ Hc Ho R1; iintro ⟨Ho, R1⟩
  iapply (ld_rs (blocksOf I) c 3 1 rfl) $$ R1; iintro R1
  iapply (op_rs_wait (blocksOf I) κ c 24 (by decide) 3 2 _ rfl) $$ Hc Ho R2; iintro ⟨Ho, R2⟩
  iapply (ld_rs (blocksOf I) c 3 2 rfl) $$ R2; iintro R2
  ihave A := ag_first c 3 (k0_pay79 (redF I c 3)) $$ A
  iapply (ag_put c 3 0 0 1 rfl rfl (k0_pay79 (redF I c 3)) rfl (turn c 0) ?_) $$ A
  · rw [← h]; rfl
  iintro A
  iapply (ag_put c 3 1 1 2 rfl rfl (k0_pay79 (redF I c 3)) rfl (turn c 1) ?_) $$ A
  · rw [← h]; rfl
  iintro A
  iapply (ag_put c 3 2 2 3 rfl rfl (k0_pay79 (redF I c 3)) rfl (turn c 2) ?_) $$ A
  · rw [← h]; rfl
  iintro A
  iapply run_ret
  rw [h]
  iapply Hk
  iframe

set_option maxHeartbeats 4000000 in
theorem part32 {K : (Σ' (_ : BitVec 32), BitVec 32) → sProp 𝕄} : ctx (blocksOf I) κ c ⊢ iprop(owing c 24 -∗ agStep c 3 (k0_pay79 (redF I c 3)) 3 -∗ (agTok c 3 0 ∗ agTok c 3 1) -∗ (landA c 3 0 ∗ landA c 3 1)
    -∗ (∀ v, (owing c 26 ∗ agFly c 3 0 ∗ agFly c 3 1 ∗ agAt (sh 2) c 3 c ((blocksOf I).red c 3)) -∗ K v)
    -∗ run c (onBufs (k0_part32 (F := F)) c (place c) (redF I c 3) ((Scalar.extui (Scalar.cmpi .eq (place c) 3#32) : BitVec 32))) K) := by
  rw [k0_part32_eq_skeleton]
  unfold onBufs k0_part32_skel
  simp only [semSignalWord, semWaitWord, Prog.lift, Prog.bind_op, Prog.bind_ret, Prog.pure_eq_ret, wp_deviceId, word_one, word_three, bar_sem, mk_eq]
  iintro #Hc Ho A ⟨T0, T1⟩ ⟨L0, L1⟩ Hk
  iapply (ag_put c 3 3 3 4 rfl rfl (k0_pay79 (redF I c 3)) rfl (turn c 3) ?_) $$ A
  · rfl
  iintro A
  ihave A := ag_last (blocksOf I) c 3 (k0_pay79 (redF I c 3)) rfl $$ A
  icases A with ⟨G0, G1, G2⟩
  iapply (op_ag_send (blocksOf I) κ c 24 3 1 _ (Fin.ext (k0_dev25_eq c)) _ _ rfl (agR_at 3 c (k0_off19_eq c 3)) rfl (k0_off26_eq c) (k0_off26_eq c)) $$ Hc Ho T1 G1 L1; iintro ⟨Ho, T1⟩
  iapply (op_ag_send (blocksOf I) κ c 25 3 0 _ (Fin.ext (k0_dev26_eq c)) _ _ rfl (agR_at 3 c (k0_off19_eq c 3)) rfl (k0_off26_eq c) (k0_off26_eq c)) $$ Hc Ho T0 G0 L0; iintro ⟨Ho, T0⟩
  iapply run_ret
  iapply Hk
  iframe

end Cert.KernelIdeal.Att
-- ==== Proof.SegE.lean ====
/- The second and third finished quarters. -/
module

public import proofs.«01_k».proof.Proof.Turns
public import proofs.«01_k».proof.Proof.Turns2

@[expose] public section

set_option maxRecDepth 16384

noncomputable section

namespace Cert.KernelIdeal.Att

open Idealize.ShloMosaic Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (κ : GSem nD τ sig → ℕ) (c : Dev nD)

set_option maxHeartbeats 4000000 in
theorem segE (v646) {Q : PUnit → sProp 𝕄} : ctx (blocksOf I) κ c ⊢ iprop(owing c 18 -∗ ins I c -∗ three (rsIn c 1) -∗ agAny c 1 c -∗ three (agTok c 1) -∗ three (landA c 1) -∗ outAny c c 1
    -∗ three (rsIn c 2) -∗ agAny c 2 c -∗ agTok c 2 1 -∗ landA c 2 1
    -∗ ((owing c 22 ∗ ins I c ∗ three (rsGot (blocksOf I) c 1) ∗ three (agFly c 1) ∗ outAt c c 1 (redF I c 1)
        ∗ three (rsGot (blocksOf I) c 2) ∗ agFly c 2 1 ∗ agAt (sh 0) c 2 c ((blocksOf I).red c 2) ∗ agAt (sh 2) c 2 c ((blocksOf I).red c 2))
      -∗ run c (tailF c (place c) (hd I c c 0) (hd I c c 1) (hd I c c 2) (hd I c c 3) v646 (redF I c 2)) Q)
    -∗ run c (tailE c (place c) (hd I c c 0) (hd I c c 1) (hd I c c 2) (hd I c c 3) v646 (wl I c 1) (k0_pay72 (hd I c c 0) (wl I c 1)) (k0_pay73 (wl I c 1)) (constant S128x128 .f32 0x00000000#32)) Q) := by
  unfold tailE
  rw [k0_part23_eq_skeleton, k0_part26_eq_skeleton, k0_part27_eq_skeleton]
  unfold k0_part23_skel k0_part26_skel k0_part27_skel
  simp only [semSignalWord, semWaitWord, Prog.lift, Prog.bind_op, Prog.bind_ret, Prog.pure_eq_ret, wp_deviceId, word_one, word_three, bar_sem, mk_eq]
  iintro #Hc Ho Hi ⟨R0, R1, R2⟩ A ⟨T0, T1, T2⟩ ⟨L0, L1, L2⟩ O ⟨S0, S1, S2⟩ B U1 M1 Hk
  iapply (op_rs_wait (blocksOf I) κ c 18 (by decide) 1 0 _ rfl) $$ Hc Ho R0; iintro ⟨Ho, R0⟩
  iapply (ld_rs (blocksOf I) c 1 0 rfl) $$ R0; iintro R0
  iapply (op_rs_wait (blocksOf I) κ c 18 (by decide) 1 1 _ rfl) $$ Hc Ho R1; iintro ⟨Ho, R1⟩
  iapply (run_bind c _ _)
  iapply (part24 I κ c _ ?_) $$ Hc Ho R1 R2 A
  · rfl
  iintro ⟨Ho, R1, R2, A⟩
  dsimp only
  iapply (run_bind c _ _)
  iapply (part25 I κ c) $$ Hc Ho A [T0 T1] [L0 L1]
  · iframe
  · iframe
  iintro %v ⟨Ho, T0, T1, G2⟩
  iapply (op_ag_send (blocksOf I) κ c 20 1 2 _ (Fin.ext (k0_dev21_eq c)) _ _ rfl (agR_at 1 c (k0_off19_eq c 1)) rfl (k0_off22_eq c) (k0_off22_eq c)) $$ Hc Ho T2 G2 L2; iintro ⟨Ho, T2⟩
  iapply (out_put c c 1 (redF I c 1) ?_ rfl) $$ O
  · exact k0_off23_eq c
  iintro O
  iapply (ldw I c 2 ?_) $$ Hi
  · exact rfl
  iintro Hi
  iapply (op_rs_wait (blocksOf I) κ c 21 (by decide) 2 0 _ rfl) $$ Hc Ho S0; iintro ⟨Ho, S0⟩
  iapply (ld_rs (blocksOf I) c 2 0 rfl) $$ S0; iintro S0
  iapply (op_rs_wait (blocksOf I) κ c 21 (by decide) 2 1 _ rfl) $$ Hc Ho S1; iintro ⟨Ho, S1⟩
  iapply (ld_rs (blocksOf I) c 2 1 rfl) $$ S1; iintro S1
  iapply (op_rs_wait (blocksOf I) κ c 21 (by decide) 2 2 _ rfl) $$ Hc Ho S2; iintro ⟨Ho, S2⟩
  iapply (run_bind c _ _)
  iapply (part28 I κ c _ ?_) $$ Hc Ho S2 B U1 M1
  · rfl
  iintro ⟨Ho, S2, U1, G0, G2⟩
  iapply Hk
  unfold three
  iframe

end Cert.KernelIdeal.Att
-- ==== Proof.SegF.lean ====
/- The last finished quarter, and the first arrival. -/
module

public import proofs.«01_k».proof.Proof.Turns2

@[expose] public section

set_option maxRecDepth 16384

noncomputable section

namespace Cert.KernelIdeal.Att

open Idealize.ShloMosaic Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (κ : GSem nD τ sig → ℕ) (c : Dev nD)

set_option maxHeartbeats 4000000 in
theorem segF (v646) {Q : PUnit → sProp 𝕄} : ctx (blocksOf I) κ c ⊢ iprop(owing c 22 -∗ ins I c
    -∗ (agTok c 2 0 ∗ agTok c 2 2) -∗ (landA c 2 0 ∗ landA c 2 2) -∗ agAt (sh 0) c 2 c ((blocksOf I).red c 2) -∗ agAt (sh 2) c 2 c ((blocksOf I).red c 2) -∗ outAny c c 2
    -∗ three (rsIn c 3) -∗ agAny c 3 c -∗ three (agTok c 3) -∗ three (landA c 3) -∗ outAny c c 3 -∗ agIn c 0 0
    -∗ (∀ v1052, ∀ v1053, (owing c 27 ∗ ins I c ∗ (agFly c 2 0 ∗ agFly c 2 2) ∗ outAt c c 2 (redF I c 2)
        ∗ three (rsGot (blocksOf I) c 3) ∗ three (agFly c 3) ∗ outAt c c 3 (redF I c 3) ∗ agGot (blocksOf I) c 0 0)
      -∗ run c (tailG c (place c) v1052 v1053 (k0_pay94 (redV I (agT c 0) 0))) Q)
    -∗ run c (tailF c (place c) (hd I c c 0) (hd I c c 1) (hd I c c 2) (hd I c c 3) v646 (redF I c 2)) Q) := by
  unfold tailF
  rw [k0_part29_eq_skeleton, k0_part30_eq_skeleton, k0_part33_eq_skeleton]
  unfold k0_part29_skel k0_part30_skel k0_part33_skel
  simp only [semSignalWord, semWaitWord, Prog.lift, Prog.bind_op, Prog.bind_ret, Prog.pure_eq_ret, wp_deviceId, word_one, word_three, bar_sem, mk_eq]
  iintro #Hc Ho Hi ⟨T0, T2⟩ ⟨L0, L2⟩ G0 G2 O ⟨R0, R1, R2⟩ A ⟨U0, U1, U2⟩ ⟨M0, M1, M2⟩ P W Hk
  iapply (op_ag_send (blocksOf I) κ c 22 2 0 _ (Fin.ext (k0_dev23_eq c)) _ _ rfl (agR_at 2 c (k0_off19_eq c 2)) rfl (k0_off24_eq c) (k0_off24_eq c)) $$ Hc Ho T0 G0 L0; iintro ⟨Ho, T0⟩
  iapply (op_ag_send (blocksOf I) κ c 23 2 2 _ (Fin.ext (k0_dev24_eq c)) _ _ rfl (agR_at 2 c (k0_off19_eq c 2)) rfl (k0_off24_eq c) (k0_off24_eq c)) $$ Hc Ho T2 G2 L2; iintro ⟨Ho, T2⟩
  iapply (out_put c c 2 (redF I c 2) ?_ rfl) $$ O
  · exact k0_off25_eq c
  iintro O
  iapply (ldw I c 3 ?_) $$ Hi
  · exact rfl
  iintro Hi
  iapply (op_rs_wait (blocksOf I) κ c 24 (by decide) 3 0 _ rfl) $$ Hc Ho R0; iintro ⟨Ho, R0⟩
  iapply (ld_rs (blocksOf I) c 3 0 rfl) $$ R0; iintro R0
  iapply (run_bind c _ _)
  iapply (part31 I κ c _ ?_) $$ Hc Ho R1 R2 A
  · rfl
  iintro ⟨Ho, R1, R2, A⟩
  dsimp only
  iapply (run_bind c _ _)
  iapply (part32 I κ c) $$ Hc Ho A [U0 U1] [M0 M1]
  · iframe
  · iframe
  iintro %v ⟨Ho, U0, U1, G2⟩
  iapply (op_ag_send (blocksOf I) κ c 26 3 2 _ (Fin.ext (k0_dev27_eq c)) _ _ rfl (agR_at 3 c (k0_off19_eq c 3)) rfl (k0_off26_eq c) (k0_off26_eq c)) $$ Hc Ho U2 G2 M2; iintro ⟨Ho, U2⟩
  iapply (out_put c c 3 (redF I c 3) ?_ rfl) $$ P
  · exact k0_off27_eq c
  iintro P
  iapply (op_ag_wait (blocksOf I) κ c 27 (by decide) 0 0 _ (agR_at 0 (agT c 0) (k0_off28_eq c 0 0))) $$ Hc Ho W; iintro ⟨Ho, W⟩
  iapply (ld_ag (blocksOf I) c 0 0 (k0_off30_eq c 0)) $$ W; iintro W
  rw [show k0_pay94 ((blocksOf I).red (agT c 0) 0) = k0_pay94 (redV I (agT c 0) 0) from rfl]
  iapply Hk $$ %(Scalar.remsi (Scalar.addi (place c) 1#32) 4#32) %(Scalar.muli (Scalar.remsi (Scalar.addi (place c) 1#32) 4#32) 128#32)
  unfold three
  iframe

end Cert.KernelIdeal.Att
-- ==== Proof.SegG.lean ====
/- The arrivals of the finished quarters of the other devices, written out. -/
module

public import proofs.«01_k».proof.Proof.Tails

@[expose] public section

set_option maxRecDepth 16384

noncomputable section

namespace Cert.KernelIdeal.Att

open Idealize.ShloMosaic Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (κ : GSem nD τ sig → ℕ) (c : Dev nD)

set_option maxHeartbeats 4000000 in
theorem segG (v1052 v1053) {Q : PUnit → sProp 𝕄} : ctx (blocksOf I) κ c ⊢ iprop(owing c 27 -∗ agGot (blocksOf I) c 0 0 -∗ (agIn c 1 0 ∗ agIn c 2 0 ∗ agIn c 3 0)
    -∗ four (fun hf => agIn c hf 1) -∗ four (fun hf => agIn c hf 2) -∗ four (outAny c (agT c 0)) -∗ four (outAny c (agT c 1)) -∗ (outAny c (agT c 2) 0 ∗ outAny c (agT c 2) 1 ∗ outAny c (agT c 2) 2)
    -∗ (∀ v1179, (owing c 27 ∗ four (fun hf => agGot (blocksOf I) c hf 0) ∗ four (fun hf => agGot (blocksOf I) c hf 1) ∗ four (fun hf => agGot (blocksOf I) c hf 2)
        ∗ four (fun hf => outAt c (agT c 0) hf (k0_pay94 (redV I (agT c 0) hf))) ∗ four (fun hf => outAt c (agT c 1) hf (k0_pay94 (redV I (agT c 1) hf)))
        ∗ (outAt c (agT c 2) 0 (k0_pay94 (redV I (agT c 2) 0)) ∗ outAt c (agT c 2) 1 (k0_pay94 (redV I (agT c 2) 1)) ∗ outAt c (agT c 2) 2 (k0_pay94 (redV I (agT c 2) 2))))
      -∗ run c (tailH c (place c) v1179) Q)
    -∗ run c (tailG c (place c) v1052 v1053 (k0_pay94 (redV I (agT c 0) 0))) Q) := by
  unfold tailG
  rw [k0_part34_eq_skeleton, k0_part35_eq_skeleton, k0_part36_eq_skeleton, k0_part37_eq_skeleton, k0_part38_eq_skeleton, k0_part39_eq_skeleton]
  unfold onBufs k0_part34_skel k0_part35_skel k0_part36_skel k0_part37_skel k0_part38_skel k0_part39_skel
  simp only [semSignalWord, semWaitWord, Prog.lift, Prog.bind_op, Prog.bind_ret, Prog.pure_eq_ret, wp_deviceId, word_one, word_three, bar_sem, mk_eq]
  iintro #Hc Ho W00 ⟨W10, W20, W30⟩ ⟨W01, W11, W21, W31⟩ ⟨W02, W12, W22, W32⟩ ⟨O00, O10, O20, O30⟩ ⟨O01, O11, O21, O31⟩ ⟨O02, O12, O22⟩ Hk
  iapply (out_put c (agT c 0) 0 (k0_pay94 (redV I (agT c 0) 0)) (k0_off31_eq c 0) rfl) $$ O00; iintro O00
  iapply (op_ag_wait (blocksOf I) κ c 27 (by decide) 1 0 _ (agR_at 1 (agT c 0) (k0_off28_eq c 1 0))) $$ Hc Ho W10; iintro ⟨Ho, W10⟩
  iapply (ld_ag (blocksOf I) c 1 0 (k0_off33_eq c 0)) $$ W10; iintro W10
  iapply (out_put c (agT c 0) 1 (k0_pay94 (redV I (agT c 0) 1)) (k0_off34_eq c 0) rfl) $$ O10; iintro O10
  iapply (op_ag_wait (blocksOf I) κ c 27 (by decide) 2 0 _ (agR_at 2 (agT c 0) (k0_off28_eq c 2 0))) $$ Hc Ho W20; iintro ⟨Ho, W20⟩
  iapply (ld_ag (blocksOf I) c 2 0 (k0_off36_eq c 0)) $$ W20; iintro W20
  iapply (out_put c (agT c 0) 2 (k0_pay94 (redV I (agT c 0) 2)) (k0_off37_eq c 0) rfl) $$ O20; iintro O20
  iapply (op_ag_wait (blocksOf I) κ c 27 (by decide) 3 0 _ (agR_at 3 (agT c 0) (k0_off28_eq c 3 0))) $$ Hc Ho W30; iintro ⟨Ho, W30⟩
  iapply (ld_ag (blocksOf I) c 3 0 (k0_off39_eq c 0)) $$ W30; iintro W30
  iapply (out_put c (agT c 0) 3 (k0_pay94 (redV I (agT c 0) 3)) (k0_off40_eq c 0) rfl) $$ O30; iintro O30
  iapply (op_ag_wait (blocksOf I) κ c 27 (by decide) 0 1 _ (agR_at 0 (agT c 1) (k0_off28_eq c 0 1))) $$ Hc Ho W01; iintro ⟨Ho, W01⟩
  iapply (ld_ag (blocksOf I) c 0 1 (k0_off30_eq c 1)) $$ W01; iintro W01
  iapply (out_put c (agT c 1) 0 (k0_pay94 (redV I (agT c 1) 0)) (k0_off31_eq c 1) rfl) $$ O01; iintro O01
  iapply (op_ag_wait (blocksOf I) κ c 27 (by decide) 1 1 _ (agR_at 1 (agT c 1) (k0_off28_eq c 1 1))) $$ Hc Ho W11; iintro ⟨Ho, W11⟩
  iapply (ld_ag (blocksOf I) c 1 1 (k0_off33_eq c 1)) $$ W11; iintro W11
  iapply (out_put c (agT c 1) 1 (k0_pay94 (redV I (agT c 1) 1)) (k0_off34_eq c 1) rfl) $$ O11; iintro O11
  iapply (op_ag_wait (blocksOf I) κ c 27 (by decide) 2 1 _ (agR_at 2 (agT c 1) (k0_off28_eq c 2 1))) $$ Hc Ho W21; iintro ⟨Ho, W21⟩
  iapply (ld_ag (blocksOf I) c 2 1 (k0_off36_eq c 1)) $$ W21; iintro W21
  iapply (out_put c (agT c 1) 2 (k0_pay94 (redV I (agT c 1) 2)) (k0_off37_eq c 1) rfl) $$ O21; iintro O21
  iapply (op_ag_wait (blocksOf I) κ c 27 (by decide) 3 1 _ (agR_at 3 (agT c 1) (k0_off28_eq c 3 1))) $$ Hc Ho W31; iintro ⟨Ho, W31⟩
  iapply (ld_ag (blocksOf I) c 3 1 (k0_off39_eq c 1)) $$ W31; iintro W31
  iapply (out_put c (agT c 1) 3 (k0_pay94 (redV I (agT c 1) 3)) (k0_off40_eq c 1) rfl) $$ O31; iintro O31
  iapply (op_ag_wait (blocksOf I) κ c 27 (by decide) 0 2 _ (agR_at 0 (agT c 2) (k0_off28_eq c 0 2))) $$ Hc Ho W02; iintro ⟨Ho, W02⟩
  iapply (ld_ag (blocksOf I) c 0 2 (k0_off30_eq c 2)) $$ W02; iintro W02
  iapply (out_put c (agT c 2) 0 (k0_pay94 (redV I (agT c 2) 0)) (k0_off31_eq c 2) rfl) $$ O02; iintro O02
  iapply (op_ag_wait (blocksOf I) κ c 27 (by decide) 1 2 _ (agR_at 1 (agT c 2) (k0_off28_eq c 1 2))) $$ Hc Ho W12; iintro ⟨Ho, W12⟩
  iapply (ld_ag (blocksOf I) c 1 2 (k0_off33_eq c 2)) $$ W12; iintro W12
  iapply (out_put c (agT c 2) 1 (k0_pay94 (redV I (agT c 2) 1)) (k0_off34_eq c 2) rfl) $$ O12; iintro O12
  iapply (op_ag_wait (blocksOf I) κ c 27 (by decide) 2 2 _ (agR_at 2 (agT c 2) (k0_off28_eq c 2 2))) $$ Hc Ho W22; iintro ⟨Ho, W22⟩
  iapply (ld_ag (blocksOf I) c 2 2 (k0_off36_eq c 2)) $$ W22; iintro W22
  iapply (out_put c (agT c 2) 2 (k0_pay94 (redV I (agT c 2) 2)) (k0_off37_eq c 2) rfl) $$ O22; iintro O22
  iapply (op_ag_wait (blocksOf I) κ c 27 (by decide) 3 2 _ (agR_at 3 (agT c 2) (k0_off28_eq c 3 2))) $$ Hc Ho W32; iintro ⟨Ho, W32⟩
  iapply Hk
  unfold four
  iframe

end Cert.KernelIdeal.Att
-- ==== Proof.SegH.lean ====
/- The last tile, and the ends of the device's own copies. -/
module

public import proofs.«01_k».proof.Proof.Tails

@[expose] public section

set_option maxRecDepth 16384

noncomputable section

namespace Cert.KernelIdeal.Att

open Idealize.ShloMosaic Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (κ : GSem nD τ sig → ℕ) (c : Dev nD)

set_option maxHeartbeats 4000000 in
theorem segH (v1179) {Q : PUnit → sProp 𝕄} : ctx (blocksOf I) κ c ⊢ iprop(owing c 27 -∗ agGot (blocksOf I) c 3 2 -∗ outAny c (agT c 2) 3
    -∗ four (fun hf => rsFly c hf 0) -∗ four (fun hf => rsFly c hf 1) -∗ four (fun hf => rsFly c hf 2) -∗ four (fun hf => three (agFly c hf))
    -∗ ((owing c 27 ∗ agGot (blocksOf I) c 3 2 ∗ outAt c (agT c 2) 3 (k0_pay94 (redV I (agT c 2) 3))
        ∗ four (fun hf => rsDone c hf 0) ∗ four (fun hf => rsDone c hf 1) ∗ four (fun hf => rsDone c hf 2) ∗ four (fun hf => three (agDone (blocksOf I) c hf))) -∗ Q ⟨⟩)
    -∗ run c (tailH c (place c) v1179) Q) := by
  unfold tailH
  rw [k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
  unfold onBufs k0_part40_skel k0_part41_skel k0_part42_skel k0_part43_skel k0_part44_skel k0_part45_skel k0_part46_skel k0_part47_skel k0_part48_skel
  simp only [semSignalWord, semWaitWord, Prog.lift, Prog.bind_op, Prog.bind_ret, Prog.pure_eq_ret, wp_deviceId, word_one, word_three, bar_sem, mk_eq]
  iintro #Hc Ho W32 O32 ⟨R00, R10, R20, R30⟩ ⟨R01, R11, R21, R31⟩ ⟨R02, R12, R22, R32⟩ ⟨⟨A00, A01, A02⟩, ⟨A10, A11, A12⟩, ⟨A20, A21, A22⟩, A30, A31, A32⟩ Hk
  iapply (ld_ag (blocksOf I) c 3 2 (k0_off39_eq c 2)) $$ W32; iintro W32
  iapply (out_put c (agT c 2) 3 (k0_pay94 (redV I (agT c 2) 3)) (k0_off40_eq c 2) rfl) $$ O32; iintro O32
  iapply (op_rs_end (blocksOf I) κ c 27 (by decide) 0 0 _ rfl) $$ Hc Ho R00; iintro ⟨Ho, R00⟩
  iapply (op_rs_end (blocksOf I) κ c 27 (by decide) 1 0 _ rfl) $$ Hc Ho R10; iintro ⟨Ho, R10⟩
  iapply (op_rs_end (blocksOf I) κ c 27 (by decide) 2 0 _ rfl) $$ Hc Ho R20; iintro ⟨Ho, R20⟩
  iapply (op_rs_end (blocksOf I) κ c 27 (by decide) 3 0 _ rfl) $$ Hc Ho R30; iintro ⟨Ho, R30⟩
  iapply (op_rs_end (blocksOf I) κ c 27 (by decide) 0 1 _ rfl) $$ Hc Ho R01; iintro ⟨Ho, R01⟩
  iapply (op_rs_end (blocksOf I) κ c 27 (by decide) 1 1 _ rfl) $$ Hc Ho R11; iintro ⟨Ho, R11⟩
  iapply (op_rs_end (blocksOf I) κ c 27 (by decide) 2 1 _ rfl) $$ Hc Ho R21; iintro ⟨Ho, R21⟩
  iapply (op_rs_end (blocksOf I) κ c 27 (by decide) 3 1 _ rfl) $$ Hc Ho R31; iintro ⟨Ho, R31⟩
  iapply (op_rs_end (blocksOf I) κ c 27 (by decide) 0 2 _ rfl) $$ Hc Ho R02; iintro ⟨Ho, R02⟩
  iapply (op_rs_end (blocksOf I) κ c 27 (by decide) 1 2 _ rfl) $$ Hc Ho R12; iintro ⟨Ho, R12⟩
  iapply (op_rs_end (blocksOf I) κ c 27 (by decide) 2 2 _ rfl) $$ Hc Ho R22; iintro ⟨Ho, R22⟩
  iapply (op_rs_end (blocksOf I) κ c 27 (by decide) 3 2 _ rfl) $$ Hc Ho R32; iintro ⟨Ho, R32⟩
  iapply (op_ag_end (blocksOf I) κ c 27 (by decide) 0 0 _ rfl) $$ Hc Ho A00; iintro ⟨Ho, A00⟩
  iapply (op_ag_end (blocksOf I) κ c 27 (by decide) 0 1 _ rfl) $$ Hc Ho A01; iintro ⟨Ho, A01⟩
  iapply (op_ag_end (blocksOf I) κ c 27 (by decide) 0 2 _ rfl) $$ Hc Ho A02; iintro ⟨Ho, A02⟩
  iapply (op_ag_end (blocksOf I) κ c 27 (by decide) 1 0 _ rfl) $$ Hc Ho A10; iintro ⟨Ho, A10⟩
  iapply (op_ag_end (blocksOf I) κ c 27 (by decide) 1 1 _ rfl) $$ Hc Ho A11; iintro ⟨Ho, A11⟩
  iapply (op_ag_end (blocksOf I) κ c 27 (by decide) 1 2 _ rfl) $$ Hc Ho A12; iintro ⟨Ho, A12⟩
  iapply (op_ag_end (blocksOf I) κ c 27 (by decide) 2 0 _ rfl) $$ Hc Ho A20; iintro ⟨Ho, A20⟩
  iapply (op_ag_end (blocksOf I) κ c 27 (by decide) 2 1 _ rfl) $$ Hc Ho A21; iintro ⟨Ho, A21⟩
  iapply (op_ag_end (blocksOf I) κ c 27 (by decide) 2 2 _ rfl) $$ Hc Ho A22; iintro ⟨Ho, A22⟩
  iapply (op_ag_end (blocksOf I) κ c 27 (by decide) 3 0 _ rfl) $$ Hc Ho A30; iintro ⟨Ho, A30⟩
  iapply (op_ag_end (blocksOf I) κ c 27 (by decide) 3 1 _ rfl) $$ Hc Ho A31; iintro ⟨Ho, A31⟩
  iapply (op_ag_end (blocksOf I) κ c 27 (by decide) 3 2 _ rfl) $$ Hc Ho A32; iintro ⟨Ho, A32⟩
  iapply run_ret
  iapply Hk
  unfold four three
  dsimp only
  iframe

end Cert.KernelIdeal.Att
-- ==== Proof.Body.lean ====
/- The whole kernel on one device: the eight runs one after the other. -/
module

public import proofs.«01_k».proof.Proof.SegA
public import proofs.«01_k».proof.Proof.SegB
public import proofs.«01_k».proof.Proof.SegC
public import proofs.«01_k».proof.Proof.SegD
public import proofs.«01_k».proof.Proof.SegE
public import proofs.«01_k».proof.Proof.SegF
public import proofs.«01_k».proof.Proof.SegG
public import proofs.«01_k».proof.Proof.SegH

@[expose] public section

set_option maxRecDepth 16384

noncomputable section

namespace Cert.KernelIdeal.Att

open Idealize.ShloMosaic Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The tokens, positions and credits device `c` starts the kernel with. -/
def linear (c : Dev nD) : sProp 𝕄 :=
  iprop((three (fun k => dutyTok ER (barC (agT c k)) 0 k) ∗ barIn c)
    ∗ three (fun j => four fun hf => rsTok c hf j) ∗ (four fun hf => three fun j => rsIn c hf j)
    ∗ (four fun hf => three fun d => agTok c hf d) ∗ (three fun d => four fun hf => agIn c hf d))

/-- The scratch buffers, slot by slot. -/
def slots (c : Dev nD) : sProp 𝕄 :=
  iprop((anyWqb c ∗ anyWob c) ∗ three (fun j => four fun hf => partAny c hf j)
    ∗ three (fun j => four fun hf => rsAny c hf j) ∗ three (fun d => four fun hf => agAny c hf (agT c d)) ∗ four (fun hf => agAny c hf c))

/-- The output block, tile by tile, before and after. -/
def outs0 (c : Dev nD) : sProp 𝕄 :=
  iprop(four (outAny c c) ∗ three fun d => four (outAny c (agT c d)))
def outs1 (I : Inp F) (c : Dev nD) : sProp 𝕄 :=
  iprop(four (fun hf => outAt c c hf (redF I c hf)) ∗ three fun d => four fun hf => outAt c (agT c d) hf (k0_pay94 (redV I (agT c d) hf)))

/-- The operands. -/
def raws (I : Inp F) (c : Dev nD) : sProp 𝕄 := iprop(atX I c ∗ atWq I c ∗ atK I c ∗ atV I c ∗ atWo I c)

/-- The kernel's semaphores back at zero. -/
def zeros (c : Dev nD) : sProp 𝕄 :=
  iprop(semVal (barC c) 0 ∗ three (fun j => four fun hf => semVal (rsSC c hf j) 0) ∗ three (fun j => four fun hf => semVal (rsRC c hf j) 0)
    ∗ (three fun d => four fun hf => semVal (agSC c hf d) 0) ∗ (three fun d => four fun hf => semVal (agRC c hf (agT c d)) 0))

theorem bar_out (c : Dev nD) (k j : Fin 3) (h : jOf k = j) :
    iprop(dutyTok ER (barC (agT c k)) 0 k ∗ four (fun hf => rsAny c hf j) ∗ four (fun hf => agAny c hf (agT c k))) ⊢ (barOut c k : sProp 𝕄) := by
  subst h
  unfold barOut
  rw [over_four]
  unfold four
  dsimp only
  iintro ⟨T, ⟨R0, R1, R2, R3⟩, A0, A1, A2, A3⟩
  iframe

theorem any_wqb (I : Inp F) (c : Dev nD) : (atWqb I c : sProp 𝕄) ⊢ anyWqb c := by
  unfold atWqb anyWqb; iintro H; iexists _; iexact H
theorem any_wob (I : Inp F) (c : Dev nD) : (atWob I c : sProp 𝕄) ⊢ anyWob c := by
  unfold atWob anyWob; iintro H; iexists _; iexact H

theorem done_rs (c : Dev nD) (j : Fin 3) :
    four (fun hf => rsDone c hf j) ⊢ (iprop(four (fun hf => semVal (rsSC c hf j) 0) ∗ four (fun hf => partAny c hf j)) : sProp 𝕄) := by
  unfold four rsDone
  iintro ⟨⟨S0, P0⟩, ⟨S1, P1⟩, ⟨S2, P2⟩, S3, P3⟩
  iframe
theorem got_rs (B : Blocks F) (c : Dev nD) (hf : Fin 4) (j : Fin 3) : rsGot B c hf j ⊢ (iprop(semVal (rsRC c hf j) 0 ∗ rsAny c hf j) : sProp 𝕄) := by
  unfold rsGot
  iintro ⟨S, P⟩
  isplitl [S]; · iexact S
  iapply (rsAt_any c hf j _) $$ P
theorem got_ag (B : Blocks F) (c : Dev nD) (hf : Fin 4) (d : Fin 3) : agGot B c hf d ⊢ (iprop(semVal (agRC c hf (agT c d)) 0 ∗ agAny c hf (agT c d)) : sProp 𝕄) := by
  unfold agGot
  iintro ⟨S, P⟩
  isplitl [S]; · iexact S
  iapply (agAt_any c hf _ _) $$ P
theorem got_ag4 (B : Blocks F) (c : Dev nD) (d : Fin 3) :
    four (fun hf => agGot B c hf d) ⊢ (iprop(four (fun hf => semVal (agRC c hf (agT c d)) 0) ∗ four (fun hf => agAny c hf (agT c d))) : sProp 𝕄) := by
  unfold four
  iintro ⟨H0, H1, H2, H3⟩
  icases (got_ag B c 0 d) $$ H0 with ⟨S0, P0⟩
  icases (got_ag B c 1 d) $$ H1 with ⟨S1, P1⟩
  icases (got_ag B c 2 d) $$ H2 with ⟨S2, P2⟩
  icases (got_ag B c 3 d) $$ H3 with ⟨S3, P3⟩
  iframe
theorem got_rs3 (B : Blocks F) (c : Dev nD) (hf : Fin 4) :
    three (rsGot B c hf) ⊢ (iprop(three (fun j => semVal (rsRC c hf j) 0) ∗ three (fun j => rsAny c hf j)) : sProp 𝕄) := by
  unfold three
  iintro ⟨H0, H1, H2⟩
  icases (got_rs B c hf 0) $$ H0 with ⟨S0, P0⟩
  icases (got_rs B c hf 1) $$ H1 with ⟨S1, P1⟩
  icases (got_rs B c hf 2) $$ H2 with ⟨S2, P2⟩
  iframe
theorem done_ag (B : Blocks F) (c : Dev nD) (hf : Fin 4) :
    three (agDone B c hf) ⊢ (iprop(three (fun d => semVal (agSC c hf d) 0) ∗ agAny c hf c) : sProp 𝕄) := by
  unfold three agDone
  iintro ⟨⟨S0, P0⟩, ⟨S1, P1⟩, S2, P2⟩
  isplitl [S0 S1 S2]; · iframe
  iapply (ag_back c hf (B.red c hf))
  iframe

/-- The kernel runs on device `c`, and leaves its tiles of the result in the output block. -/
theorem bodyRun (I : Inp F) (κ : GSem nD τ sig → ℕ) (c : Dev nD) {Q : PUnit → sProp (MT nD τ sig Unit (Elt F) ℕ UU ℕ)} :
    ctx (blocksOf I) κ c ⊢ iprop(owing c 0 -∗ linear c -∗ slots c -∗ outs0 c -∗ raws I c
      -∗ ((owing c 27 ∗ zeros c ∗ slots c ∗ outs1 I c ∗ raws I c) -∗ Q ⟨⟩) -∗ run c tailA Q) := by
  unfold linear slots outs0 raws
  iintro #Hc Ho ⟨⟨T, Hbi⟩, ⟨T0, T1, T2⟩, ⟨RI0, RI1, RI2, RI3⟩, ⟨U0, U1, U2, U3⟩, ⟨AI0, AI1, AI2⟩⟩ ⟨⟨Wqb, Wob⟩, ⟨P0, P1, P2⟩, ⟨R0, R1, R2⟩, ⟨A0, A1, A2⟩, ⟨D0, D1, D2, D3⟩⟩
    ⟨⟨O0, O1, O2, O3⟩, ⟨OA, OB, OC⟩⟩ Hraw Hk
  icases T with ⟨B0, B1, B2⟩
  ihave B0 := (bar_out c 0 2 rfl) $$ [B0 R2 A0]
  · dsimp only; iframe
  ihave B1 := (bar_out c 1 0 rfl) $$ [B1 R0 A1]
  · dsimp only; iframe
  ihave B2 := (bar_out c 2 1 rfl) $$ [B2 R1 A2]
  · dsimp only; iframe
  iapply (segA I κ c) $$ Hc Ho [B0 B1 B2] Hbi Hraw Wqb Wob P0 T0
  · unfold three; iframe
  iintro %v241 %v242 ⟨Ho, Hi, Hwq, Hwo, Zb, F0, L1, L2, ⟨M0, M1, M2, M3⟩⟩
  icases T1 with ⟨T10, T11, T12, T13⟩
  icases L1 with ⟨L10, L11, L12, L13⟩
  iapply (segB I κ c v241 v242) $$ Hc Ho Hi P1 [T10 T11] [L10 L11]
  · iframe
  · iframe
  iintro ⟨Ho, Hi, ⟨F10, F11⟩, P12, P13⟩
  icases T2 with ⟨T20, T21, T22, T23⟩
  icases L2 with ⟨L20, L21, L22, L23⟩
  iapply (segC I κ c v241) $$ Hc Ho Hi [T12 T13] [L12 L13] [P12 P13] P2 [T20 T21 T22] [L20 L21 L22]
  · iframe
  · iframe
  · iframe
  · iframe
  · iframe
  iintro ⟨Ho, Hi, ⟨F12, F13⟩, ⟨F20, F21, F22⟩, P23⟩
  iapply (segD I κ c) $$ Hc Ho Hi T23 L23 P23 RI0 D0 U0 M0 O0
  iintro %v646 ⟨Ho, Hi, F23, G0, V0, O0⟩
  icases U2 with ⟨U20, U21, U22⟩
  icases M2 with ⟨M20, M21, M22⟩
  iapply (segE I κ c v646) $$ Hc Ho Hi RI1 D1 U1 M1 O1 RI2 D2 U21 M21
  iintro ⟨Ho, Hi, G1, V1, O1, G2, V21, S0, S2⟩
  icases AI0 with ⟨AI00, AI10, AI20, AI30⟩
  iapply (segF I κ c v646) $$ Hc Ho Hi [U20 U22] [M20 M22] S0 S2 O2 RI3 D3 U3 M3 O3 AI00
  · iframe
  · iframe
  iintro %v1052 %v1053 ⟨Ho, Hi, ⟨V20, V22⟩, O2, G3, V3, O3, X00⟩
  icases OC with ⟨OC0, OC1, OC2, OC3⟩
  iapply (segG I κ c v1052 v1053) $$ Hc Ho X00 [AI10 AI20 AI30] AI1 AI2 OA OB [OC0 OC1 OC2]
  · iframe
  · iframe
  iintro %v1179 ⟨Ho, X0, X1, X2, OA, OB, OC0, OC1, OC2⟩
  icases X2 with ⟨X20, X21, X22, X23⟩
  iapply (segH I κ c v1179) $$ Hc Ho X23 OC3 F0 [F10 F11 F12 F13] [F20 F21 F22 F23] [V0 V1 V20 V21 V22 V3]
  · unfold four; iframe
  · unfold four; iframe
  · unfold four three; dsimp only; iframe
  iintro ⟨Ho, X23, OC3, F0, F1, F2, ⟨V0, V1, V2, V3⟩⟩
  ihave X2 : four (fun hf => agGot (blocksOf I) c hf 2) $$ [X20 X21 X22 X23]
  · unfold four; iframe
  icases (done_rs c 0) $$ F0 with ⟨ZS0, P0⟩
  icases (done_rs c 1) $$ F1 with ⟨ZS1, P1⟩
  icases (done_rs c 2) $$ F2 with ⟨ZS2, P2⟩
  icases (got_rs3 (blocksOf I) c 0) $$ G0 with ⟨⟨ZR00, ZR01, ZR02⟩, R00, R01, R02⟩
  icases (got_rs3 (blocksOf I) c 1) $$ G1 with ⟨⟨ZR10, ZR11, ZR12⟩, R10, R11, R12⟩
  icases (got_rs3 (blocksOf I) c 2) $$ G2 with ⟨⟨ZR20, ZR21, ZR22⟩, R20, R21, R22⟩
  icases (got_rs3 (blocksOf I) c 3) $$ G3 with ⟨⟨ZR30, ZR31, ZR32⟩, R30, R31, R32⟩
  icases (got_ag4 (blocksOf I) c 0) $$ X0 with ⟨ZA0, A0⟩
  icases (got_ag4 (blocksOf I) c 1) $$ X1 with ⟨ZA1, A1⟩
  icases (got_ag4 (blocksOf I) c 2) $$ X2 with ⟨ZA2, A2⟩
  icases (done_ag (blocksOf I) c 0) $$ V0 with ⟨⟨Z00, Z01, Z02⟩, D0⟩
  icases (done_ag (blocksOf I) c 1) $$ V1 with ⟨⟨Z10, Z11, Z12⟩, D1⟩
  icases (done_ag (blocksOf I) c 2) $$ V2 with ⟨⟨Z20, Z21, Z22⟩, D2⟩
  icases (done_ag (blocksOf I) c 3) $$ V3 with ⟨⟨Z30, Z31, Z32⟩, D3⟩
  unfold ins
  icases Hi with ⟨HX, HK, HV, Wqb, Wob⟩
  ihave Wqb := (any_wqb I c) $$ Wqb
  ihave Wob := (any_wob I c) $$ Wob
  iapply Hk
  isplitl [Ho]; · iexact Ho
  isplitl [Zb ZS0 ZS1 ZS2 ZR00 ZR01 ZR02 ZR10 ZR11 ZR12 ZR20 ZR21 ZR22 ZR30 ZR31 ZR32 ZA0 ZA1 ZA2 Z00 Z01 Z02 Z10 Z11 Z12 Z20 Z21 Z22 Z30 Z31 Z32]
  · unfold zeros three four; dsimp only; iframe
  isplitl [Wqb Wob P0 P1 P2 R00 R01 R02 R10 R11 R12 R20 R21 R22 R30 R31 R32 A0 A1 A2 D0 D1 D2 D3]
  · unfold three four; dsimp only; iframe
  isplitl [O0 O1 O2 O3 OA OB OC0 OC1 OC2 OC3]
  · unfold outs1 three four; dsimp only; iframe
  iframe

end Cert.KernelIdeal.Att
-- ==== Proof.Ghost.lean ====
/- What every device is dealt at launch: the cells funded, the tokens handed to the devices that will pay them, the
   credits, and the kernel's own cells opened when the kernel is entered. -/
module

public import proofs.«01_k».proof.Proof.Body
public import proofs.«01_k».proof.Proof.Gen.KernelIdeal.Regions
public import Idealize.ShloMosaic.Lib.Pipeline.RegionTalk

@[expose] public section

set_option maxRecDepth 16384

noncomputable section

namespace Cert.KernelIdeal.Att

open Idealize.ShloMosaic Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Indexing the cells of a device -/

theorem over_peers (c : Dev nD) (P : Fin 4 → sProp 𝕄) : bigSep Finset.univ P = iprop(P c ∗ bigSep Finset.univ fun d : Fin 3 => P (agT c d)) := by
  rw [over_three, bigSep_univ_eq_bigSepL [c, agT c 0, agT c 1, agT c 2] (by revert c; decide) (by revert c; decide) P]
  rfl

theorem over_43 (P : Fin 4 × Fin 3 → sProp 𝕄) : bigSep Finset.univ P = three fun j => four fun hf => P (hf, j) := by
  rw [bigSep_univ_prod, bigSep_univ_comm, over_three]
  simp only [over_four]
theorem over_43' (P : Fin 4 × Fin 3 → sProp 𝕄) : bigSep Finset.univ P = four fun hf => three fun j => P (hf, j) := by
  rw [bigSep_univ_prod, over_four]
  simp only [over_three]

/-- The gather's arrival cells: the one never used and the peers'. -/
theorem over_44 (c : Dev nD) (P : Fin 4 × Fin 4 → sProp 𝕄) :
    bigSep Finset.univ P = iprop((bigSep Finset.univ fun hf : Fin 4 => P (hf, c)) ∗ bigSep Finset.univ fun p : Fin 4 × Fin 3 => P (p.1, agT c p.2)) := by
  rw [bigSep_univ_prod, bigSep_univ_prod, ← bigSep_sep']
  exact bigSep_congr fun hf _ => over_peers c fun q => P (hf, q)

theorem over_own (c : Dev nD) (P : OIx → sProp 𝕄) :
    bigSep Finset.univ P = iprop((bigSep Finset.univ fun p : Fin 4 × Fin 3 => P (.inl p)) ∗ (bigSep Finset.univ fun p : Fin 4 × Fin 3 => P (.inr (.inl p)))
      ∗ (bigSep Finset.univ fun p : Fin 4 × Fin 3 => P (.inr (.inr (.inl p))))
      ∗ (bigSep Finset.univ fun hf : Fin 4 => P (.inr (.inr (.inr (hf, c))))) ∗ bigSep Finset.univ fun p : Fin 4 × Fin 3 => P (.inr (.inr (.inr (p.1, agT c p.2))))) := by
  rw [bigSep_univ_sum, bigSep_univ_sum, bigSep_univ_sum, over_44 c]
  rfl

/-! ## The tokens -/

abbrev TIx : Type := Fin 3 ⊕ OIx

def tokOf : Dev nD × TIx → GSem nD τ sig × ℕ × Fin 3
  | (c, .inl k) => (barC c, 0, k)
  | (c, .inr o) => (oC c o, 0, 0)

theorem tokOf_inj : Function.Injective tokOf :=
  Function.LeftInverse.injective (g := fun t => (t.1.1.1, match kind t.1.2 with | .bar => .inl t.2.2 | .own o => .inr o | .other => .inl 0)) fun x => by
    rcases x with ⟨c, k | o⟩
    · rfl
    · show (c, _) = _
      simp only [tokOf, kind_osem]

def toks : Finset (GSem nD τ sig × ℕ × Fin 3) := Finset.univ.map ⟨tokOf, tokOf_inj⟩

/-- Who pays which token: the barrier's and the arrivals' go to the device the unit or the copy comes from. -/
def payerFun : Dev nD × TIx → Dev nD × TIx
  | (c, .inl k) => (agT c k, .inl k)
  | (c, .inr (.inl p)) => (c, .inr (.inl p))
  | (c, .inr (.inr (.inl p))) => (tgt c p.2, .inr (.inr (.inl p)))
  | (c, .inr (.inr (.inr (.inl p)))) => (c, .inr (.inr (.inr (.inl p))))
  | (c, .inr (.inr (.inr (.inr p)))) => (p.2, .inr (.inr (.inr (.inr (p.1, c)))))
def payerInv : Dev nD × TIx → Dev nD × TIx
  | (c, .inl k) => (agT c k.rev, .inl k)
  | (c, .inr (.inl p)) => (c, .inr (.inl p))
  | (c, .inr (.inr (.inl p))) => (src c p.2, .inr (.inr (.inl p)))
  | (c, .inr (.inr (.inr (.inl p)))) => (c, .inr (.inr (.inr (.inl p))))
  | (c, .inr (.inr (.inr (.inr p)))) => (p.2, .inr (.inr (.inr (.inr (p.1, c)))))
theorem agT_rev' (c : Dev nD) (k : Fin 3) : agT (agT c k.rev) k = c := by revert c k; decide
def payer : Dev nD × TIx ≃ Dev nD × TIx where
  toFun := payerFun
  invFun := payerInv
  left_inv := by
    rintro ⟨c, k | p | p | p | p⟩
    · show (agT (agT c k) k.rev, _) = _; rw [agT_rev]
    · rfl
    · show (src (tgt c p.2) p.2, _) = _; rw [src_tgt]
    · rfl
    · rfl
  right_inv := by
    rintro ⟨c, k | p | p | p | p⟩
    · show (agT (agT c k.rev) k, _) = _; rw [agT_rev']
    · rfl
    · show (tgt (src c p.2) p.2, _) = _; rw [tgt_src]
    · rfl
    · rfl

/-- The token of a place. -/
def tok (x : Dev nD × TIx) : sProp 𝕄 := dutyTok ER (tokOf x).1 (tokOf x).2.1 (tokOf x).2.2

theorem toks_dealt : bigSep toks (fun x => (dutyTok ER x.1 x.2.1 x.2.2 : sProp 𝕄))
    = bigSep Finset.univ fun c : Dev nD => bigSep Finset.univ fun x : TIx => tok (payer (c, x)) := by
  unfold toks
  rw [bigSep_map, ← bigSep_univ_prod (fun y : Dev nD × TIx => tok (payer y)), ← bigSep_univ_equiv payer (fun y => (tok y : sProp 𝕄))]
  rfl

/-- The tokens device `c` pays. -/
theorem toks_of (c : Dev nD) : (bigSep Finset.univ fun x : TIx => (tok (payer (c, x)) : sProp 𝕄))
    ⊢ iprop(three (fun k => dutyTok ER (barC (agT c k)) 0 k) ∗ (bigSep Finset.univ fun p : Fin 4 × Fin 3 => dutyTok ER (rsSC c p.1 p.2) 0 0)
      ∗ (bigSep Finset.univ fun p : Fin 4 × Fin 3 => dutyTok ER (rsRC (tgt c p.2) p.1 p.2) 0 0)
      ∗ (bigSep Finset.univ fun p : Fin 4 × Fin 3 => dutyTok ER (agSC c p.1 p.2) 0 0)
      ∗ (bigSep Finset.univ fun p : Fin 4 × Fin 3 => dutyTok ER (agRC (agT c p.2) p.1 c) 0 0)) := by
  refine (Entails.of_eq (show (bigSep Finset.univ fun x : TIx => (tok (payer (c, x)) : sProp 𝕄))
    = iprop(three (fun k => dutyTok ER (barC (agT c k)) 0 k) ∗ (bigSep Finset.univ fun p : Fin 4 × Fin 3 => dutyTok ER (rsSC c p.1 p.2) 0 0)
      ∗ (bigSep Finset.univ fun p : Fin 4 × Fin 3 => dutyTok ER (rsRC (tgt c p.2) p.1 p.2) 0 0)
      ∗ (bigSep Finset.univ fun p : Fin 4 × Fin 3 => dutyTok ER (agSC c p.1 p.2) 0 0)
      ∗ (bigSep Finset.univ fun hf : Fin 4 => tok (payer (c, .inr (.inr (.inr (.inr (hf, c)))))))
      ∗ (bigSep Finset.univ fun p : Fin 4 × Fin 3 => dutyTok ER (agRC (agT c p.2) p.1 c) 0 0)) from by
        rw [bigSep_univ_sum, over_three, over_own c]; rfl)).trans ?_
  iintro ⟨H1, H2, H3, H4, -, H5⟩
  isplitl [H1]; · iexact H1
  isplitl [H2]; · iexact H2
  isplitl [H3]; · iexact H3
  isplitl [H4]; · iexact H4
  iexact H5

/-! ## The credits -/

/-- What device `c` owes at launch. -/
def O₀ (c : Dev nD) : CellTallies nD τ sig Unit := oweFrom (rem c 0)

theorem oweFrom_count (l : List (GSem nD τ sig × ℕ)) (g : GSem nD τ sig) (wt : ℕ) (h : ∀ x ∈ l, x.1 = g → x.2 = wt) :
    oweFrom l g () = (l.map Prod.fst).count g * wt := by
  induction l with
  | nil => rw [List.map_nil, List.count_nil, Nat.zero_mul]; rfl
  | cons x l ih =>
    rw [oweFrom, Pi.add_apply, Finsupp.add_apply, ih fun y hy => h y (List.mem_cons_of_mem _ hy), List.map_cons, tallyAt_apply]
    by_cases e : x.1 = g
    · rw [e, List.count_cons_self, if_pos ⟨rfl, rfl⟩, h x List.mem_cons_self e, Nat.add_mul, Nat.one_mul]
    · rw [List.count_cons_of_ne e, if_neg fun hh => e hh.1.symm, Nat.add_zero]

theorem full_wt (d : Dev nD) : ∀ x ∈ full d, x.2 = amountK (kind x.1.2) := by
  intro x hx
  simp only [full, List.mem_cons, List.not_mem_nil, or_false] at hx
  rcases hx with rfl | rfl | rfl | rfl | rfl | rfl | rfl | rfl | rfl | rfl | rfl | rfl | rfl | rfl | rfl | rfl | rfl | rfl | rfl | rfl | rfl | rfl | rfl | rfl | rfl | rfl | rfl <;>
    first | rfl | exact (ak_rsR _ _).symm | exact (ak_agR _ _).symm

/-- The cells device `d` owes to, in order. -/
def owed (d : Dev nD) : List (GSem nD τ sig) := (full d).map Prod.fst

theorem launch_at (c : Dev nD) (sm : SemLoc sig) (k : ℕ) (h : ∑ d : Dev nD, (owed d).count ((c : Thread nD τ), sm) = k) :
    tallyOn ((c : Thread nD τ), sm) (launchCredit (Pipeline.owing O₀) 0 ((c : Thread nD τ), sm))
      = (tallyAt ((c : Thread nD τ), sm) () (k * amountK (kind sm)) : CellTallies nD τ sig Unit) := by
  unfold tallyAt
  refine congrArg _ (Finsupp.ext fun u => ?_)
  cases u
  rw [Pipeline.launchCredit_owing, Finsupp.single_eq_same, ← h, Finset.sum_mul]
  refine Finset.sum_congr rfl fun d _ => ?_
  exact oweFrom_count (full d) _ (amountK (kind sm)) fun x hx e => by rw [full_wt d x hx, e]

theorem count_bar : ∀ c : Dev nD, ∑ d : Dev nD, (owed d).count (barC c) = 3 := by decide +kernel
theorem count_rs : ∀ (c : Dev nD) (hf : Fin 4) (j : Fin 3), ∑ d : Dev nD, (owed d).count (rsRC c hf j) = 1 := by decide +kernel
theorem count_ag : ∀ (c : Dev nD) (hf : Fin 4) (d' : Fin 3), ∑ d : Dev nD, (owed d).count (agRC c hf (agT c d')) = 1 := by decide +kernel

/-- The credits device `c` holds at launch. -/
def crd (c : Dev nD) : sProp 𝕄 :=
  iprop(cred (tallyAt (barC c) () 3) ∗ (bigSep Finset.univ fun p : Fin 4 × Fin 3 => cred (tallyAt (rsRC c p.1 p.2) () N))
    ∗ bigSep Finset.univ fun p : Fin 4 × Fin 3 => cred (tallyAt (agRC c p.1 (agT c p.2)) () N))

theorem own_sub : Finset.univ.map ⟨osem, osem_inj⟩ ⊆ (Finset.univ.erase (SemLoc.reg barrier0) : Finset (SemLoc sig)) := fun x hx => by
  obtain ⟨o, -, rfl⟩ := Finset.mem_map.mp hx
  refine Finset.mem_erase.mpr ⟨fun e => ?_, Finset.mem_univ _⟩
  have h := congrArg kind e
  rw [show kind ((⟨osem, osem_inj⟩ : OIx ↪ SemLoc sig) o) = .own o from kind_osem o] at h
  exact Kd.noConfusion h

theorem creds (c : Dev nD) : (Pipeline.launchCred O₀ c : sProp 𝕄) ⊢ crd c := by
  unfold Pipeline.launchCred
  rw [bigSep_univ_at _ (SemLoc.reg barrier0)]
  refine (sep_mono_right (bigSep_subset own_sub)).trans ?_
  rw [bigSep_map, over_own c]
  have h0 := launch_at c (.reg barrier0) 3 (count_bar c)
  have h1 (p : Fin 4 × Fin 3) := launch_at c (.dma (rsR p.1 p.2)) 1 (count_rs c p.1 p.2)
  have h2 (p : Fin 4 × Fin 3) := launch_at c (.dma (agR p.1 (agT c p.2))) 1 (count_ag c p.1 p.2)
  rw [show 3 * amountK (kind (.reg barrier0)) = 3 from rfl] at h0
  simp only [ak_rsR, Nat.one_mul] at h1
  simp only [ak_agR, Nat.one_mul] at h2
  unfold crd
  refine sep_mono (Entails.of_eq (congrArg cred h0)) (sep_elim_right.trans (sep_mono (Entails.of_eq (bigSep_congr fun p _ => congrArg cred (h1 p)))
    (sep_elim_right.trans (sep_elim_right.trans (Entails.of_eq (bigSep_congr fun p _ => congrArg cred (h2 p)))))))

/-! ## What a device keeps until the kernel, and opening its cells -/

/-- What is dealt to device `c`. -/
def dealt (c : Dev nD) : sProp 𝕄 :=
  iprop(atPos ER (barC c) 0 ∅ 0 ∗ (bigSep Finset.univ fun o : OIx => openTok ER (oC c o)) ∗ bigSep Finset.univ fun x : TIx => tok (payer (c, x)))

def Tk (B : Blocks F) (c : Dev nD) : sProp 𝕄 := iprop((∃ κ, records B κ ∗ dealt c) ∗ crd c)
def Xk (B : Blocks F) (c : Dev nD) : sProp 𝕄 :=
  iprop(∃ κ, ctx B κ c ∗ linear c ∗ bigSep Finset.univ fun hf : Fin 4 => semVal (agRC c hf c) 0)

theorem rec_inv (B : Blocks F) (κ : GSem nD τ sig → ℕ) {g : GSem nD τ sig} (hg : g ∈ (barCells ∪ scCells : Finset (GSem nD τ sig))) :
    records B κ ⊢ (cellInv ER (sched B) (κ g) g : sProp 𝕄) := by
  have h : (bigSep (barCells ∪ scCells) fun g => (cellInv ER (sched B) (κ g) g : sProp 𝕄)) ⊢ cellInv ER (sched B) (κ g) g := bigSep_elim hg
  unfold records
  iintro ⟨H, -⟩
  iapply h; iexact H

theorem open_all (B : Blocks F) (κ : GSem nD τ sig → ℕ) (c : Dev nD) :
    iprop(records B κ ∗ bigSep Finset.univ fun o : OIx => iprop(openTok ER (oC c o) ∗ semVal (oC c o) 0))
      ⊢ (|={Set.univ}=> bigSep Finset.univ fun o : OIx => iprop(atPos ER (oC c o) 0 ∅ 0 ∗ reached ER (oC c o) 0) : sProp 𝕄) :=
  (bigSep_with_persistent fun o _ => by
    iintro ⟨#Hr, Ho, Hz⟩
    iapply (Rounds.cell_open ER (sched B) (g := oC c o) (Set.mem_univ (κ (oC c o))))
    isplitr; · iapply (rec_inv B κ (own_mem c o)); iexact Hr
    isplitl [Ho] <;> iassumption).trans (bigSep_fupd _ _)

/-- A device's own place among the gather's arrivals has no duty at all, so its cell closes at once. -/
theorem diag_later (B : Blocks F) (c : Dev nD) (hf : Fin 4) : ∀ r, 0 ≤ r → (sched B).duties (agRC c hf c) r = ∅ := fun r _ => by
  rcases Nat.eq_zero_or_pos r with rfl | h
  · rw [duties_eq, kind_agR]; exact if_pos rfl
  · exact duties_later B _ r h

theorem close_diag (B : Blocks F) (κ : GSem nD τ sig → ℕ) (c : Dev nD) :
    iprop(records B κ ∗ bigSep Finset.univ fun hf : Fin 4 => atPos ER (agRC c hf c) 0 ∅ 0)
      ⊢ (|={Set.univ}=> bigSep Finset.univ fun hf : Fin 4 => semVal (agRC c hf c) 0 : sProp 𝕄) :=
  (bigSep_with_persistent fun hf _ => by
    iintro ⟨#Hr, Ha⟩
    iapply (Rounds.cell_close ER (sched B) (Set.mem_univ (κ (agRC c hf c))) (fun h => h) (R := 0) (diag_later B c hf))
    isplitr; · iapply (rec_inv B κ (own_mem c (.inr (.inr (.inr (hf, c)))))); iexact Hr
    iexact Ha).trans (bigSep_fupd _ _)

theorem hopen (B : Blocks F) (c : Dev nD) : iprop(Tk B c ∗ Pipeline.ownSems0 osem c ∗ levAts L lv) ⊢ (|={Set.univ}=> Xk B c : sProp 𝕄) := by
  unfold Tk dealt Pipeline.ownSems0 crd
  iintro ⟨⟨⟨%κ, #Hr, Hb, Ho, Ht⟩, Hc0, Hc1, Hc2⟩, Hz, #Hlev⟩
  imod (open_all B κ c) $$ [Ho Hz] with Hp
  · isplitr; · iexact Hr
    rw [bigSep_sep']
    isplitl [Ho] <;> iassumption
  ihave Hp := (Entails.of_eq (bigSep_sep' Finset.univ (fun o : OIx => (atPos ER (oC c o) 0 ∅ 0 : sProp 𝕄)) (fun o : OIx => reached ER (oC c o) 0))) $$ Hp
  icases Hp with ⟨Ha, #HR⟩
  ihave Ha := (Entails.of_eq (show (bigSep Finset.univ fun o : OIx => (atPos ER (oC c o) 0 ∅ 0 : sProp 𝕄))
    = iprop((bigSep Finset.univ fun p : Fin 4 × Fin 3 => atPos ER (rsSC c p.1 p.2) 0 ∅ 0) ∗ (bigSep Finset.univ fun p : Fin 4 × Fin 3 => atPos ER (rsRC c p.1 p.2) 0 ∅ 0)
      ∗ (bigSep Finset.univ fun p : Fin 4 × Fin 3 => atPos ER (agSC c p.1 p.2) 0 ∅ 0) ∗ (bigSep Finset.univ fun hf : Fin 4 => atPos ER (agRC c hf c) 0 ∅ 0)
      ∗ bigSep Finset.univ fun p : Fin 4 × Fin 3 => atPos ER (agRC c p.1 (agT c p.2)) 0 ∅ 0) from over_own c _)) $$ Ha
  icases Ha with ⟨A1, A2, A3, A4, A5⟩
  imod (close_diag B κ c) $$ [A4] with Hd
  · isplitr; · iexact Hr
    iexact A4
  ihave Ht := (toks_of c) $$ Ht
  icases Ht with ⟨K0, K1, K2, K3, K4⟩
  imodintro
  unfold Xk
  iexists κ
  isplitr
  · unfold ctx
    isplitr; · iexact Hr
    isplitr; · iexact Hlev
    iexact HR
  isplitr [Hd]
  · unfold linear barIn
    isplitl [K0 Hc0 Hb]
    · isplitl [K0]; · iexact K0
      isplitl [Hc0] <;> iassumption
    rw [← over_43 (fun p : Fin 4 × Fin 3 => rsTok c p.1 p.2), ← over_43' (fun p : Fin 4 × Fin 3 => rsIn c p.1 p.2),
      ← over_43' (fun p : Fin 4 × Fin 3 => agTok c p.1 p.2), ← over_43 (fun p : Fin 4 × Fin 3 => agIn c p.1 p.2)]
    unfold rsTok rsIn agTok agIn
    rw [bigSep_sep', bigSep_sep', bigSep_sep', bigSep_sep', bigSep_sep', bigSep_sep']
    isplitl [K1 A1 K2]
    · isplitl [K1]; · iexact K1
      isplitl [A1] <;> iassumption
    isplitl [Hc1 A2]
    · isplitl [Hc1] <;> iassumption
    isplitl [K3 A3 K4]
    · isplitl [K3]; · iexact K3
      isplitl [A3] <;> iassumption
    isplitl [Hc2] <;> iassumption
  · iexact Hd

/-! ## Funding -/

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  have e := congrArg kind (congrArg Prod.snd h)
  rw [show kind (scEmb ck).2 = .own ck.2 from kind_osem ck.2] at e
  exact Kd.noConfusion e

/-- The launch element of the pipeline's own protocol and of the kernel's. -/
def u₀ : UU :=
  (initOf (Pipeline.cells cfgs cellOf_inj) (Pipeline.launchToks cfgs cellOf_inj), launchOf barCells scCells toks)

/-- A resource as dealt per device: all of it on device 0. -/
def onZero (X : sProp 𝕄) (c : Dev nD) : sProp 𝕄 := if c = 0 then X else iprop(emp)
theorem over_onZero (X : sProp 𝕄) : bigSep Finset.univ (onZero X) = X := by
  rw [bigSep_univ_at _ (0 : Dev nD), bigSep_congr (s := Finset.univ.erase 0) (Ψ := fun _ => (BI.emp : sProp 𝕄))
      fun c hc => by unfold onZero; rw [if_neg (Finset.ne_of_mem_erase hc)]; rfl, BI.bigSep_emp_const]
  unfold onZero; rw [if_pos rfl]
  exact BI.equiv_iff.mp sep_emp

def G : Dev nD → sProp 𝕄 := onZero (BI.own (ER (launchOf barCells scCells toks)))

theorem fund : (ownU u₀ : sProp 𝕄)
    ⊢ |={Set.univ}=> iprop(BI.own (EP (initOf (Pipeline.cells cfgs cellOf_inj) (Pipeline.launchToks cfgs cellOf_inj))) ∗ bigSep Finset.univ G) := by
  unfold u₀ G
  iintro Hu
  ihave H := (ownU_pair _ _) $$ Hu
  icases H with ⟨HP, HX⟩
  imodintro
  isplitl [HP]; · iexact HP
  rw [over_onZero]; iexact HX

theorem pair_up {α : Type} {s : Finset α} {Φ Ψ : α → sProp 𝕄} : iprop(bigSep s Φ ∗ bigSep s Ψ) ⊢ bigSep s fun x => iprop(Φ x ∗ Ψ x) :=
  Entails.of_eq (bigSep_sep' s Φ Ψ).symm

/-- Every device's rest state before the kernel, made on all devices at once. -/
def E0 (B : Blocks F) (c : Dev nD) : sProp 𝕄 := iprop(Tk B c ∗ (∃ r, prngReg c r) ∗ ∃ W, owes (c : Thread nD τ) (O₀ c) W)

theorem unscopedSems0_eq (c : Dev nD) : (unscopedSems0 c : sProp 𝕄) = semVal (barC c) 0 := by
  unfold unscopedSems0
  rw [show (Finset.univ.filter fun sm : SemLoc sig => ¬ sm.isScoped .tc) = {SemLoc.reg barrier0} from by decide, BI.bigSep_singleton]

theorem start (B : Blocks F) (ρ : Dev nD → PrngReg) :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E0 B) : sProp 𝕄) := by
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun o : OIx => (openTok ER (oC c o) : sProp 𝕄)) :=
    Entails.of_eq (by rw [bigSep_map, bigSep_univ_prod]; rfl)
  have hE (κ : GSem nD τ sig → ℕ) (c : Dev nD) : iprop(records B κ ∗ (dealt c ∗ (owes (c : Thread nD τ) (O₀ c) ∅ ∗ Pipeline.launchCred O₀ c ∗ prngReg c (ρ c)))) ⊢ E0 B c := by
    unfold E0 Tk
    iintro ⟨#Hr, Hd, Ho, Hc, Hp⟩
    ihave Hc := (creds c) $$ Hc
    isplitl [Hd Hc]
    · isplitl [Hd]
      · iexists κ; isplitr; · iexact Hr
        iexact Hd
      iexact Hc
    isplitl [Hp]; · iexists (ρ c); iexact Hp
    iexists ∅; iexact Ho
  have hcore (c : Dev nD) : iprop(unscopedSems0 c ∗ owes (c : Thread nD τ) (O₀ c) ∅ ∗ Pipeline.launchCred O₀ c ∗ prngReg c (ρ c) ∗ G c)
      ⊢ (iprop(semVal (barC c) 0 ∗ G c ∗ (owes (c : Thread nD τ) (O₀ c) ∅ ∗ Pipeline.launchCred O₀ c ∗ prngReg c (ρ c))) : sProp 𝕄) := by
    rw [unscopedSems0_eq]
    iintro ⟨H1, H2, H3, H4, H5⟩
    iframe
  have hsplit : (bigSep Finset.univ fun c : Dev nD => iprop(unscopedSems0 c ∗ owes (c : Thread nD τ) (O₀ c) ∅ ∗ Pipeline.launchCred O₀ c ∗ prngReg c (ρ c) ∗ G c))
      ⊢ (iprop((bigSep Finset.univ fun c : Dev nD => semVal (barC c) 0) ∗ (bigSep Finset.univ G)
        ∗ bigSep Finset.univ fun c : Dev nD => iprop(owes (c : Thread nD τ) (O₀ c) ∅ ∗ Pipeline.launchCred O₀ c ∗ prngReg c (ρ c))) : sProp 𝕄) :=
    (bigSep_mono fun c _ => hcore c).trans (by rw [bigSep_sep', bigSep_sep']; exact Entails.refl _)
  iintro ⟨H, -⟩
  ihave H := hsplit $$ H
  icases H with ⟨Hv, HG, HB⟩
  ihave Hu := (show bigSep Finset.univ (G (F := F)) ⊢ BI.own (ER (launchOf barCells scCells toks)) from
    Entails.of_eq (over_onZero (BI.own (ER (launchOf barCells scCells toks))))) $$ HG
  imod (Rounds.fund_launch ER (sched B) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := records B κ)
    (Φ := fun c => iprop(dealt c ∗ (owes (c : Thread nD τ) (O₀ c) ∅ ∗ Pipeline.launchCred O₀ c ∗ prngReg c (ρ c)))) fun c _ => hE κ c)
  isplitr
  · unfold records
    isplitr; · iexact Hinv
    iexact Hr
  iapply pair_up
  isplitr [HB]
  · unfold dealt
    iapply pair_up; isplitl [Hat]; · iapply hat $$ Hat
    iapply pair_up; isplitl [Hopen]; · iapply hopen $$ Hopen
    iapply (Entails.of_eq (toks_dealt (F := F))) $$ Htok
  · iexact HB

end Cert.KernelIdeal.Att
-- ==== Proof.Parts.lean ====
/- The kernel as a region of the program: its buffers whole and slot by slot, its invariant, and its body's obligation. -/
module

public import proofs.«01_k».proof.Proof.Ghost
public import proofs.«01_k».proof.Proof.Gen.KernelIdeal.Points

@[expose] public section

set_option maxRecDepth 16384

noncomputable section

namespace Cert.KernelIdeal.Att

open Idealize.ShloMosaic Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## A buffer whole and in parts -/

section Parts
variable {ℓ : Loc nD τ sig} {T : Type} [Fintype T] [DecidableEq T] (K : T → Finset (Idx ℓ))

theorem split_any (hd : ∀ t t', t ≠ t' → Disjoint (K t) (K t')) (hc : (Finset.univ : Finset T).biUnion K = Finset.univ) :
    iprop(∃ f : Buf (Elt F) ℓ, ℓ ↦{fullShare} f) ⊢ (bigSep Finset.univ fun t => iprop(∃ f : Buf (Elt F) ℓ, ℓ ↦[K t]{fullShare} f) : sProp 𝕄) := by
  have h (f : Buf (Elt F) ℓ) : (ℓ ↦{fullShare} f : sProp 𝕄) ⊢ bigSep Finset.univ fun t => iprop(∃ f : Buf (Elt F) ℓ, ℓ ↦[K t]{fullShare} f) := by
    rw [← hc, pointsTo_biUnion Finset.univ K fun t _ t' _ => hd t t']
    have hi (t : T) : (ℓ ↦[K t]{fullShare} f : sProp 𝕄) ⊢ iprop(∃ f : Buf (Elt F) ℓ, ℓ ↦[K t]{fullShare} f) := by iintro H; iexists f; iexact H
    exact bigSep_mono fun t _ => hi t
  iintro ⟨%f, H⟩
  iapply (h f) $$ H

theorem join_any (hd : ∀ t t', t ≠ t' → Disjoint (K t) (K t')) (hc : (Finset.univ : Finset T).biUnion K = Finset.univ) :
    (bigSep Finset.univ fun t => iprop(∃ f : Buf (Elt F) ℓ, ℓ ↦[K t]{fullShare} f) : sProp 𝕄) ⊢ iprop(∃ f : Buf (Elt F) ℓ, ℓ ↦{fullShare} f) := by
  refine (bigSep_exists_pi Finset.univ fun t (f : Buf (Elt F) ℓ) => (ℓ ↦[K t]{fullShare} f : sProp 𝕄)).trans ?_
  iintro ⟨%fs, H⟩
  ihave H := (pointsTo_biUnion_join Finset.univ K fs (fun _ => Classical.arbitrary _) fun t _ t' _ => hd t t') $$ H
  icases H with ⟨%g, -, H⟩
  rw [hc]
  iexists g; iexact H

end Parts

abbrev KR (p : Fin 4 × Fin 3) : Finset S4x3x128x128.Idx := slotR p.1 p.2
abbrev KA (p : Fin 4 × Fin 4) : Finset S4x4x128x128.Idx := slotA p.1 p.2
abbrev KO (p : Fin 4 × Fin 4) : Finset S512x512.Idx := slotO p.1 p.2

theorem over_out (c : Dev nD) (P : Fin 4 × Fin 4 → sProp 𝕄) :
    bigSep Finset.univ P = iprop(four (fun hf => P (c, hf)) ∗ three fun d => four fun hf => P (agT c d, hf)) := by
  rw [bigSep_univ_prod, over_peers c, over_three]
  simp only [over_four]

theorem over_ag (c : Dev nD) (P : Fin 4 × Fin 4 → sProp 𝕄) :
    bigSep Finset.univ P = iprop(four (fun hf => P (hf, c)) ∗ three fun d => four fun hf => P (hf, agT c d)) := by
  rw [over_44 c, over_four, over_43]

/-- A scratch buffer at contents not chosen. -/
def anyAt (c : Dev nD) (b : Ref sig .tc) : sProp 𝕄 := iprop(∃ f : Buf (Elt F) ((c : Thread nD τ).loc b), ((c : Thread nD τ).loc b) ↦{fullShare} f)

theorem part_split (c : Dev nD) : (anyAt (F := F) c cc0_scratch2 ⊢ three fun j => four fun hf => partAny c hf j) ∧ ((three fun j => four fun hf => partAny c hf j) ⊢ anyAt (F := F) c cc0_scratch2) := by
  have e := over_43 fun p => (partAny (F := F) c p.1 p.2 : sProp 𝕄)
  dsimp only at e
  rw [← e]
  exact ⟨split_any (ℓ := (c : Thread nD τ).loc cc0_scratch2) KR (fun t t' h => slotR_disjoint h) slotR_cover,
    join_any (ℓ := (c : Thread nD τ).loc cc0_scratch2) KR (fun t t' h => slotR_disjoint h) slotR_cover⟩
theorem rs_split (c : Dev nD) : (anyAt (F := F) c cc0_scratch3 ⊢ three fun j => four fun hf => rsAny c hf j) ∧ ((three fun j => four fun hf => rsAny c hf j) ⊢ anyAt (F := F) c cc0_scratch3) := by
  have e := over_43 fun p => (rsAny (F := F) c p.1 p.2 : sProp 𝕄)
  dsimp only at e
  rw [← e]
  exact ⟨split_any (ℓ := (c : Thread nD τ).loc cc0_scratch3) KR (fun t t' h => slotR_disjoint h) slotR_cover,
    join_any (ℓ := (c : Thread nD τ).loc cc0_scratch3) KR (fun t t' h => slotR_disjoint h) slotR_cover⟩
theorem ag_split (c : Dev nD) : (anyAt (F := F) c cc0_scratch4 ⊢ iprop((four fun hf => agAny c hf c) ∗ three fun d => four fun hf => agAny c hf (agT c d)))
    ∧ (iprop((four fun hf => agAny c hf c) ∗ three fun d => four fun hf => agAny c hf (agT c d)) ⊢ anyAt (F := F) c cc0_scratch4) := by
  have e := over_ag c fun p => (agAny (F := F) c p.1 p.2 : sProp 𝕄)
  dsimp only at e
  rw [← e]
  exact ⟨split_any (ℓ := (c : Thread nD τ).loc cc0_scratch4) KA (fun t t' h => slotA_disjoint h) slotA_cover,
    join_any (ℓ := (c : Thread nD τ).loc cc0_scratch4) KA (fun t t' h => slotA_disjoint h) slotA_cover⟩

/-- The five scratch buffers whole. -/
def scratch (c : Dev nD) : sProp 𝕄 := iprop(anyAt c cc0_scratch0 ∗ anyAt c cc0_scratch1 ∗ anyAt c cc0_scratch2 ∗ anyAt c cc0_scratch3 ∗ anyAt c cc0_scratch4)

theorem scratch_open (c : Dev nD) : (scratch c : sProp 𝕄) ⊢ slots c := by
  unfold scratch slots
  iintro ⟨H0, H1, H2, H3, H4⟩
  ihave H2 := (part_split c).1 $$ H2
  ihave H3 := (rs_split c).1 $$ H3
  ihave H4 := (ag_split c).1 $$ H4
  icases H4 with ⟨H4, H5⟩
  isplitl [H0 H1]; · isplitl [H0]; · iapply (show (anyAt c cc0_scratch0 : sProp 𝕄) ⊢ anyWqb c from Entails.refl _) $$ H0
                     iapply (show (anyAt c cc0_scratch1 : sProp 𝕄) ⊢ anyWob c from Entails.refl _) $$ H1
  isplitl [H2]; · iexact H2
  isplitl [H3]; · iexact H3
  isplitl [H5]; · iexact H5
  iexact H4
theorem scratch_close (c : Dev nD) : (slots c : sProp 𝕄) ⊢ scratch c := by
  unfold scratch slots
  iintro ⟨⟨H0, H1⟩, H2, H3, H5, H4⟩
  ihave H2 := (part_split c).2 $$ H2
  ihave H3 := (rs_split c).2 $$ H3
  ihave H4 := (ag_split c).2 $$ [H4 H5]
  · isplitl [H4]; · iexact H4
    iexact H5
  isplitl [H0]; · iapply (show (anyWqb c : sProp 𝕄) ⊢ anyAt c cc0_scratch0 from Entails.refl _) $$ H0
  isplitl [H1]; · iapply (show (anyWob c : sProp 𝕄) ⊢ anyAt c cc0_scratch1 from Entails.refl _) $$ H1
  isplitl [H2]; · iexact H2
  isplitl [H3]; · iexact H3
  iexact H4

/-! ## The output block -/

/-- What the kernel leaves in the output block of device `c`. -/
def outF (I : Inp F) (c : Dev nD) : S512x512.Idx → Elt F .f32 := fun i =>
  tile I c ⟨(i 0).val / 128, Nat.div_lt_of_lt_mul (i 0).isLt⟩ ⟨(i 1).val / 128, Nat.div_lt_of_lt_mul (i 1).isLt⟩ (lowO i)

theorem outAt_tile (I : Inp F) (c : Dev nD) (s hf : Fin 4) :
    (outAt c s hf (tile I c s hf) : sProp 𝕄) = (outM.view.loc (c : Thread nD τ) ↦[slotO s hf]{fullShare} outF I c) := by
  unfold outAt
  refine pointsTo_congr fun i hi => ?_
  simp only [slotO, Finset.mem_filter, Finset.mem_univ, true_and] at hi
  unfold fillO outF
  rw [show (⟨(i 0).val / 128, Nat.div_lt_of_lt_mul (i 0).isLt⟩ : Fin 4) = s from Fin.ext hi.1, show (⟨(i 1).val / 128, Nat.div_lt_of_lt_mul (i 1).isLt⟩ : Fin 4) = hf from Fin.ext hi.2]

theorem out_open (c : Dev nD) : (anyAt c cc0_stg5_0 : sProp 𝕄) ⊢ outs0 c := by
  have e := over_out c fun p => (outAny (F := F) c p.1 p.2 : sProp 𝕄)
  dsimp only at e
  unfold outs0
  rw [← e]
  exact split_any (ℓ := (c : Thread nD τ).loc cc0_stg5_0) KO (fun t t' h => slotO_disjoint h) slotO_cover

theorem out_close (I : Inp F) (c : Dev nD) : (outs1 I c : sProp 𝕄) ⊢ ((c : Thread nD τ).loc cc0_stg5_0 ↦{fullShare} outF I c) := by
  have e := over_out c fun p => (outAt (F := F) c p.1 p.2 (tile I c p.1 p.2) : sProp 𝕄)
  simp only [tile_own, tile_peer] at e
  unfold outs1
  rw [← e]
  refine Entails.of_eq ?_
  rw [← slotO_cover]
  refine (bigSep_congr fun p _ => outAt_tile I c p.1 p.2).trans ?_
  exact (pointsTo_biUnion (ℓ := (c : Thread nD τ).loc cc0_stg5_0) Finset.univ KO fun t _ t' _ h => slotO_disjoint h).symm

end Cert.KernelIdeal.Att
-- ==== Proof.Region.lean ====
/- The kernel as a region of the program: its invariant, its body's obligation, its record, and the run of the whole program. -/
module

public import proofs.«01_k».proof.Proof.Parts

@[expose] public section

set_option maxRecDepth 16384

noncomputable section

namespace Cert.KernelIdeal.Att

open Idealize.ShloMosaic Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Pipeline (Dat Seg HostSeg RegionSeg BodyObligation)

variable (I : Inp F) (o : (c : Dev nD) → Buf (Elt F) ((c : Thread nD τ).loc main_v22))

/-- The region over operands `I`, its output array holding `o` at first. -/
def dat (c : Dev nD) : Dat τ (Elt F) Unit ℕ UU ℕ cfg0 c where
  A w := match w with
    | ⟨0, _⟩ => I.X c
    | ⟨1, _⟩ => I.Wq c
    | ⟨2, _⟩ => I.K c
    | ⟨3, _⟩ => I.V c
    | ⟨4, _⟩ => I.Wo c
    | ⟨5, _⟩ => o c
    | ⟨_ + 6, h⟩ => absurd h (Nat.not_lt.2 (Nat.le_add_left _ _))
  after w _ := match w with
    | ⟨0, _⟩ => I.X c
    | ⟨1, _⟩ => I.Wq c
    | ⟨2, _⟩ => I.K c
    | ⟨3, _⟩ => I.V c
    | ⟨4, _⟩ => I.Wo c
    | ⟨5, _⟩ => outF I c
    | ⟨_ + 6, h⟩ => absurd h (Nat.not_lt.2 (Nat.le_add_left _ _))
  Φ t := if t.val = 0 then iprop(Xk (blocksOf I) c ∗ scratch c ∗ ∃ r, prngReg c r)
    else iprop(semVal (barC c) 0 ∗ Pipeline.ownSems0 osem c ∗ scratch c ∗ ∃ r, prngReg c r)
  q _ := fullShare
  owed t := if t.val = 0 then O₀ c else 0

theorem owed_first (c : Dev nD) : (dat I o c).owed t0_0.castSucc = O₀ c := by
  show (if (t0_0.castSucc : Fin (cfg0.N + 1)).val = 0 then O₀ c else 0) = O₀ c; exact if_pos rfl
theorem owed_last (c : Dev nD) : (dat I o c).owed (Fin.last _) = 0 := by
  show (if (Fin.last grid0.N).val = 0 then O₀ c else 0) = 0
  rw [Fin.val_last, if_neg (by rw [N_0]; decide)]

theorem owesAt_in (c : Dev nD) (t : Fin (cfg0.N + 1)) (O : CellTallies nD τ sig Unit) (h0 : (dat I o c).owed t = O) (W : Waits sig Unit) :
    (owes (c : Thread nD τ) O W : sProp 𝕄) ⊢ (dat I o c).owesAt () t := by
  unfold Dat.owesAt Pipeline.owesWithin Dat.bound; rw [h0, show (dat I o c).recorded t = Set.univ from rfl]
  iintro HO; iexists W; isplitr; · ipureintro; exact fun _ _ => Or.inl trivial
  iexact HO
theorem owesAt_out (c : Dev nD) (t : Fin (cfg0.N + 1)) (O : CellTallies nD τ sig Unit) (h0 : (dat I o c).owed t = O) :
    ((dat I o c).owesAt () t : sProp 𝕄) ⊢ iprop(∃ W, owes (c : Thread nD τ) O W) := by
  unfold Dat.owesAt Pipeline.owesWithin; rw [h0]
  iintro ⟨%W, -, HO⟩; iexists W; iexact HO

/-- The kernel's own semaphores, back at zero. -/
theorem zeros_own (c : Dev nD) : iprop(zeros c ∗ bigSep Finset.univ fun hf : Fin 4 => semVal (agRC c hf c) 0) ⊢ (iprop(semVal (barC c) 0 ∗ Pipeline.ownSems0 osem c) : sProp 𝕄) := by
  have e : (Pipeline.ownSems0 osem c : sProp 𝕄)
      = iprop((bigSep Finset.univ fun p : Fin 4 × Fin 3 => semVal (rsSC c p.1 p.2) 0) ∗ (bigSep Finset.univ fun p : Fin 4 × Fin 3 => semVal (rsRC c p.1 p.2) 0)
        ∗ (bigSep Finset.univ fun p : Fin 4 × Fin 3 => semVal (agSC c p.1 p.2) 0) ∗ (bigSep Finset.univ fun hf : Fin 4 => semVal (agRC c hf c) 0)
        ∗ bigSep Finset.univ fun p : Fin 4 × Fin 3 => semVal (agRC c p.1 (agT c p.2)) 0) := over_own c fun o => semVal (oC c o) 0
  rw [e, over_43, over_43, over_43, over_43]
  unfold zeros
  iintro ⟨⟨H0, H1, H2, H3, H4⟩, H5⟩
  isplitl [H0]; · iexact H0
  isplitl [H1]; · iexact H1
  isplitl [H2]; · iexact H2
  isplitl [H3]; · iexact H3
  isplitl [H5]; · iexact H5
  iexact H4

abbrev stg (c : Dev nD) (b : Ref sig .tc) (X : b.ty.Contents (Elt F)) : sProp 𝕄 := ((c : Thread nD τ).loc b) ↦{fullShare} X

/-- The one block of a whole window is its array. -/
theorem block_read (b : Ref sig .tc) (inb : ∀ a, 0 * b.ty.shape.size a + b.ty.shape.size a ≤ b.ty.shape.size a) (f : b.ty.Contents (Elt F)) :
    ((Memref.whole b).access (Rect.unit (fun a => 0 * b.ty.shape.size a) b.ty.shape.size inb) : View sig .tc _ _ _).read (Elt F) f = f :=
  Memref.read_access_unit_zero (Elt F) b (funext fun _ => Nat.zero_mul _) inb f

theorem fetched_whole (c : Dev nD) (w : Fin 6) (d : (cfg0.win w).block.Idx → Elt F (cfg0.win w).elt) (X : (cfg0.win w).block.Idx → Elt F (cfg0.win w).elt)
    (hs : ∀ a, (cfg0.win w).xsize (cfg0.grid.coords t0_0) a = (cfg0.win w).size a)
    (hr : ((cfg0.win w).blk t0_0).view.read (Elt F) ((dat I o c).A w) = (cfg0.win w).cut (cfg0.grid.coords t0_0) X) : (dat I o c).fetched w t0_0 d = X := by
  unfold Dat.fetched Dat.blockOf; rw [hr]; unfold Pipeline.Window.fill; funext j
  rw [dif_pos (((cfg0.win w).moved_iff _ j).mpr fun a => by rw [hs]; exact (j a).isLt)]

theorem body_ob (c : Dev nD) : BodyObligation (dat I o c) (defs₀ (F := F)) 𝒱₀ () Set.univ := fun t => by
  obtain rfl := fin_N0 t
  rw [bigSep_W0, bigSep_W0]
  rw [show (dat I o c).Φ t0_0.castSucc = iprop(Xk (blocksOf I) c ∗ scratch c ∗ ∃ r, prngReg c r) from rfl,
    show (dat I o c).Φ t0_0.succ = iprop(semVal (barC c) 0 ∗ Pipeline.ownSems0 osem c ∗ scratch c ∗ ∃ r, prngReg c r) from rfl]
  show iprop((Xk (blocksOf I) c ∗ scratch c ∗ ∃ r, prngReg c r) ∗ (dat I o c).owesAt () t0_0.castSucc
      ∗ (∃ d, owns c xM fullShare ((dat I o c).before (0 : Fin 6) t0_0 d)) ∗ (∃ d, owns c wqM fullShare ((dat I o c).before (1 : Fin 6) t0_0 d))
      ∗ (∃ d, owns c kM fullShare ((dat I o c).before (2 : Fin 6) t0_0 d)) ∗ (∃ d, owns c vM fullShare ((dat I o c).before (3 : Fin 6) t0_0 d))
      ∗ (∃ d, owns c woM fullShare ((dat I o c).before (4 : Fin 6) t0_0 d)) ∗ (∃ d, owns c outM fullShare ((dat I o c).before (5 : Fin 6) t0_0 d)))
    ⊢ run c (onBufs (cc0_body (F := F))) fun _ => iprop((semVal (barC c) 0 ∗ Pipeline.ownSems0 osem c ∗ scratch c ∗ ∃ r, prngReg c r) ∗ (dat I o c).owesAt () t0_0.succ
      ∗ owns c xM fullShare (I.X c) ∗ owns c wqM fullShare (I.Wq c) ∗ owns c kM fullShare (I.K c) ∗ owns c vM fullShare (I.V c)
      ∗ owns c woM fullShare (I.Wo c) ∗ owns c outM fullShare (outF I c))
  rw [body_eq]
  have b0 (d) : (dat I o c).before (0 : Fin 6) t0_0 d = I.X c := by unfold Dat.before; rw [if_pos (fetch0_0 t0_0)]; exact fetched_whole I o c 0 d (I.X c) (fun _ => rfl) (block_read main_v21 (fun _ => (Nat.zero_add _).le.trans' (by rw [Nat.zero_mul])) (I.X c))
  have b1 (d) : (dat I o c).before (1 : Fin 6) t0_0 d = I.Wq c := by unfold Dat.before; rw [if_pos (fetch0_1 t0_0)]; exact fetched_whole I o c 1 d (I.Wq c) (fun _ => rfl) (block_read main_arg1 (fun _ => (Nat.zero_add _).le.trans' (by rw [Nat.zero_mul])) (I.Wq c))
  have b2 (d) : (dat I o c).before (2 : Fin 6) t0_0 d = I.K c := by unfold Dat.before; rw [if_pos (fetch0_2 t0_0)]; exact fetched_whole I o c 2 d (I.K c) (fun _ => rfl) (block_read main_v17 (fun _ => (Nat.zero_add _).le.trans' (by rw [Nat.zero_mul])) (I.K c))
  have b3 (d) : (dat I o c).before (3 : Fin 6) t0_0 d = I.V c := by unfold Dat.before; rw [if_pos (fetch0_3 t0_0)]; exact fetched_whole I o c 3 d (I.V c) (fun _ => rfl) (block_read main_v20 (fun _ => (Nat.zero_add _).le.trans' (by rw [Nat.zero_mul])) (I.V c))
  have b4 (d) : (dat I o c).before (4 : Fin 6) t0_0 d = I.Wo c := by unfold Dat.before; rw [if_pos (fetch0_4 t0_0)]; exact fetched_whole I o c 4 d (I.Wo c) (fun _ => rfl) (block_read main_arg4 (fun _ => (Nat.zero_add _).le.trans' (by rw [Nat.zero_mul])) (I.Wo c))
  simp only [b0, b1, b2, b3, b4, owns_whole]
  have hX : ((c : Thread nD τ).loc cc0_stg0_0 ↦{fullShare} I.X c : sProp 𝕄) = atX I c := rfl
  have hWq : ((c : Thread nD τ).loc cc0_stg1_0 ↦{fullShare} I.Wq c : sProp 𝕄) = atWq I c := rfl
  have hK : ((c : Thread nD τ).loc cc0_stg2_0 ↦{fullShare} I.K c : sProp 𝕄) = atK I c := rfl
  have hV : ((c : Thread nD τ).loc cc0_stg3_0 ↦{fullShare} I.V c : sProp 𝕄) = atV I c := rfl
  have hWo : ((c : Thread nD τ).loc cc0_stg4_0 ↦{fullShare} I.Wo c : sProp 𝕄) = atWo I c := rfl
  rw [hX, hWq, hK, hV, hWo]
  unfold Xk
  iintro ⟨⟨⟨%κ, #Hc, Hl, Hd⟩, Hs, Hp⟩, HO, ⟨%_d0, HX⟩, ⟨%_d1, HWq⟩, ⟨%_d2, HK⟩, ⟨%_d3, HV⟩, ⟨%_d4, HWo⟩, ⟨%d5, Hout⟩⟩
  ihave HO := (owesAt_out I o c _ (O₀ c) (owed_first I o c)) $$ HO
  ihave Hs := (scratch_open c) $$ Hs
  ihave Ho : (anyAt c cc0_stg5_0 : sProp 𝕄) $$ [Hout]
  · unfold anyAt; iexists _; iexact Hout
  ihave Ho := (out_open c) $$ Ho
  iapply (bodyRun I κ c) $$ Hc [HO] Hl Hs Ho [HX HWq HK HV HWo]
  · unfold owing; iexact HO
  · unfold raws
    isplitl [HX]; · iexact HX
    isplitl [HWq]; · iexact HWq
    isplitl [HK]; · iexact HK
    isplitl [HV]; · iexact HV
    iexact HWo
  unfold owing
  iintro ⟨⟨%W, HO⟩, Hz, Hs, Ho, Hraw⟩
  ihave Hs := (scratch_close c) $$ Hs
  ihave Ho := (out_close I c) $$ Ho
  icases (zeros_own c) $$ [Hz Hd] with ⟨Hb, Hz⟩
  · isplitl [Hz]; · iexact Hz
    iexact Hd
  isplitl [Hb Hz Hs Hp]
  · isplitl [Hb]; · iexact Hb
    isplitl [Hz]; · iexact Hz
    isplitl [Hs]; · iexact Hs
    iexact Hp
  isplitl [HO]; · iapply (owesAt_in I o c t0_0.succ 0 (owed_last I o c) W); iexact HO
  unfold raws
  icases Hraw with ⟨HX, HWq, HK, HV, HWo⟩
  isplitl [HX]; · iexact HX
  isplitl [HWq]; · iexact HWq
  isplitl [HK]; · iexact HK
  isplitl [HV]; · iexact HV
  isplitl [HWo]; · iexact HWo
  iexact Ho

end Cert.KernelIdeal.Att
-- ==== Proof.Run.lean ====
/- The kernel as a region of the program, and the run of the whole program. -/
module

public import proofs.«01_k».proof.Proof.Region

@[expose] public section

set_option maxRecDepth 16384

noncomputable section

namespace Cert.KernelIdeal.Att

open Idealize.ShloMosaic Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Pipeline (Dat Seg HostSeg RegionSeg BodyObligation)

section Reg

variable (W : Dev nD → Valuation τ sig (Elt F))

/-- The kernel's operands among a device's buffers. -/
def inpOf : Inp F := ⟨fun c => W c main_v21, fun c => W c main_arg1, fun c => W c main_v17, fun c => W c main_v20, fun c => W c main_arg4⟩

/-- The buffers after the kernel. -/
abbrev after1 (c : Dev nD) : Valuation τ sig (Elt F) := Function.update (W c) main_v22 (outF (inpOf W) c)

abbrev datW (c : Dev nD) : Dat τ (Elt F) Unit ℕ UU ℕ cfg0 c := dat (inpOf W) (fun c => W c main_v22) c

def pdats : (p : Fin 1) → (c : Dev nD) → Dat τ (Elt F) Unit ℕ UU ℕ (cfgs p) c
  | 0 => datW W
  | ⟨_ + 1, h⟩ => absurd h (Nat.not_lt.2 (Nat.le_add_left _ _))

abbrev arrs : Finset (DevRef τ sig) := Pipeline.arrRefs (τ := τ) (pcfgs (F := F) 0).spec
abbrev others : Finset (DevRef τ sig) := Pipeline.ucRefs τ sig \ arrs (F := F)

theorem arrs_sub : arrs (F := F) ⊆ Pipeline.ucRefs τ sig := by
  show Pipeline.arrRefs (τ := τ) spec0 ⊆ Pipeline.ucRefs τ sig
  decide

theorem after1_other (c : Dev nD) (b : DevRef τ sig) (hb : b ∈ others (F := F) \ ∅) : after1 W c b = W c b := by
  refine Function.update_of_ne (fun e => ?_) _ _
  subst e
  rw [Finset.sdiff_empty] at hb
  exact (Finset.mem_sdiff.mp hb).2 (show (Proc.devRef .tc main_v22 : DevRef τ sig) ∈ Pipeline.arrRefs (τ := τ) spec0 by decide)

theorem cut_owed (c : Dev nD) (t : Fin ((Pipeline.pin (pcfgs (F := F)) adm 0).N + 1)) (g : GSem nD τ sig) (i : Unit) (h : 0 < (pdats W 0 c).owed t g i) :
    i ∈ L g ∧ (0 : ℕ) < lv g i := by
  have e : (pdats W 0 c).owed t = if t.val = 0 then O₀ c else 0 := rfl
  rw [e] at h
  split at h
  · obtain ⟨x, hx, rfl⟩ := oweFrom_pos _ h
    obtain ⟨h1, h2⟩ := lv_full c x hx
    exact ⟨by rw [L, if_pos h1]; exact Finset.mem_singleton_self _, h2⟩
  · exact absurd h (Nat.lt_irrefl 0)

theorem enter (c : Dev nD) : iprop(Pipeline.scopedRest (Pipeline.pin (pcfgs (F := F)) adm 0).spec c ∗ (∃ r, prngReg c r)
    ∗ StableHlo.held (c.tc : Thread nD τ) ∅ (W c) ∗ Xk (blocksOf (inpOf W)) c) ⊢ (pdats W 0 c).Φ 0 := by
  rw [show (pdats W 0 c).Φ 0 = iprop(Xk (blocksOf (inpOf W)) c ∗ scratch c ∗ ∃ r, prngReg c r) from rfl,
    show (Pipeline.scopedRest (Pipeline.pin (pcfgs (F := F)) adm 0).spec c : sProp 𝕄) = scratch c from scopedRest0_eq c]
  iintro ⟨Hs, Hp, -, HX⟩
  isplitl [HX]; · iexact HX
  isplitl [Hs]; · iexact Hs
  iexact Hp

theorem leave (c : Dev nD) : (pdats W 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (after1 W c) ∗ Pipeline.ownSems0 osem c ∗ semVal (barC c) 0) := by
  rw [show (pdats W 0 c).Φ (Fin.last _) = iprop(semVal (barC c) 0 ∗ Pipeline.ownSems0 osem c ∗ scratch c ∗ ∃ r, prngReg c r) from rfl,
    show (Pipeline.scopedRest (Pipeline.pin (pcfgs (F := F)) adm 0).spec c : sProp 𝕄) = scratch c from scopedRest0_eq c,
    show (StableHlo.held (c.tc : Thread nD τ) ∅ (after1 W c) : sProp 𝕄) = BI.emp from BI.bigSep_empty]
  iintro ⟨Hb, Ho, Hs, Hp⟩
  isplitl [Hs]; · iexact Hs
  isplitl [Hp]; · iexact Hp
  isplitr; · iempintro
  isplitl [Ho]; · iexact Ho
  iexact Hb

theorem share_full (c : Dev nD) (w : Fin 6) : (datW W c).share w = fullShare := by unfold Dat.share; split <;> rfl

theorem arr_first (c : Dev nD) (w : Fin 6) : (datW W c).arrAt w 0 = W c (Proc.devRef .tc (Pipeline.arrRef spec0 w)) := by
  show (datW W c).A w = _
  fin_cases w <;> rfl

/-- An operand's array ends as it was. -/
theorem arr_kept (c : Dev nD) (w : Fin 6) (hw : (cfg0.win w).flush t0_0 = false)
    (hn : (Proc.devRef .tc (Pipeline.arrRef spec0 w) : DevRef τ sig) ≠ Proc.devRef .tc main_v22) :
    (datW W c).arrAt w cfg0.N = after1 W c (Proc.devRef .tc (Pipeline.arrRef spec0 w)) := by
  rw [show cfg0.N = t0_0.val + 1 from rfl, (datW W c).arrAt_succ w t0_0, if_neg (by rw [hw]; exact Bool.false_ne_true)]
  exact (arr_first W c w).trans (Function.update_of_ne hn _ _).symm

/-- The output's array ends holding what the body left. -/
theorem arr_out (c : Dev nD) : (datW W c).arrAt (5 : Fin 6) cfg0.N = after1 W c (Proc.devRef .tc main_v22) := by
  have h : ((cfg0.win 5).blk t0_0).view.read (Elt F) ((datW W c).arrAt (5 : Fin 6) cfg0.N) = (datW W c).flushed (5 : Fin 6) t0_0 := by
    rw [show cfg0.N = t0_0.val + 1 from rfl, (datW W c).arrAt_succ (5 : Fin 6) t0_0, flush0_5, if_pos rfl]
    exact View.read_write_univ _ _
  have e : (datW W c).arrAt (5 : Fin 6) cfg0.N = (datW W c).flushed (5 : Fin 6) t0_0 :=
    (block_read main_v22 (fun _ => (Nat.zero_add _).le.trans' (by rw [Nat.zero_mul])) _).symm.trans h
  rw [e]
  exact (Function.update_self (β := fun b : DevRef τ sig => b.ty.Contents (Elt F)) (Proc.devRef .tc main_v22) (outF (inpOf W) c) (W c)).symm

theorem arr_last (c : Dev nD) (w : Fin 6) : (datW W c).arrAt w cfg0.N = after1 W c (Proc.devRef .tc (Pipeline.arrRef spec0 w)) := by
  match w with
  | ⟨0, _⟩ => exact arr_kept W c 0 (by decide) (by decide)
  | ⟨1, _⟩ => exact arr_kept W c 1 (by decide) (by decide)
  | ⟨2, _⟩ => exact arr_kept W c 2 (by decide) (by decide)
  | ⟨3, _⟩ => exact arr_kept W c 3 (by decide) (by decide)
  | ⟨4, _⟩ => exact arr_kept W c 4 (by decide) (by decide)
  | ⟨5, _⟩ => exact arr_out W c
  | ⟨_ + 6, h⟩ => exact absurd h (Nat.not_lt.2 (Nat.le_add_left _ _))

theorem stage_zero (w : Fin 6) (s : Fin (cfg0.win w).nbuf) : lvS (.dma ((cfg0.win w).sem s)) = 0 := by
  revert s; fin_cases w <;> decide

set_option backward.isDefEq.respectTransparency.types false in
def reg : RegionSeg (pcfgs (F := F)) adm (pdats W) () defs₀ 𝒱₀ L lv 0 :=
  Pipeline.RegionSeg.ofTalk (pcfgs (F := F)) adm (pdats W) () defs₀ 𝒱₀ L lv 0 osem (by decide : Pipeline.OwnSemFacts spec0 osem)
    ∅ others (Finset.empty_subset _) launch0.toP rfl (fun c => (body_ob (inpOf W) (fun c => W c main_v22) c).loose)
    (fun _ => 0) O₀ (fun c => (owed_first (inpOf W) (fun c => W c main_v22) c).trans (zero_add _).symm) (owed_last (inpOf W) (fun c => W c main_v22)) (fun _ => rfl) (share_full W)
    W (after1 W) (after1_other W)
    (Tk (blocksOf (inpOf W))) (fun c => semVal (barC c) 0) (Xk (blocksOf (inpOf W))) (fun c => semVal (barC c) 0)
    (hopen (blocksOf (inpOf W))) (enter W) (leave W)
    (fun c => by iintro H; imodintro; iexact H)
    (fun _ => 0)
    ⟨fun c w s => by rw [L_tc]; exact Finset.mem_singleton_self _, fun c w s => (stage_zero w s).le, fun c t g i h => cut_owed W c t g i h⟩
    (fun _ => iprop(emp)) (arr_first W) (arr_last W)

theorem reg_pre (c : Dev nD) : iprop(StableHlo.held (c : Thread nD τ) (Pipeline.ucRefs τ sig) (W c) ∗ E0 (blocksOf (inpOf W)) c) ⊢ (reg W).pre c := by
  show _ ⊢ iprop(StableHlo.held (c.tc : Thread nD τ) (arrs (F := F)) (W c) ∗ (∃ r, prngReg c r)
    ∗ (StableHlo.held (c.tc : Thread nD τ) (others (F := F)) (W c) ∗ emp) ∗ Tk (blocksOf (inpOf W)) c ∗ ∃ Wd, owes (c : Thread nD τ) (0 + O₀ c) Wd)
  rw [zero_add, StableHlo.held_sub_split (c.tc : Thread nD τ) (arrs_sub (F := F)) (W c)]
  unfold E0
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

/-- What a core keeps after the kernel beside its buffers. -/
def E1 (c : Dev nD) : sProp 𝕄 := iprop(semVal (barC c) 0 ∗ ∃ Wd, owes (c : Thread nD τ) (0 : CellTallies nD τ sig Unit) Wd)

theorem reg_post (c : Dev nD) : (reg W).post c ⊢ iprop(StableHlo.held (c : Thread nD τ) (Pipeline.ucRefs τ sig) (after1 W c) ∗ E1 c) := by
  show iprop(StableHlo.held (c.tc : Thread nD τ) (arrs (F := F)) (after1 W c) ∗ (∃ r, prngReg c r)
    ∗ (StableHlo.held (c.tc : Thread nD τ) (others (F := F)) (after1 W c) ∗ emp) ∗ semVal (barC c) 0 ∗ ∃ Wd, owes (c : Thread nD τ) (0 : CellTallies nD τ sig Unit) Wd) ⊢ _
  rw [StableHlo.held_sub_split (c.tc : Thread nD τ) (arrs_sub (F := F)) (after1 W c)]
  unfold E1
  iintro ⟨Ha, -, ⟨Hr, -⟩, Hb, HO⟩
  isplitl [Ha Hr]
  · isplitl [Ha]; · iexact Ha
    iexact Hr
  isplitl [Hb]; · iexact Hb
  iexact HO

end Reg

section Main

variable (m : (ℓ : Loc nD τ sig) → Buf (Elt F) ℓ) (ρ : Dev nD → PrngReg)

/-- The operands of the kernel, as the operations before it leave them. -/
abbrev inp : Inp F := inpOf (V1 m)

/-- What the kernel leaves in its output array. -/
def outs : Outs (F := F) := fun _ r c =>
  if h : r = main_v22 then h ▸ (outF (inp m) c : Buf (Elt F) ((c : Thread nD τ).loc main_v22)) else V1 m c r

theorem outs_v22 (j : ℕ) (c : Dev nD) : outs m j main_v22 c = outF (inp m) c := by unfold outs; rw [dif_pos rfl]

theorem V2_eq (c : Dev nD) : V2 m (outs m) c = after1 (V1 m) c := by
  show Function.update (V1 m c) main_v22 (outs m 2 main_v22 c) = _
  rw [outs_v22]

def Er : Fin 2 → Dev nD → sProp 𝕄
  | 0 => E0 (blocksOf (inp m))
  | 1 => E1

theorem unscoped_eq : ∀ sm : SemLoc sig, sm.isScoped .tc = false → sm = .reg barrier0 := by decide

/-- What a device's memory reads after the run. -/
def Reads (c : Dev nD) (s : MemSt nD τ sig (Elt F)) : Prop :=
  s.mem ((c : Thread nD τ).loc main_v23) = V3 m (outs m) c main_v23
    ∧ (s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4))
    ∧ s.sem (barC c) = 0

theorem read_end (c : Dev nD) (s' : Phys nD τ sig (Elt F)) :
    iprop((StableHlo.held (c : Thread nD τ) (Pipeline.ucRefs τ sig) (V3 m (outs m) c) ∗ semVal (barC c) 0) ∗ SI s')
      ⊢ (|={Set.univ}=> iprop(⌜Reads m c s'.mem⌝ ∗ SI s') : sProp 𝕄) := by
  unfold StableHlo.held
  iintro ⟨⟨Hh, Hb⟩, HSI⟩
  ihave Hr := (pointsTo_read_all (Pipeline.ucRefs τ sig) (fun b => ((c : Thread nD τ).1, b)) (V3 m (outs m) c) s') $$ [Hh HSI]
  · isplitl [Hh] <;> iassumption
  icases Hr with ⟨%h, HSI⟩
  icombine HSI Hb gives %hb
  imodintro
  isplitr
  · ipureintro
    have at_ (r : Ref sig .tc) (hr : (Proc.devRef .tc r : DevRef τ sig) ∈ Pipeline.ucRefs τ sig) := h (Proc.devRef .tc r) hr
    exact ⟨at_ main_v23 (Finset.mem_filter.mpr ⟨StableHlo.devRef_mem_tcRefs main_v23, by decide⟩),
      ⟨(at_ main_arg0 (Finset.mem_filter.mpr ⟨StableHlo.devRef_mem_tcRefs main_arg0, by decide⟩)).trans (V3_main_arg0 m (outs m) c),
        (at_ main_arg1 (Finset.mem_filter.mpr ⟨StableHlo.devRef_mem_tcRefs main_arg1, by decide⟩)).trans (V3_main_arg1 m (outs m) c),
        (at_ main_arg2 (Finset.mem_filter.mpr ⟨StableHlo.devRef_mem_tcRefs main_arg2, by decide⟩)).trans (V3_main_arg2 m (outs m) c),
        (at_ main_arg3 (Finset.mem_filter.mpr ⟨StableHlo.devRef_mem_tcRefs main_arg3, by decide⟩)).trans (V3_main_arg3 m (outs m) c),
        (at_ main_arg4 (Finset.mem_filter.mpr ⟨StableHlo.devRef_mem_tcRefs main_arg4, by decide⟩)).trans (V3_main_arg4 m (outs m) c)⟩,
      by simpa using hb⟩
  · iexact HSI

set_option backward.isDefEq.respectTransparency.types false in
/-- The program runs to the end, leaving its result, its arguments as launched and every semaphore at zero. -/
theorem run_main : θ_run defs (onTc (τ := τ) (main (F := F))) ⟨m, fun _ => 0, ρ⟩
    (fun r => (∀ c : Dev nD, Reads m c r.2) ∧ r.2.sem = fun _ => 0) := by
  refine Pipeline.θ_run_regions_kit_dev_sems (pcfgs (F := F)) adm (pdats (V1 m)) () cellOf_inj EP defs₀ 𝒱₀ L lv m ρ main
    (segs m (outs m) 𝒱₀ L lv (Er m) () (pdats (V1 m)) (reg (V1 m)))
    (fun c Q => by
      rewrite [main_chain c, Seg.run_eq_chain,
        show (segs m (outs m) 𝒱₀ L lv (Er m) () (pdats (V1 m)) (reg (V1 m)) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide) O₀ L_of_ne G u₀ fund
    (T₀ := fun c => iprop(StableHlo.held (c : Thread nD τ) (Pipeline.ucRefs τ sig) (V0 m c) ∗ E0 (blocksOf (inp m)) c))
    (Tₙ := fun c => iprop(StableHlo.held (c : Thread nD τ) (Pipeline.ucRefs τ sig) (V3 m (outs m) c) ∗ semVal (barC c) 0))
    (hch := fun c => ⟨.rfl, reg_pre (V1 m) c, ?_, ?_⟩)
    (hinit := ?_) (QY := Reads m) (hfin := read_end m)
    (hQ := fun s h hs => ⟨h, sem_eq_zero hs fun c sm hsm => by obtain rfl := unscoped_eq sm hsm; exact (h c).2.2⟩)
  · exact (reg_post (V1 m) c).trans (Entails.of_eq (by rw [← V2_eq]; rfl))
  · show iprop(StableHlo.held (c : Thread nD τ) (Pipeline.ucRefs τ sig) (V3 m (outs m) c) ∗ E1 c) ⊢ _
    unfold E1
    iintro ⟨Hh, Hb, HO⟩
    isplitl [Hh Hb]
    · isplitl [Hh]; · iexact Hh
      iexact Hb
    iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (start (blocksOf (inp m)) ρ) $$ [Hr Hla] with HE
    · isplitl [Hr]; · iexact Hr
      iexact Hla
    imodintro
    rw [bigSep_sep']
    isplitl [Hh]; · iexact Hh
    iexact HE

end Main

end Cert.KernelIdeal.Att
-- ==== Proof.FrameK.lean ====
/- The printed program run on machine words: the same program as the one read over the extended reals, its named constant the word it stands for. -/
module

public import proofs.«01_k».proof.Defs
public import proofs.«01_k».proof.Proof.Gen.Kernel
public import proofs.«01_k».proof.Proof.Run

@[expose] public section

set_option maxRecDepth 16384

noncomputable section

namespace Cert.KernelIdeal.Att

open Idealize.ShloMosaic Gen
open Idealize.ShloMosaic.TcCoe
open Idealize.SL.Sem

/-- The named constant as the word it stands for. -/
local instance named_bits : Named Bits := ⟨fun _ _ {φ} bits => FloatOps.ofBits φ bits⟩

attribute [local instance] Cert.Kernel.Gen.facts Cert.KernelIdeal.Gen.facts

theorem main_same (c : Dev nD) : Cert.Kernel.main (F := Bits) c = main (F := Bits) c := rfl

set_option maxHeartbeats 4000000 in
theorem body_same : Cert.Kernel.cc0_body (F := Bits) = cc0_body (F := Bits) := rfl

theorem cells_same : Cert.Kernel.defs₀ (F := Bits) = defs₀ (F := Bits) := by
  unfold Cert.Kernel.defs₀ defs₀
  refine congrArg Defs.onTc (funext fun l => funext fun a => ?_)
  match l, a with
  | 0, (t, s) => rw [← body_same]
  | ⟨_ + 1, h⟩, _ => exact absurd h (Nat.not_lt.2 (Nat.le_add_left _ _))

theorem defs_same : Cert.Kernel.defs (F := Bits) = defs (F := Bits) := congrArg (Pipeline.defs (pcfgs (F := Bits))) cells_same

/-- The printed program runs to the end, its arguments as launched and every semaphore at zero. -/
theorem frame_kernel : Cert.quiescent_Kernel := fun m ρ _ => by
  rw [defs_same]
  exact (θ_run (defs (F := Bits)) _ _).mono (fun _ h => ⟨fun c => (h.1 c).2.1, h.2⟩) (run_main (F := Bits) m ρ)

/-- The same program read over the extended reals. -/
theorem frame_kernelIdeal : Cert.quiescent_KernelIdeal := fun m ρ _ =>
  (θ_run (defs (F := Ideal)) _ _).mono (fun _ h => ⟨fun c => (h.1 c).2.1, h.2⟩) (run_main (F := Ideal) m ρ)

end Cert.KernelIdeal.Att
-- ==== Proof.FrameR.lean ====
/- The reference's run: its arguments are as launched, and it declares no semaphore. -/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.ReferenceIdeal.Att

open Idealize.ShloMosaic
open Idealize.ShloMosaic.TcCoe
open Idealize.SL.Sem

attribute [local instance] Cert.ReferenceIdeal.Gen.facts

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.ReferenceIdeal.Att
-- ==== Proof.Softmax.lean ====
/- The mathematics of the claim, over the extended reals: attention with a block mask, written as the reference writes it (the row's
   greatest score subtracted, every weight divided by the row's sum) and as the kernel writes it (nothing subtracted, the row's sum
   divided out at the end), is the same where the scores are finite. -/
module

public import Idealize.ShloMosaic.PureOps.Ideal.Laws
public import Idealize.ShloMosaic.Lib.IdealHost
public import Mathlib.Algebra.BigOperators.Fin

@[expose] public section

noncomputable section

namespace Cert.Att

open Idealize.ShloMosaic
open scoped BigOperators

/-! ## Sums and products of extended reals -/

/-- A finite factor that is not negative goes into a sum. -/
theorem mul_sum {ι : Type} (s : Finset ι) (f : ι → EReal) {x : EReal} (h0 : 0 ≤ x) (ht : x ≠ ⊤) :
    x * ∑ i ∈ s, f i = ∑ i ∈ s, x * f i := by
  classical
  induction s using Finset.induction_on with
  | empty => simp
  | insert a s ha ih => rw [Finset.sum_insert ha, Finset.sum_insert ha, EReal.left_distrib_of_nonneg_of_ne_top h0 ht, ih]

theorem sum_mul {ι : Type} (s : Finset ι) (f : ι → EReal) {x : EReal} (h0 : 0 ≤ x) (ht : x ≠ ⊤) :
    (∑ i ∈ s, f i) * x = ∑ i ∈ s, f i * x := by
  rw [mul_comm, mul_sum s f h0 ht]
  exact Finset.sum_congr rfl fun i _ => mul_comm _ _

/-- A sum of reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A number that is neither infinity. -/
def IsNum (x : EReal) : Prop := ∃ r : ℝ, x = r

theorem IsNum.mul {x y : EReal} : IsNum x → IsNum y → IsNum (x * y) := fun ⟨a, ha⟩ ⟨b, hb⟩ => ⟨a * b, by rw [ha, hb, EReal.coe_mul]⟩
theorem IsNum.sum {ι : Type} (s : Finset ι) {f : ι → EReal} (h : ∀ i, IsNum (f i)) : IsNum (∑ i ∈ s, f i) := by
  choose g hg using h
  exact ⟨∑ i ∈ s, g i, by rw [← sum_coe]; exact Finset.sum_congr rfl fun i _ => hg i⟩

/-! ## The softmax of a row -/

section Row
variable {ι : Type} [Fintype ι]

/-- The greatest entry of a row. -/
def top (s : ι → EReal) : EReal := Finset.univ.fold max ⊥ s

theorem le_top (s : ι → EReal) (j : ι) : s j ≤ top s := (Finset.le_fold_max _).2 (.inr ⟨j, Finset.mem_univ j, le_rfl⟩)
theorem top_fin (s : ι → EReal) (hs : ∀ j, s j = ⊥ ∨ IsNum (s j)) (j₀ : ι) (h₀ : IsNum (s j₀)) : IsNum (top s) := by
  have hlt : top s < ⊤ := (Finset.fold_max_lt _).2 ⟨bot_lt_top, fun j _ => by
    rcases hs j with h | ⟨r, h⟩ <;> rw [h]
    · exact bot_lt_top
    · exact EReal.coe_lt_top r⟩
  obtain ⟨r, hr⟩ := h₀
  have hgt : ⊥ < top s := lt_of_lt_of_le (by rw [hr]; exact EReal.bot_lt_coe r) (le_top s j₀)
  exact ⟨(top s).toReal, (EReal.coe_toReal hlt.ne hgt.ne').symm⟩

/-- The weight of an entry, a real that is not negative, and positive where the entry is a number. -/
theorem exp_real (x : EReal) (h : x = ⊥ ∨ IsNum x) : ∃ e : ℝ, 0 ≤ e ∧ Ideal.exp x = e ∧ (IsNum x → 0 < e)
    ∧ ∀ μ : ℝ, Ideal.exp (x - (μ : EReal)) = ((e * Real.exp (-μ) : ℝ) : EReal) := by
  rcases h with rfl | ⟨r, rfl⟩
  · refine ⟨0, le_rfl, by simp, fun ⟨r, hr⟩ => absurd hr (EReal.bot_ne_coe r), fun μ => ?_⟩
    rw [zero_mul, EReal.bot_sub]; simp
  · refine ⟨Real.exp r, (Real.exp_pos r).le, rfl, fun _ => Real.exp_pos r, fun μ => ?_⟩
    rw [← EReal.coe_sub, Ideal.exp_coe, sub_eq_add_neg, Real.exp_add]

/-- **The two softmaxes.** A row of values weighed by the reference's weights is the row weighed by the bare exponentials, then
    divided by their sum. The values may be infinite. -/
theorem soft (s v : ι → EReal) (hs : ∀ j, s j = ⊥ ∨ IsNum (s j)) (j₀ : ι) (h₀ : IsNum (s j₀)) :
    ∑ j, v j * Ideal.div (Ideal.exp (s j - top s)) (∑ j', Ideal.exp (s j' - top s))
      = (∑ j, Ideal.exp (s j) * v j) * Ideal.div 1 (∑ j, Ideal.exp (s j)) := by
  obtain ⟨μ, hμ⟩ := top_fin s hs j₀ h₀
  choose e he0 he hep hem using fun j => exp_real (s j) (hs j)
  have hS : 0 < ∑ j, e j := Finset.sum_pos' (fun j _ => he0 j) ⟨j₀, Finset.mem_univ _, hep j₀ h₀⟩
  have hexp : Real.exp (-μ) ≠ 0 := (Real.exp_pos _).ne'
  have hsum : ∑ j, Ideal.exp (s j) = ((∑ j, e j : ℝ) : EReal) := by rw [← sum_coe]; exact Finset.sum_congr rfl fun j _ => he j
  have hsum' : ∑ j, Ideal.exp (s j - top s) = (((∑ j, e j) * Real.exp (-μ) : ℝ) : EReal) := by
    rw [hμ, Finset.sum_mul, ← sum_coe]; exact Finset.sum_congr rfl fun j _ => hem j μ
  rw [hsum, hsum', Ideal.div_coe hS.ne', one_mul,
    sum_mul _ _ (EReal.coe_nonneg.2 (by positivity)) (EReal.coe_ne_top _)]
  refine Finset.sum_congr rfl fun j _ => ?_
  rw [hμ, hem j μ, Ideal.div_coe (mul_ne_zero hS.ne' hexp), ← EReal.coe_mul, he j, mul_comm (e j : EReal) (v j), mul_assoc,
    mul_assoc, ← EReal.coe_mul, ← mul_assoc]
  congr 2
  field_simp

end Row

/-! ## Windows and blocks of sums -/

/-- A sum over 256 places of which only one half is not zero. -/
theorem sum_half (f : Fin 256 → EReal) (o : Fin 2) (h : ∀ j : Fin 256, j.val / 128 ≠ o.val → f j = 0) :
    ∑ j, f j = ∑ k : Fin 128, f ⟨128 * o.val + k.val, by omega⟩ := by
  have e : ∑ j, f j = ∑ a : Fin 2, ∑ k : Fin 128, f ⟨128 * a.val + k.val, by omega⟩ := by
    rw [← Fintype.sum_prod_type' (f := fun (a : Fin 2) (k : Fin 128) => f ⟨128 * a.val + k.val, by omega⟩)]
    exact (Fintype.sum_equiv (finProdFinEquiv (m := 2) (n := 128)) _ _ fun p => congrArg f (Fin.ext (by
      simp [finProdFinEquiv]; omega))).symm
  rw [e]
  refine Finset.sum_eq_single o (fun a _ ha => Finset.sum_eq_zero fun k _ => h _ ?_) fun h => absurd (Finset.mem_univ o) h
  intro hc
  exact ha (Fin.ext (by have := k.isLt; simp only at hc; omega))

/-- A sum over the 1024 rows of the output weights, device by device and head by head. -/
theorem sum_rows (f : Fin 1024 → EReal) :
    ∑ k, f k = ∑ c : Fin 4, ∑ h : Fin 4, ∑ d : Fin 64, f ⟨256 * c.val + (64 * h.val + d.val), by omega⟩ := by
  have e₁ : ∑ k, f k = ∑ c : Fin 4, ∑ y : Fin 256, f ⟨256 * c.val + y.val, by omega⟩ := by
    rw [← Fintype.sum_prod_type' (f := fun (c : Fin 4) (y : Fin 256) => f ⟨256 * c.val + y.val, by omega⟩)]
    exact (Fintype.sum_equiv (finProdFinEquiv (m := 4) (n := 256)) _ _ fun p => congrArg f (Fin.ext (by
      simp [finProdFinEquiv]; omega))).symm
  rw [e₁]
  refine Finset.sum_congr rfl fun c _ => ?_
  rw [← Fintype.sum_prod_type' (f := fun (h : Fin 4) (d : Fin 64) => f ⟨256 * c.val + (64 * h.val + d.val), by omega⟩)]
  exact (Fintype.sum_equiv (finProdFinEquiv (m := 4) (n := 64)) _ _ fun p => congrArg f (Fin.ext (by
    simp [finProdFinEquiv]; omega))).symm

/-! ## Attention -/

/-- One eighth. -/
def c8 : EReal := Ideal.ofBits .f32 0x3E000000#32
theorem c8_eq : c8 = ((1 / 8 : ℝ) : EReal) := by
  unfold c8; simp [Ideal.ofBits, Ideal.ieee]; rw [← EReal.coe_mul]; norm_num
theorem c8_nonneg : 0 ≤ c8 := by rw [c8_eq]; exact EReal.coe_nonneg.2 (by norm_num)
theorem c8_ne_top : c8 ≠ ⊤ := by rw [c8_eq]; exact EReal.coe_ne_top _

section Spec
variable (X : Fin 2 → Fin 256 → Fin 512 → EReal) (W : Fin 512 → Fin 1024 → EReal)
  (K V : Fin 2 → Fin 256 → Fin 16 → Fin 64 → EReal) (O : Fin 1024 → Fin 512 → EReal)

/-- The column of a head's coordinate. -/
abbrev col (h : Fin 16) (d : Fin 64) : Fin 1024 := ⟨64 * h.val + d.val, by omega⟩

def query (b : Fin 2) (i : Fin 256) (h : Fin 16) (d : Fin 64) : EReal := ∑ m, X b i m * W m (col h d)
/-- The scaled score of key `j` for query `i`, minus infinity outside the query's block of 64. -/
def score (b : Fin 2) (h : Fin 16) (i j : Fin 256) : EReal :=
  if i.val / 64 = j.val / 64 then (∑ d, query X W b i h d * K b j h d) * c8 else ⊥
/-- A head's context as the reference computes it. -/
def ctxR (b : Fin 2) (i : Fin 256) (h : Fin 16) (d : Fin 64) : EReal :=
  ∑ j, V b j h d * Ideal.div (Ideal.exp (score X W K b h i j - top (score X W K b h i)))
    (∑ j', Ideal.exp (score X W K b h i j' - top (score X W K b h i)))
/-- The reference's result. -/
def outR (b : Fin 2) (i : Fin 256) (n : Fin 512) : EReal :=
  ∑ k : Fin 1024, ctxR X W K V b i ⟨k.val / 64, by omega⟩ ⟨k.val % 64, Nat.mod_lt _ (by omega)⟩ * O k n

/-- The kernel's query, its weights scaled before the product. -/
def queryK (b : Fin 2) (i : Fin 256) (h : Fin 16) (d : Fin 64) : EReal := ∑ m, X b i m * (W m (col h d) * c8)
/-- The kernel's score of key `k` of half `o`, for query `p` of the same half. -/
def scoreK (b o : Fin 2) (h : Fin 16) (p k : Fin 128) : EReal :=
  if p.val / 64 = k.val / 64 then ∑ d, queryK X W b ⟨128 * o.val + p.val, by omega⟩ h d * K b ⟨128 * o.val + k.val, by omega⟩ h d else ⊥
/-- A head's context as the kernel computes it, from the 128 keys of the query's own half. -/
def ctxK (b o : Fin 2) (p : Fin 128) (h : Fin 16) (d : Fin 64) : EReal :=
  (∑ k, Ideal.exp (scoreK X W K b o h p k) * V b ⟨128 * o.val + k.val, by omega⟩ h d)
    * Ideal.div 1 (∑ k, Ideal.exp (scoreK X W K b o h p k))

theorem queryK_eq (b : Fin 2) (i : Fin 256) (h : Fin 16) (d : Fin 64) : queryK X W b i h d = query X W b i h d * c8 := by
  unfold queryK query
  rw [sum_mul _ _ c8_nonneg c8_ne_top]
  exact Finset.sum_congr rfl fun m _ => (mul_assoc _ _ _).symm

theorem scoreK_eq (b o : Fin 2) (h : Fin 16) (p k : Fin 128) :
    scoreK X W K b o h p k = score X W K b h ⟨128 * o.val + p.val, by omega⟩ ⟨128 * o.val + k.val, by omega⟩ := by
  unfold scoreK score
  have e : (p.val / 64 = k.val / 64) ↔ ((128 * o.val + p.val) / 64 = (128 * o.val + k.val) / 64) := by omega
  simp only [e]
  split
  · rw [sum_mul _ _ c8_nonneg c8_ne_top]
    refine Finset.sum_congr rfl fun d _ => ?_
    rw [queryK_eq, mul_assoc, mul_comm c8, ← mul_assoc]
  · rfl

variable {X W K} in
theorem score_fin (hX : ∀ b i m, IsNum (X b i m)) (hW : ∀ m n, IsNum (W m n)) (hK : ∀ b j h d, IsNum (K b j h d))
    (b : Fin 2) (h : Fin 16) (i j : Fin 256) (hij : i.val / 64 = j.val / 64) : IsNum (score X W K b h i j) := by
  unfold score
  rw [if_pos hij]
  exact (IsNum.sum _ fun d => (IsNum.sum _ fun m => (hX b i m).mul (hW m _)).mul (hK b j h d)).mul ⟨_, c8_eq⟩

/-- **A head's context, either way.** -/
theorem ctx_eq (hX : ∀ b i m, IsNum (X b i m)) (hW : ∀ m n, IsNum (W m n)) (hK : ∀ b j h d, IsNum (K b j h d))
    (b o : Fin 2) (p : Fin 128) (h : Fin 16) (d : Fin 64) :
    ctxK X W K V b o p h d = ctxR X W K V b ⟨128 * o.val + p.val, by omega⟩ h d := by
  set i : Fin 256 := ⟨128 * o.val + p.val, by omega⟩ with hi
  have out : ∀ j : Fin 256, j.val / 128 ≠ o.val → Ideal.exp (score X W K b h i j) = 0 := fun j hj => by
    unfold score
    rw [if_neg (by rw [hi]; have := p.isLt; simp only; omega)]
    exact Ideal.exp_bot
  unfold ctxR
  rw [soft (score X W K b h i) (fun j => V b j h d)
    (fun j => (Classical.em (i.val / 64 = j.val / 64)).elim (fun e => .inr (score_fin hX hW hK b h i j e))
      fun e => .inl (by unfold score; exact if_neg e)) i (score_fin hX hW hK b h i i rfl),
    sum_half (fun j => Ideal.exp (score X W K b h i j) * V b j h d) o (fun j hj => by rw [out j hj, zero_mul]),
    sum_half (fun j => Ideal.exp (score X W K b h i j)) o out]
  unfold ctxK
  simp only [scoreK_eq, hi]

/-- The share of device `c` in an output entry: its four heads through its 256 rows of the output weights. -/
def share (c : Fin 4) (b o : Fin 2) (p : Fin 128) (n : Fin 512) : EReal :=
  ∑ h : Fin 4, ∑ d : Fin 64, ctxK X W K V b o p ⟨4 * c.val + h.val, by omega⟩ d * O ⟨256 * c.val + (64 * h.val + d.val), by omega⟩ n

/-- **The claim.** The devices' shares add up to the reference's result. -/
theorem out_eq (hX : ∀ b i m, IsNum (X b i m)) (hW : ∀ m n, IsNum (W m n)) (hK : ∀ b j h d, IsNum (K b j h d))
    (b o : Fin 2) (p : Fin 128) (n : Fin 512) :
    ∑ c, share X W K V O c b o p n = outR X W K V O b ⟨128 * o.val + p.val, by omega⟩ n := by
  unfold outR share
  rw [sum_rows]
  refine Finset.sum_congr rfl fun c _ => Finset.sum_congr rfl fun h _ => Finset.sum_congr rfl fun d _ => ?_
  rw [ctx_eq X W K V hX hW hK]
  congr 2
  · exact Fin.ext (by simp only; omega)
  · exact Fin.ext (by simp only; omega)

end Spec

end Cert.Att
-- ==== Proof.KerValue.lean ====
/- What the kernel computes, at an index: the attention of a head, a device's share of a quarter, and the finished tile as the sum of
   the four devices' shares. -/
module

public import proofs.«01_k».proof.Proof.Softmax
public import proofs.«01_k».proof.Proof.Parts
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.Pipeline.Value

@[expose] public section

set_option maxRecDepth 16384

noncomputable section

namespace Cert.KernelIdeal.Att

open Idealize.ShloMosaic Gen Idealize.ShloMosaic.ValueIdx
open Idealize.ShloMosaic.TcCoe
open Idealize.SL.Sem
open Cert.Att
open scoped BigOperators

/-! ## The mask -/

theorem row_word : ∀ p : Fin 128, k0_pay4 (ix2 p (0 : Fin 128)) = BitVec.ofNat 32 (p.val / 64) := by decide +kernel
/-- The column's block number. -/
def colw : IVec S128x128 32 := select (andi k0_pay6 (cmpi .ne k0_pay7 k0_pay8)) (subi k0_pay5 (broadcast S128x128 1#32)) k0_pay5
theorem col_word : ∀ k : Fin 128, colw (ix2 (0 : Fin 128) k) = BitVec.ofNat 32 (k.val / 64) := by decide +kernel
theorem row_any (p k : Fin 128) : k0_pay4 (ix2 p k) = k0_pay4 (ix2 p (0 : Fin 128)) := rfl
theorem col_any (p k : Fin 128) : colw (ix2 p k) = colw (ix2 (0 : Fin 128) k) := rfl

theorem mk_at (p k : Fin 128) : mk (ix2 p k) = if p.val / 64 = k.val / 64 then 1#1 else 0#1 := by
  have e : mk (ix2 p k) = IntOp.cmpi .eq (k0_pay4 (ix2 p k)) (colw (ix2 p k)) := rfl
  rw [e, row_any, col_any, row_word, col_word]
  have e : (BitVec.ofNat 32 (p.val / 64) = BitVec.ofNat 32 (k.val / 64)) ↔ p.val / 64 = k.val / 64 := by
    rw [← BitVec.toNat_inj, BitVec.toNat_ofNat, BitVec.toNat_ofNat]
    omega
  show BitVec.ofBool (BitVec.ofNat 32 (p.val / 64) == BitVec.ofNat 32 (k.val / 64)) = _
  by_cases h : p.val / 64 = k.val / 64
  · rw [if_pos h, beq_iff_eq.2 (e.2 h)]; rfl
  · rw [if_neg h, beq_eq_false_iff_ne.2 fun hc => h (e.1 hc)]; rfl

/-! ## Products -/

theorem mm {M K N : ℕ} (D : DotDims ⟨2, ![M, K]⟩ ⟨2, ![K, N]⟩ ⟨2, ![M, N]⟩) (hD : D = DotDims.plain M K N) (l : FVec Ideal ⟨2, ![M, K]⟩ .bf16)
    (r : FVec Ideal ⟨2, ![K, N]⟩ .bf16) (i : Fin M) (j : Fin N) :
    matmul D none l r (constant ⟨2, ![M, N]⟩ .f32 0x00000000#32) (ix2 i j) = ∑ k, l (ix2 i k) * r (ix2 k j) := by
  subst hD
  show FloatOps.matmul (DotDims.plain M K N) none l r (constant ⟨2, ![M, N]⟩ .f32 0x00000000#32) (ix2 i j) = _
  rw [Ideal.matmul_plain_apply]
  show Ideal.ofBits .f32 0x00000000#32 + _ = _
  rw [Ideal.ofBits_zero_f32, zero_add]

theorem red128 : S128x128.Reduces [1] S128 := by decide
theorem lift128 (p k : Fin 128) : red128.lift (ix1 p) k = ix2 p k := funext fun a => match a with | ⟨0, _⟩ => rfl | ⟨1, _⟩ => rfl

/-! ## A head -/

section Head
variable (q : FVec Ideal S128x64 .bf16) (k : FVec Ideal S64x128 .bf16) (v : Vec Ideal S1x128x64 .bf16)

/-- A score, masked. -/
def scr (p j : Fin 128) : EReal := if p.val / 64 = j.val / 64 then ∑ d : Fin 64, q (ix2 p d) * k (ix2 d j) else ⊥

def scv : FVec Ideal S128x128 .f32 :=
  select mk (matmul dot_S128x64_S64x128_S128x128_1_0_0_1_n_n none q k (constant S128x128 .f32 0x00000000#32))
    (broadcast S128x128 (Named.named κ "mask" 0xCE6E6B28#32 : Ideal .f32))

theorem scv_at (p j : Fin 128) : scv q k (ix2 p j) = scr q k p j := by
  unfold scv scr
  rw [select_apply, mk_at, mm dot_S128x64_S64x128_S128x128_1_0_0_1_n_n rfl q k p j]
  by_cases h : p.val / 64 = j.val / 64
  · rw [if_pos h, if_pos h, select_one]
  · rw [if_neg h, if_neg h, select_zero]; rfl

/-- The sum of a row's weights. -/
def rowSum : FVec Ideal S128 .f32 := multiReduction .add [1] S128 (exp (scv q k)) 0x00000000#32 reduces_S128x128_S128 (.inl rfl) rfl

theorem rowSum_at (p : Fin 128) : rowSum q k (ix1 p) = ∑ j, Ideal.exp (scr q k p j) := by
  unfold rowSum
  refine (Ideal.multiReduction_add_single (exp (scv q k)) 0x00000000#32 red128 (.inl rfl) rfl (ix1 p)).trans ?_
  exact Finset.sum_congr rfl fun j _ => (congrArg (exp (scv q k)) (lift128 p j)).trans (congrArg Ideal.exp (scv_at q k p j))

theorem head_at (p : Fin 128) (d : Fin 64) : k0_pay14 mk q k v (ix2 p d)
    = (∑ j, Ideal.exp (scr q k p j) * v (ix3 0 j d)) * Ideal.div 1 (∑ j, Ideal.exp (scr q k p j)) := by
  have e : k0_pay14 mk q k v (ix2 p d)
      = matmul dot_S128x128_S128x64_S128x64_1_0_0_1_n_n none (truncf .bf16 (exp (scv q k)) bitsLt_bf16_f32) (shapeCast S128x64 v shapeCasts_S1x128x64_S128x64)
          (constant S128x64 .f32 0x00000000#32) (ix2 p d)
        * broadcastTo S128x64 (divf (broadcast S128x1 (Scalar.ofBits .f32 0x3F800000#32 : Ideal .f32)) (shapeCast S128x1 (rowSum q k) shapeCasts_S128_S128x1))
            broadcasts_S128x1_S128x64 (ix2 p d) := rfl
  rw [e, mm dot_S128x128_S128x64_S128x64_1_0_0_1_n_n rfl,
    broadcastTo_apply (t := S128x64) (divf (broadcast S128x1 (Scalar.ofBits .f32 0x3F800000#32 : Ideal .f32)) (shapeCast S128x1 (rowSum q k) shapeCasts_S128_S128x1))
      broadcasts_S128x1_S128x64 (ix2 p d) (ix2 p (0 : Fin 1)) fun a => match a with | ⟨0, _⟩ => rfl | ⟨1, _⟩ => rfl]
  have e1 : divf (broadcast S128x1 (Scalar.ofBits .f32 0x3F800000#32 : Ideal .f32)) (shapeCast S128x1 (rowSum q k) shapeCasts_S128_S128x1) (ix2 p 0)
      = Ideal.div (Ideal.ofBits .f32 0x3F800000#32) (shapeCast S128x1 (rowSum q k) shapeCasts_S128_S128x1 (ix2 p 0)) := rfl
  rw [e1, shapeCast_a_a1_apply, rowSum_at, Ideal.ofBits_one_f32]
  refine congrArg (· * _) (Finset.sum_congr rfl fun j _ => ?_)
  rw [shapeCast_1ab_ab_apply]
  exact congrArg (Ideal.exp · * _) (scv_at q k p j)

end Head

/-! ## The loads -/

/-- The argument buffers as the parts of four whole arrays that the devices hold. -/
structure Holds (I : Inp Ideal) (X : Fin 2 → Fin 256 → Fin 512 → EReal) (W : Fin 512 → Fin 1024 → EReal) (K V : Fin 2 → Fin 256 → Fin 16 → Fin 64 → EReal)
    (O : Fin 1024 → Fin 512 → EReal) : Prop where
  x : ∀ (c : Fin 4) (r : Fin 512) (m : Fin 512), I.X c (ix2 r m) = X ⟨r.val / 256, by omega⟩ ⟨r.val % 256, by omega⟩ m
  w : ∀ (c : Fin 4) (m : Fin 512) (y : Fin 256), I.Wq c (ix2 m y) = W m ⟨256 * c.val + y.val, by omega⟩
  k : ∀ (c h : Fin 4) (d : Fin 64) (r : Fin 512), I.K c (ix3 h d r) = K ⟨r.val / 256, by omega⟩ ⟨r.val % 256, by omega⟩ ⟨4 * c.val + h.val, by omega⟩ d
  v : ∀ (c h : Fin 4) (r : Fin 512) (d : Fin 64), I.V c (ix3 h r d) = V ⟨r.val / 256, by omega⟩ ⟨r.val % 256, by omega⟩ ⟨4 * c.val + h.val, by omega⟩ d
  o : ∀ (c : Fin 4) (y : Fin 256) (n : Fin 512), I.Wo c (ix2 y n) = O ⟨256 * c.val + y.val, by omega⟩ n

section Tiles
variable (I : Inp Ideal) (c : Fin 4)

theorem xl_at (s : Fin 4) (p : Fin 128) (m : Fin 512) : xl I c s (ix2 p m) = I.X c (ix2 ⟨128 * s.val + p.val, by omega⟩ m) :=
  congrArg (I.X c) (funext fun a => Fin.ext (match a with
    | ⟨0, _⟩ => by show 128 * s.val + 1 * p.val = _; rw [Nat.one_mul] | ⟨1, _⟩ => by show 0 + 1 * m.val = _; rw [Nat.one_mul, Nat.zero_add]))
theorem kl_at (h s : Fin 4) (d : Fin 64) (j : Fin 128) : kl I c h s (ix3 0 d j) = I.K c (ix3 h d ⟨128 * s.val + j.val, by omega⟩) :=
  congrArg (I.K c) (funext fun a => Fin.ext (match a with
    | ⟨0, _⟩ => by show h.val + 1 * 0 = _; rfl | ⟨1, _⟩ => by show 0 + 1 * d.val = _; rw [Nat.one_mul, Nat.zero_add]
    | ⟨2, _⟩ => by show 128 * s.val + 1 * j.val = _; rw [Nat.one_mul]))
theorem vl_at (h s : Fin 4) (j : Fin 128) (d : Fin 64) : vl I c h s (ix3 0 j d) = I.V c (ix3 h ⟨128 * s.val + j.val, by omega⟩ d) :=
  congrArg (I.V c) (funext fun a => Fin.ext (match a with
    | ⟨0, _⟩ => by show h.val + 1 * 0 = _; rfl | ⟨1, _⟩ => by show 128 * s.val + 1 * j.val = _; rw [Nat.one_mul]
    | ⟨2, _⟩ => by show 0 + 1 * d.val = _; rw [Nat.one_mul, Nat.zero_add]))
theorem wl_at (hf : Fin 4) (y : Fin 256) (n : Fin 128) : wl I c hf (ix2 y n) = woB I c (ix2 y ⟨128 * hf.val + n.val, by omega⟩) :=
  congrArg (woB I c) (funext fun a => Fin.ext (match a with
    | ⟨0, _⟩ => by show 0 + 1 * y.val = _; rw [Nat.one_mul, Nat.zero_add] | ⟨1, _⟩ => by show 128 * hf.val + 1 * n.val = _; rw [Nat.one_mul]))

theorem cast_same {α : Type} {s : Shape} (x : s.Idx → α) (h : s.ShapeCasts s) (j : s.Idx) : shapeCast s x h j = x j := shapeCast_apply x h j j rfl

theorem woB_at (y : Fin 256) (n : Fin 512) : woB I c (ix2 y n) = I.Wo c (ix2 y n) :=
  (cast_same _ shapeCasts_S256x512_S256x512 _).trans (cast_same (I.Wo c) shapeCasts_S256x512_S256x512 _)
theorem wqB_at (m : Fin 512) (y : Fin 256) : wqB I c (ix2 m y) = I.Wq c (ix2 m y) * c8 :=
  (cast_same (truncf .bf16 (mulf (shapeCast S512x256 (I.Wq c) shapeCasts_S512x256_S512x256) (broadcast S512x256 (Scalar.ofBits .f32 0x3E000000#32 : Ideal .f32)))
    bitsLt_bf16_f32) shapeCasts_S512x256_S512x256 (ix2 m y)).trans (congrArg (· * c8) (cast_same (I.Wq c) shapeCasts_S512x256_S512x256 (ix2 m y)))

theorem qs_at (q : FVec Ideal S128x256 .bf16) (h : Fin 4) (p : Fin 128) (d : Fin 64) : qs q h (ix2 p d) = q (ix2 p ⟨64 * h.val + d.val, by omega⟩) :=
  match h with
  | 0 => slice2_axis1_apply 0 q slices_S128x256_o0_0_S128x64 p d _ rfl
  | 1 => slice2_axis1_apply 64 q slices_S128x256_o0_64_S128x64 p d _ rfl
  | 2 => slice2_axis1_apply 128 q slices_S128x256_o0_128_S128x64 p d _ rfl
  | 3 => slice2_axis1_apply 192 q slices_S128x256_o0_192_S128x64 p d _ rfl

theorem query_at (s : Fin 4) (p : Fin 128) (y : Fin 256) :
    k0_pay10 (xl I c s) (wqB I c) (ix2 p y) = ∑ m, I.X c (ix2 ⟨128 * s.val + p.val, by omega⟩ m) * (I.Wq c (ix2 m y) * c8) := by
  refine (mm dot_S128x512_S512x256_S128x256_1_0_0_1_n_n rfl (truncf .bf16 (shapeCast S128x512 (xl I c s) shapeCasts_S128x512_S128x512) bitsLt_bf16_f32) (wqB I c) p y).trans ?_
  refine Finset.sum_congr rfl fun m _ => ?_
  rw [wqB_at]
  exact congrArg (· * _) ((cast_same (xl I c s) shapeCasts_S128x512_S128x512 (ix2 p m)).trans (xl_at I c s p m))

/-- Four heads through the output weights, as one sum. -/
theorem heads_at {N : ℕ} (D : DotDims ⟨2, ![128, 64]⟩ ⟨2, ![64, N]⟩ ⟨2, ![128, N]⟩) (hD : D = DotDims.plain 128 64 N) (a : Fin 4 → FVec Ideal S128x64 .bf16)
    (w : FVec Ideal ⟨2, ![256, N]⟩ .bf16) (h0 : (⟨2, ![256, N]⟩ : Shape).Slices ![0, 0] ⟨2, ![64, N]⟩) (h1 : (⟨2, ![256, N]⟩ : Shape).Slices ![64, 0] ⟨2, ![64, N]⟩)
    (h2 : (⟨2, ![256, N]⟩ : Shape).Slices ![128, 0] ⟨2, ![64, N]⟩) (h3 : (⟨2, ![256, N]⟩ : Shape).Slices ![192, 0] ⟨2, ![64, N]⟩) (p : Fin 128) (n : Fin N) :
    addf (addf (addf (matmul D none (a 0) (extractStridedSlice ⟨2, ![64, N]⟩ ![0, 0] w h0) (constant ⟨2, ![128, N]⟩ .f32 0x00000000#32))
      (matmul D none (a 1) (extractStridedSlice ⟨2, ![64, N]⟩ ![64, 0] w h1) (constant ⟨2, ![128, N]⟩ .f32 0x00000000#32)))
      (matmul D none (a 2) (extractStridedSlice ⟨2, ![64, N]⟩ ![128, 0] w h2) (constant ⟨2, ![128, N]⟩ .f32 0x00000000#32)))
      (matmul D none (a 3) (extractStridedSlice ⟨2, ![64, N]⟩ ![192, 0] w h3) (constant ⟨2, ![128, N]⟩ .f32 0x00000000#32)) (ix2 p n)
      = ∑ h : Fin 4, ∑ d : Fin 64, a h (ix2 p d) * w (ix2 ⟨64 * h.val + d.val, by omega⟩ n) := by
  rw [Fin.sum_univ_four, addf_apply, addf_apply, addf_apply, mm D hD, mm D hD, mm D hD, mm D hD]
  refine congrArg₂ (· + ·) (congrArg₂ (· + ·) (congrArg₂ (· + ·) ?_ ?_) ?_) ?_ <;> refine Finset.sum_congr rfl fun d _ => congrArg (_ * ·) ?_
  · exact slice2_axis0_apply 0 w h0 d n _ rfl
  · exact slice2_axis0_apply 64 w h1 d n _ rfl
  · exact slice2_axis0_apply 128 w h2 d n _ rfl
  · exact slice2_axis0_apply 192 w h3 d n _ rfl

theorem chunk_at (s : Fin 4) (p : Fin 128) (n : Fin 512) :
    chunk I c s (ix2 p n) = ∑ h : Fin 4, ∑ d : Fin 64, hd I c s h (ix2 p d) * I.Wo c (ix2 ⟨64 * h.val + d.val, by omega⟩ n) := by
  refine (heads_at dot_S128x64_S64x512_S128x512_1_0_0_1_n_n rfl (hd I c s) (woB I c) slices_S256x512_o0_0_S64x512 slices_S256x512_o64_0_S64x512
    slices_S256x512_o128_0_S64x512 slices_S256x512_o192_0_S64x512 p n).trans ?_
  exact Finset.sum_congr rfl fun h _ => Finset.sum_congr rfl fun d _ => congrArg (_ * ·) (woB_at I c _ n)

theorem own_at (hf : Fin 4) (p n : Fin 128) :
    own I c hf (ix2 p n) = ∑ h : Fin 4, ∑ d : Fin 64, hd I c c h (ix2 p d) * I.Wo c (ix2 ⟨64 * h.val + d.val, by omega⟩ ⟨128 * hf.val + n.val, by omega⟩) := by
  refine (heads_at dot_S128x64_S64x128_S128x128_1_0_0_1_n_n rfl (hd I c c) (wl I c hf) slices_S256x128_o0_0_S64x128 slices_S256x128_o64_0_S64x128
    slices_S256x128_o128_0_S64x128 slices_S256x128_o192_0_S64x128 p n).trans ?_
  exact Finset.sum_congr rfl fun h _ => Finset.sum_congr rfl fun d _ => congrArg (_ * ·) ((wl_at I c hf _ n).trans (woB_at I c _ _))

/-- A block of 128 by 128 as a slot holds it, and back. -/
theorem slot_at {α : Type} (x : S128x128.Idx → α) (p n : Fin 128) :
    shapeCast S128x128 (shapeCast S1x1x128x128 x shapeCasts_S128x128_S1x1x128x128) shapeCasts_S1x1x128x128_S128x128 (ix2 p n) = x (ix2 p n) := by
  refine (shapeCast_apply _ shapeCasts_S1x1x128x128_S128x128 (ix2 p n) (ix4 0 0 p n) ?_).trans
    (shapeCast_apply x shapeCasts_S128x128_S1x1x128x128 (ix4 0 0 p n) (ix2 p n) ?_)
  all_goals
    rw [Shape.rowMajor_val_four, Shape.rowMajor_val_two]
    show _ = _
    simp
theorem cut_at (o : ℕ) (v : FVec Ideal S128x512 .bf16) (h : S128x512.Slices ![0, o] S128x128) (p n : Fin 128) (k : Fin 512) (hk : k.val = o + n.val) :
    shapeCast S128x128 (k0_pay22 (extractStridedSlice S128x128 ![0, o] v h)) shapeCasts_S1x1x128x128_S128x128 (ix2 p n) = v (ix2 p k) :=
  Eq.trans (b := extractStridedSlice S128x128 ![0, o] v h (ix2 p n)) (by
    unfold k0_pay22
    exact slot_at (extractStridedSlice S128x128 ![0, o] v h) p n) (slice2_axis1_apply o v h p n k hk)
theorem quarter_at (v : FVec Ideal S128x512 .bf16) (hf : Fin 4) (p n : Fin 128) (k : Fin 512) (hk : k.val = 128 * hf.val + n.val) :
    shapeCast S128x128 (quarter v hf) shapeCasts_S1x1x128x128_S128x128 (ix2 p n) = v (ix2 p k) := by
  match hf, hk with
  | 0, hk => exact cut_at 0 v slices_S128x512_o0_0_S128x128 p n k hk
  | 1, hk => exact cut_at 128 v slices_S128x512_o0_128_S128x128 p n k hk
  | 2, hk => exact cut_at 256 v slices_S128x512_o0_256_S128x128 p n k hk
  | 3, hk => exact cut_at 384 v slices_S128x512_o0_384_S128x128 p n k hk

theorem part_at (e : Fin 4) (hf : Fin 4) (j : Fin 3) (p n : Fin 128) :
    shapeCast S128x128 (partV I e hf j) shapeCasts_S1x1x128x128_S128x128 (ix2 p n)
      = ∑ h : Fin 4, ∑ d : Fin 64, hd I e (tgt e j) h (ix2 p d) * I.Wo e (ix2 ⟨64 * h.val + d.val, by omega⟩ ⟨128 * hf.val + n.val, by omega⟩) :=
  (quarter_at _ hf p n _ rfl).trans (chunk_at I e (tgt e j) p _)

/-- The four devices, `c` first and then the ones whose sums come to it. -/
theorem sum_from (f : Fin 4 → EReal) : ∑ e, f e = f c + f (src c 0) + f (src c 1) + f (src c 2) := by
  have hu : (Finset.univ : Finset (Fin 4)) = {c, src c 0, src c 1, src c 2} := by revert c; decide
  have h0 : c ∉ ({src c 0, src c 1, src c 2} : Finset (Fin 4)) := by revert c; decide
  have h1 : src c 0 ∉ ({src c 1, src c 2} : Finset (Fin 4)) := by revert c; decide
  have h2 : src c 1 ∉ ({src c 2} : Finset (Fin 4)) := by revert c; decide
  rw [hu, Finset.sum_insert h0, Finset.sum_insert h1, Finset.sum_insert h2, Finset.sum_singleton, add_assoc, add_assoc]

theorem redF_at (hf : Fin 4) (p n : Fin 128) : redF I c hf (ix2 p n)
    = ∑ e : Fin 4, ∑ h : Fin 4, ∑ d : Fin 64, hd I e c h (ix2 p d) * I.Wo e (ix2 ⟨64 * h.val + d.val, by omega⟩ ⟨128 * hf.val + n.val, by omega⟩) := by
  rw [sum_from c, ← own_at]
  have e0 := part_at I (src c 0) hf 0 p n
  have e1 := part_at I (src c 1) hf 1 p n
  have e2 := part_at I (src c 2) hf 2 p n
  rw [tgt_src] at e0 e1 e2
  rw [← e0, ← e1, ← e2]
  rfl

theorem tile_at (s hf : Fin 4) (p n : Fin 128) : tile I c s hf (ix2 p n) = redF I s hf (ix2 p n) := by
  unfold tile
  by_cases h : s = c
  · rw [if_pos h, h]
  · rw [if_neg h]; exact slot_at (redF I s hf) p n

end Tiles

/-! ## The result -/

section Result
variable {I : Inp Ideal} {X : Fin 2 → Fin 256 → Fin 512 → EReal} {W : Fin 512 → Fin 1024 → EReal} {K V : Fin 2 → Fin 256 → Fin 16 → Fin 64 → EReal}
  {O : Fin 1024 → Fin 512 → EReal} (H : Holds I X W K V O)

include H

theorem queryK_at (c s h : Fin 4) (p : Fin 128) (d : Fin 64) :
    qs (k0_pay10 (xl I c s) (wqB I c)) h (ix2 p d)
      = queryK X W ⟨s.val / 2, by omega⟩ ⟨128 * (s.val % 2) + p.val, by omega⟩ ⟨4 * c.val + h.val, by omega⟩ d := by
  rw [qs_at, query_at]
  refine Finset.sum_congr rfl fun m _ => ?_
  rw [H.x, H.w]
  congr 1
  · congr 1 <;> exact Fin.ext (by show _ = _; simp only; omega)
  · congr 2; exact Fin.ext (by show 256 * c.val + (64 * h.val + d.val) = 64 * (4 * c.val + h.val) + d.val; omega)

theorem scr_at (c s h : Fin 4) (p j : Fin 128) :
    scr (qs (k0_pay10 (xl I c s) (wqB I c)) h) (k0_pay13 (kl I c h s)) p j
      = scoreK X W K ⟨s.val / 2, by omega⟩ ⟨s.val % 2, by omega⟩ ⟨4 * c.val + h.val, by omega⟩ p j := by
  unfold scr scoreK
  refine if_congr Iff.rfl (Finset.sum_congr rfl fun d _ => ?_) rfl
  rw [queryK_at H]
  refine congrArg (_ * ·) ?_
  refine (shapeCast_1ab_ab_apply (kl I c h s) shapeCasts_S1x64x128_S64x128 d j).trans ?_
  rw [kl_at, H.k]
  congr 1 <;> exact Fin.ext (by show _ = _; simp only; omega)

theorem hd_at (c s h : Fin 4) (p : Fin 128) (d : Fin 64) : hd I c s h (ix2 p d)
    = ctxK X W K V ⟨s.val / 2, by omega⟩ ⟨s.val % 2, by omega⟩ p ⟨4 * c.val + h.val, by omega⟩ d := by
  unfold hd ctxK
  rw [head_at]
  have es : ∀ j, Ideal.exp (scr (qs (k0_pay10 (xl I c s) (wqB I c)) h) (k0_pay13 (kl I c h s)) p j)
      = Ideal.exp (scoreK X W K ⟨s.val / 2, by omega⟩ ⟨s.val % 2, by omega⟩ ⟨4 * c.val + h.val, by omega⟩ p j) := fun j => congrArg Ideal.exp (scr_at H c s h p j)
  refine congrArg₂ (· * ·) (Finset.sum_congr rfl fun j _ => ?_) (congrArg (Ideal.div 1) (Finset.sum_congr rfl fun j _ => es j))
  rw [es, vl_at, H.v]
  congr 2 <;> exact Fin.ext (by show _ = _; simp only; omega)

/-- **The kernel's result at an index** is the sum of the devices' shares, whichever device holds it. -/
theorem outF_at (c : Fin 4) (r n : Fin 512) : outF I c (ix2 r n)
    = ∑ e : Fin 4, share X W K V O e ⟨r.val / 256, by omega⟩ ⟨r.val / 128 % 2, by omega⟩ ⟨r.val % 128, by omega⟩ n := by
  have e : outF I c (ix2 r n) = tile I c ⟨r.val / 128, by omega⟩ ⟨n.val / 128, by omega⟩ (ix2 ⟨r.val % 128, by omega⟩ ⟨n.val % 128, by omega⟩) :=
    congrArg (tile I c ⟨r.val / 128, by omega⟩ ⟨n.val / 128, by omega⟩) (funext fun a => match a with | ⟨0, _⟩ => rfl | ⟨1, _⟩ => rfl)
  rw [e, tile_at, redF_at]
  refine Finset.sum_congr rfl fun e _ => Finset.sum_congr rfl fun h _ => Finset.sum_congr rfl fun d _ => ?_
  rw [hd_at H, H.o]
  congr 1
  · congr 1; exact Fin.ext (by show r.val / 128 / 2 = r.val / 256; omega)
  · congr 1; exact Fin.ext (by show 128 * (n.val / 128) + n.val % 128 = n.val; omega)

end Result

end Cert.KernelIdeal.Att
-- ==== Proof.HostValue.lean ====
/- What the host operations around the kernel hand it and make of its result, at an index. -/
module

public import proofs.«01_k».proof.Proof.Run
public import proofs.«01_k».proof.Proof.KerValue
public import Idealize.ShloMosaic.Lib.DynamicIndex
public import Idealize.ShloMosaic.Lib.StableHlo.RunClose

@[expose] public section

set_option maxRecDepth 16384

noncomputable section

namespace Cert.KernelIdeal.Att

open Idealize.ShloMosaic Gen Idealize.ShloMosaic.ValueIdx
open Idealize.ShloMosaic.TcCoe
open Idealize.SL.Sem
open Idealize.ShloMosaic.StableHlo
open Cert.KernelIdeal.Facts₀ Cert.KernelIdeal.Facts

attribute [local instance] Cert.KernelIdeal.Gen.facts

variable (m : (ℓ : Loc nD τ sig) → Buf (Elt Ideal) ℓ)
variable (c : Dev nD)

/-- The number of the first head of a device's share, as the program computes it. -/
def headWord : IVec S_ 32 :=
  muli (id (Host.remui (Host.divui (constantI S_ 32 (Dev.word c)) (constantI S_ 32 1#32)) (constantI S_ 32 4#32))) (constantI S_ 32 4#32)

/-- Where a device's share of the heads starts: four words, read signed. -/
def startWord (k : Fin 4) : Int :=
  BitVec.toInt ((![constantI S_ 32 0#32, constantI S_ 32 0#32,
    select (cmpi .slt (headWord c) (constantI S_ 32 0#32)) (addi (headWord c) (constantI S_ 32 16#32)) (headWord c), constantI S_ 32 0#32] : Fin 4 → IVec S_ 32)
    k (Shape.Idx.first Gen.h_S_))

theorem startWord_eq : ∀ (c : Dev nD) (k : Fin 4), startWord c k = (((![0, 0, 4 * c.val, 0] : Fin 4 → ℕ) k : ℕ) : Int) := by decide +kernel

theorem slices_heads (c : Dev nD) : S2x256x16x64.Slices ![0, 0, 4 * c.val, 0] S2x256x4x64 := by
  revert c; decide

/-- A device's heads of an array of keys or values. -/
def heads (x : FVec Ideal S2x256x16x64 .f32) : FVec Ideal S2x256x4x64 .f32 :=
  Host.dynamicSlice S2x256x4x64 x (startWord c) Gen.sliceFits_S2x256x16x64_S2x256x4x64

theorem own_heads_at (x : FVec Ideal S2x256x16x64 .f32) (b : Fin 2) (j : Fin 256) (h : Fin 4) (d : Fin 64) :
    heads c x (ix4 b j h d) = x (ix4 b j ⟨4 * c.val + h.val, by have := c.isLt; simp only [nD] at this; omega⟩ d) := by
  unfold heads
  rw [Host.dynamicSlice_eq_extractStridedSlice S2x256x4x64 x (startWord c) ![0, 0, 4 * c.val, 0] _ (slices_heads c) (startWord_eq c)]
  exact extractStridedSlice_apply _ _ _ _ _ (fun a => by
    match a with
    | ⟨0, _⟩ => exact (Nat.zero_add _).symm
    | ⟨1, _⟩ => exact (Nat.zero_add _).symm
    | ⟨2, _⟩ => rfl
    | ⟨3, _⟩ => exact (Nat.zero_add _).symm)

theorem V1_v17 : V1 m c main_v17 = shapeCast S4x64x512 (transpose S4x64x2x256 [2, 3, 0, 1] (truncf .bf16
    (heads c (m ((c : Thread nD τ).loc main_arg2))) Gen.bitsLt_bf16_f32) Gen.transposes_S2x256x4x64_S4x64x2x256_2_3_0_1)
    Gen.shapeCasts_S4x64x2x256_S4x64x512 := by
  show StableHlo.after (hostOps0 c) (V0 m c) main_v17 = _
  simp only [hostOps0]
  after_results_simp_entrywise
  rfl

theorem V1_v20 : V1 m c main_v20 = shapeCast S4x512x64 (transpose S4x2x256x64 [2, 0, 1, 3] (truncf .bf16
    (heads c (m ((c : Thread nD τ).loc main_arg3))) Gen.bitsLt_bf16_f32) Gen.transposes_S2x256x4x64_S4x2x256x64_2_0_1_3)
    Gen.shapeCasts_S4x2x256x64_S4x512x64 := by
  show StableHlo.after (hostOps0 c) (V0 m c) main_v20 = _
  simp only [hostOps0]
  after_results_simp_entrywise
  rfl

theorem V1_v21 : V1 m c main_v21 = shapeCast S512x512 (m ((c : Thread nD τ).loc main_arg0)) Gen.shapeCasts_S2x256x512_S512x512 := by
  show StableHlo.after (hostOps0 c) (V0 m c) main_v21 = _
  simp only [hostOps0]
  after_results_simp_entrywise
  rfl

theorem V3_v23 : V3 m (outs m) c main_v23 = shapeCast S2x256x512 (outF (inp m) c) Gen.shapeCasts_S512x512_S2x256x512 := by
  rw [← outs_v22 m 2 c]
  show StableHlo.after hostOps1 (V2 m (outs m) c) main_v23 = _
  simp only [hostOps1]
  after_results_simp_entrywise
  rfl

/-! ## At an index -/

theorem v21_at (r k : Fin 512) : V1 m c main_v21 (ix2 r k)
    = m ((c : Thread nD τ).loc main_arg0) (ix3 (⟨r.val / 256, by omega⟩ : Fin 2) (⟨r.val % 256, by omega⟩ : Fin 256) k) := by
  rw [V1_v21]
  exact shapeCast_apply (s := S2x256x512) _ _ _ _ (by
    rw [Shape.rowMajor_val_three, Shape.rowMajor_val_two]
    show (r.val / 256 * 256 + r.val % 256) * 512 + k.val = r.val * 512 + k.val
    omega)

theorem v17_at (h : Fin 4) (d : Fin 64) (r : Fin 512) : V1 m c main_v17 (ix3 h d r)
    = m ((c : Thread nD τ).loc main_arg2) (ix4 (⟨r.val / 256, by omega⟩ : Fin 2) (⟨r.val % 256, by omega⟩ : Fin 256)
        (⟨4 * c.val + h.val, by have := c.isLt; simp only [nD] at this; omega⟩ : Fin 16) d) := by
  rw [V1_v17]
  refine (shapeCast_apply _ _ _ (ix4 h d (⟨r.val / 256, by omega⟩ : Fin 2) (⟨r.val % 256, by omega⟩ : Fin 256)) (by
    rw [Shape.rowMajor_val_three, Shape.rowMajor_val_four]
    show ((h.val * 64 + d.val) * 2 + r.val / 256) * 256 + r.val % 256 = (h.val * 64 + d.val) * 512 + r.val
    omega)).trans ?_
  exact (transpose_apply _ _ _ _ (ix4 (⟨r.val / 256, by omega⟩ : Fin 2) (⟨r.val % 256, by omega⟩ : Fin 256) h d)
    (by intro b; match b with | ⟨0, _⟩ => rfl | ⟨1, _⟩ => rfl | ⟨2, _⟩ => rfl | ⟨3, _⟩ => rfl)).trans (own_heads_at c _ _ _ h d)

theorem v20_at (h : Fin 4) (r : Fin 512) (d : Fin 64) : V1 m c main_v20 (ix3 h r d)
    = m ((c : Thread nD τ).loc main_arg3) (ix4 (⟨r.val / 256, by omega⟩ : Fin 2) (⟨r.val % 256, by omega⟩ : Fin 256)
        (⟨4 * c.val + h.val, by have := c.isLt; simp only [nD] at this; omega⟩ : Fin 16) d) := by
  rw [V1_v20]
  refine (shapeCast_apply _ _ _ (ix4 h (⟨r.val / 256, by omega⟩ : Fin 2) (⟨r.val % 256, by omega⟩ : Fin 256) d) (by
    rw [Shape.rowMajor_val_three, Shape.rowMajor_val_four]
    show ((h.val * 2 + r.val / 256) * 256 + r.val % 256) * 64 + d.val = (h.val * 512 + r.val) * 64 + d.val
    omega)).trans ?_
  exact (transpose_apply _ _ _ _ (ix4 (⟨r.val / 256, by omega⟩ : Fin 2) (⟨r.val % 256, by omega⟩ : Fin 256) h d)
    (by intro b; match b with | ⟨0, _⟩ => rfl | ⟨1, _⟩ => rfl | ⟨2, _⟩ => rfl | ⟨3, _⟩ => rfl)).trans (own_heads_at c _ _ _ h d)

theorem v23_at (b : Fin 2) (i : Fin 256) (n : Fin 512) : V3 m (outs m) c main_v23 (ix3 b i n)
    = outF (inp m) c (ix2 (⟨256 * b.val + i.val, by omega⟩ : Fin 512) n) := by
  rw [V3_v23]
  exact shapeCast_apply _ _ _ _ (by
    rw [Shape.rowMajor_val_three, Shape.rowMajor_val_two]
    show (256 * b.val + i.val) * 512 + n.val = (b.val * 256 + i.val) * 512 + n.val
    omega)

end Cert.KernelIdeal.Att

end
-- ==== Proof.RefValue.lean ====
/- What the reference computes: its result at an index, as the attention of Softmax.lean. -/
module

public import proofs.«01_k».proof.Proof.Softmax
public import proofs.«01_k».proof.Proof.Gen.ReferenceIdeal
public import proofs.«01_k».proof.Proof.Gen.ReferenceIdeal.Run
public import Idealize.ShloMosaic.Lib.ValueIdx
public import Idealize.ShloMosaic.Lib.ValueLayout
public import Idealize.ShloMosaic.Lib.IdealHost
public import Idealize.ShloMosaic.Lib.Pipeline.Value

@[expose] public section

set_option maxRecDepth 16384

noncomputable section

namespace Cert.ReferenceIdeal.Att

open Idealize.ShloMosaic Idealize.ShloMosaic.ValueIdx
open Idealize.ShloMosaic.TcCoe
open Cert.ReferenceIdeal Cert.ReferenceIdeal.Facts₀ Cert.ReferenceIdeal.Facts
open Idealize.SL.Sem
open Cert.Att
open scoped BigOperators

attribute [local instance] Cert.ReferenceIdeal.Gen.facts

/-! ## The mask -/

def blk : IVec S256 32 :=
  select (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32))) (broadcastInDim S256 ![] bcast_S_S256 (constantI S_ 32 0#32))))
    (subi (Host.divsi (iotaInDim S256 32 0) (broadcastInDim S256 ![] bcast_S_S256 (constantI S_ 32 64#32))) (broadcastInDim S256 ![] bcast_S_S256 (constantI S_ 32 1#32)))
    (Host.divsi (iotaInDim S256 32 0) (broadcastInDim S256 ![] bcast_S_S256 (constantI S_ 32 64#32)))

def four : IVec S_ 32 := select (cmpi .eq (constantI S_ 32 4#32) (constantI S_ 32 0#32)) (constantI S_ 32 1#32) (constantI S_ 32 4#32)

def blkCol : IVec S256x1 32 := broadcastInDim S256x1 ![0] bcast_S256_S256x1_0 blk
def blkRow : IVec S1x256 32 := broadcastInDim S1x256 ![1] bcast_S256_S1x256_1 blk

/-- The remainder by four, the sign put right. -/
def modOf (s : Shape) (h : S_.BroadcastsInDim s ![]) (x : IVec s 32) : IVec s 32 :=
  select (andi (cmpi .ne (cmpi .slt (Host.remsi x (broadcastInDim s ![] h four)) (broadcastInDim s ![] h (constantI S_ 32 0#32)))
        (broadcastInDim s ![] h (cmpi .slt four (constantI S_ 32 0#32))))
      (cmpi .ne (Host.remsi x (broadcastInDim s ![] h four)) (broadcastInDim s ![] h (constantI S_ 32 0#32))))
    (addi (Host.remsi x (broadcastInDim s ![] h four)) (broadcastInDim s ![] h four)) (Host.remsi x (broadcastInDim s ![] h four))

def mask : IVec S256x256 1 :=
  ori (cmpi .eq (broadcastInDim S256x256 ![0, 1] bcast_S256x1_S256x256_0_1 blkCol) (broadcastInDim S256x256 ![0, 1] bcast_S1x256_S256x256_0_1 blkRow))
    (cmpi .eq (broadcastInDim S256x256 ![0, 1] bcast_S1x256_S256x256_0_1 (modOf S1x256 bcast_S_S1x256 blkRow))
      (broadcastInDim S256x256 ![0, 1] bcast_S256x1_S256x256_0_1 (modOf S256x1 bcast_S_S256x1 blkCol)))
def keep : IVec S256 1 := Host.reduce IntOp.ori mask (constantI S_ 1 0#1) reducesTo_S256x256_S256_d1 h_S_

theorem blk_at : ∀ i : Fin 256, blk (ix1 i) = BitVec.ofNat 32 (i.val / 64) := by decide +kernel
theorem modCol_at : ∀ i : Fin 256, modOf S256x1 bcast_S_S256x1 blkCol (ix2 i 0) = BitVec.ofNat 32 (i.val / 64) := by decide +kernel
theorem modRow_at : ∀ i : Fin 256, modOf S1x256 bcast_S_S1x256 blkRow (ix2 0 i) = BitVec.ofNat 32 (i.val / 64) := by decide +kernel

theorem col_at {α : Type} (x : S256x1.Idx → α) (i j : Fin 256) :
    broadcastInDim S256x256 ![0, 1] bcast_S256x1_S256x256_0_1 x (ix2 i j) = x (ix2 i 0) :=
  broadcastInDim_apply _ _ x _ _ fun a => match a with | ⟨0, _⟩ => rfl | ⟨1, _⟩ => rfl
theorem row_at {α : Type} (x : S1x256.Idx → α) (i j : Fin 256) :
    broadcastInDim S256x256 ![0, 1] bcast_S1x256_S256x256_0_1 x (ix2 i j) = x (ix2 0 j) :=
  broadcastInDim_apply _ _ x _ _ fun a => match a with | ⟨0, _⟩ => rfl | ⟨1, _⟩ => rfl

theorem eq_word (a b : Fin 256) : (IntOp.cmpi .eq (BitVec.ofNat 32 (a.val / 64)) (BitVec.ofNat 32 (b.val / 64)) : BitVec 1)
    = if a.val / 64 = b.val / 64 then 1#1 else 0#1 := by
  have e : (BitVec.ofNat 32 (a.val / 64) = BitVec.ofNat 32 (b.val / 64)) ↔ a.val / 64 = b.val / 64 := by
    rw [← BitVec.toNat_inj, BitVec.toNat_ofNat, BitVec.toNat_ofNat]
    omega
  unfold IntOp.cmpi
  by_cases h : a.val / 64 = b.val / 64
  · rw [if_pos h, h]; simp
  · rw [if_neg h]
    show BitVec.ofBool (BitVec.ofNat 32 (a.val / 64) == BitVec.ofNat 32 (b.val / 64)) = 0#1
    rw [beq_eq_false_iff_ne.2 fun hc => h (e.1 hc)]; rfl

/-- The mask holds where the two rows are in one block of 64. -/
theorem mask_at (i j : Fin 256) : mask (ix2 i j) = if i.val / 64 = j.val / 64 then 1#1 else 0#1 := by
  have e : mask (ix2 i j) = IntOp.ori (IntOp.cmpi .eq (broadcastInDim S256x256 ![0, 1] bcast_S256x1_S256x256_0_1 blkCol (ix2 i j)) (broadcastInDim S256x256 ![0, 1] bcast_S1x256_S256x256_0_1 blkRow (ix2 i j)))
    (IntOp.cmpi .eq (broadcastInDim S256x256 ![0, 1] bcast_S1x256_S256x256_0_1 (modOf S1x256 bcast_S_S1x256 blkRow) (ix2 i j))
      (broadcastInDim S256x256 ![0, 1] bcast_S256x1_S256x256_0_1 (modOf S256x1 bcast_S_S256x1 blkCol) (ix2 i j))) := rfl
  rw [e, col_at, row_at, col_at, row_at, modCol_at, modRow_at,
    show blkCol (ix2 i 0) = blk (ix1 i) from broadcastInDim_apply _ _ blk _ _ fun a => match a with | ⟨0, _⟩ => rfl,
    show blkRow (ix2 0 j) = blk (ix1 j) from broadcastInDim_apply _ _ blk _ _ fun a => match a with | ⟨0, _⟩ => rfl,
    blk_at, blk_at, eq_word, eq_word]
  by_cases h : i.val / 64 = j.val / 64
  · rw [if_pos h, if_pos h.symm]; rfl
  · rw [if_neg h, if_neg (Ne.symm h)]; rfl

theorem red256 : S256x256.Reduces [1] S256 := by decide

/-- A disjunction with a member that holds. -/
theorem fold_or (b : BitVec 1) (f : Fin 256 → BitVec 1) (i : Fin 256) (h : f i = 1#1) : Finset.univ.fold IntOp.ori b f = 1#1 := by
  rw [← Finset.insert_erase (Finset.mem_univ i), Finset.fold_insert (op := (IntOp.ori : BitVec 1 → BitVec 1 → BitVec 1)) (Finset.notMem_erase i _), h]
  exact (by decide : ∀ x : BitVec 1, IntOp.ori 1#1 x = 1#1) _

/-- Every row keeps at least itself. -/
theorem keep_at (i : Fin 256) : keep (ix1 i) = 1#1 := by
  unfold keep
  rw [Host.reduce_eq_fold_single IntOp.ori mask (constantI S_ 1 0#1) reducesTo_S256x256_S256_d1 red256 h_S_ (ix1 i)]
  have e : (mask ∘ red256.lift (ix1 i)) i = 1#1 := by
    show mask (red256.lift (ix1 i) i) = 1#1
    rw [show red256.lift (ix1 i) i = ix2 i i from funext fun a => match a with | ⟨0, _⟩ => rfl | ⟨1, _⟩ => rfl, mask_at, if_pos rfl]
  exact fold_or _ _ i e

/-! ## The values, one operation after another -/

abbrev B4 : Shape := S2x16x256x256
/-- One number in every place of the score array. -/
def scal (w : BitVec 32) : FVec Ideal B4 .f32 := broadcastInDim B4 ![] bcast_S_S2x16x256x256 (constant (F := Ideal) S_ .f32 w)
/-- A row's number in every place of its row. -/
def along (r : FVec Ideal S2x16x256x1 .f32) : FVec Ideal B4 .f32 := broadcastInDim B4 ![0, 1, 2, 3] bcast_S2x16x256x1_S2x16x256x256_0_1_2_3 r
def colm (r : FVec Ideal S2x16x256 .f32) : FVec Ideal S2x16x256x1 .f32 := broadcastInDim S2x16x256x1 ![0, 1, 2] bcast_S2x16x256_S2x16x256x1_0_1_2 r
def keepCol : IVec S1x1x256x1 1 := broadcastInDim S1x1x256x1 ![2] bcast_S256_S1x1x256x1_2 keep

variable (x : FVec Ideal S2x256x512 .f32) (wq : FVec Ideal S512x1024 .f32) (kk vv : FVec Ideal S2x256x16x64 .f32) (wo : FVec Ideal S1024x512 .f32)

def qv : FVec Ideal S2x256x16x64 .f32 :=
  shapeCast _ (Host.dotGeneral dot_S2x256x512_S512x1024_S2x256x1024_2_0_01_1_n_n none x wq) shapeCasts_S2x256x1024_S2x256x16x64
def sv : FVec Ideal B4 .f32 :=
  select (broadcastInDim B4 ![0, 1, 2, 3] bcast_S1x1x256x256_S2x16x256x256_0_1_2_3 (broadcastInDim S1x1x256x256 ![2, 3] bcast_S256x256_S1x1x256x256_2_3 mask))
    (mulf (Host.dotGeneral dot_S2x256x16x64_S2x256x16x64_S2x16x256x256_3_3_1_1_02_02 none (qv x wq) kk) (scal 0x3E000000#32)) (scal 0xFF800000#32)
def mv : FVec Ideal S2x16x256 .f32 :=
  Host.reduce FloatOps.maximumf (sv x wq kk) (constant S_ .f32 0xFF800000#32) reducesTo_S2x16x256x256_S2x16x256_d3 h_S_
def ev : FVec Ideal B4 .f32 := Host.exp (subf (sv x wq kk) (along (colm (mv x wq kk))))
def uv : FVec Ideal S2x16x256 .f32 := Host.reduceAdd (ev x wq kk) (constant S_ .f32 0x00000000#32) reducesTo_S2x16x256x256_S2x16x256_d3 h_S_
def dv : FVec Ideal S2x16x256x1 .f32 :=
  select (broadcastInDim S2x16x256x1 ![0, 1, 2, 3] bcast_S1x1x256x1_S2x16x256x1_0_1_2_3 keepCol) (colm (uv x wq kk))
    (broadcastInDim S2x16x256x1 ![] bcast_S_S2x16x256x1 (constant S_ .f32 0x3F800000#32))
def av : FVec Ideal B4 .f32 :=
  select (broadcastInDim B4 ![0, 1, 2, 3] bcast_S1x1x256x1_S2x16x256x256_0_1_2_3 keepCol) (Host.divf (ev x wq kk) (along (dv x wq kk))) (scal 0x00000000#32)
def cv : FVec Ideal S2x16x64x256 .f32 :=
  Host.dotGeneral dot_S2x256x16x64_S2x16x256x256_S2x16x64x256_1_3_3_2_02_01 none vv (av x wq kk)
def fv : FVec Ideal S2x256x1024 .f32 :=
  shapeCast _ (transpose S2x256x16x64 [0, 3, 1, 2] (cv x wq kk vv) transposes_S2x16x64x256_S2x256x16x64_0_3_1_2) shapeCasts_S2x256x16x64_S2x256x1024
def rv : FVec Ideal S2x256x512 .f32 :=
  Host.dotGeneral dot_S2x256x1024_S1024x512_S2x256x512_2_0_01_1_n_n none (fv x wq kk vv) wo

theorem res_eq (m : (ℓ : Loc nD τ sig) → Buf (Elt Ideal) ℓ) (c : Dev nD) :
    Cert.ReferenceIdeal.Value.res_main_v39 (F := Ideal) m c = rv (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Cert.ReferenceIdeal.Value.res_main_v39
  rfl

/-! ## Read at an index -/

/-- A product with one contracted axis, read at an index, as a sum over that axis. -/
theorem dot1 {sl sr so : Shape} (D : DotDims sl sr so) (n : Nat) (hr : D.contr.rank = 1) (hs : D.contr.size ⟨0, by omega⟩ = n)
    (l : FVec Ideal sl .f32) (r : FVec Ideal sr .f32) (j : so.Idx) (li : Fin n → sl.Idx) (ri : Fin n → sr.Idx)
    (hl : ∀ k a, (D.lhsIdx j ((contrEquiv1 D n hr hs).symm k) a).val = (li k a).val)
    (hR : ∀ k a, (D.rhsIdx j ((contrEquiv1 D n hr hs).symm k) a).val = (ri k a).val) :
    Host.dotGeneral (F := Ideal) D none l r j = ∑ k, l (li k) * r (ri k) := by
  show FloatOps.dotGeneral _ none _ l r j = _
  rw [Ideal.dotGeneral_apply, ← Equiv.sum_comp (contrEquiv1 D n hr hs).symm]
  refine Finset.sum_congr rfl fun k _ => ?_
  rw [show D.lhsIdx j ((contrEquiv1 D n hr hs).symm k) = li k from funext fun a => Fin.ext (hl k a),
    show D.rhsIdx j ((contrEquiv1 D n hr hs).symm k) = ri k from funext fun a => Fin.ext (hR k a)]

abbrev aX (b : Fin 2) (i : Fin 256) (m : Fin 512) : EReal := x (ix3 b i m)
abbrev aW (m : Fin 512) (n : Fin 1024) : EReal := wq (ix2 m n)
abbrev aK (b : Fin 2) (i : Fin 256) (h : Fin 16) (d : Fin 64) : EReal := kk (ix4 b i h d)
abbrev aO (k : Fin 1024) (n : Fin 512) : EReal := wo (ix2 k n)

theorem qv_at (b : Fin 2) (i : Fin 256) (h : Fin 16) (d : Fin 64) : qv x wq (ix4 b i h d) = query (aX x) (aW wq) b i h d := by
  refine (shapeCast_apply _ _ (ix4 b i h d) (ix3 b i (col h d)) ?_).trans ?_
  · rw [Shape.rowMajor_val_three, Shape.rowMajor_val_four]
    show (b.val * 256 + i.val) * 1024 + (64 * h.val + d.val) = ((b.val * 256 + i.val) * 16 + h.val) * 64 + d.val
    omega
  · exact dot1 dot_S2x256x512_S512x1024_S2x256x1024_2_0_01_1_n_n 512 rfl rfl x wq (ix3 b i (col h d)) (fun m => ix3 b i m) (fun m => ix2 m (col h d))
      (fun k a => match a with | ⟨0, _⟩ => rfl | ⟨1, _⟩ => rfl | ⟨2, _⟩ => rfl) (fun k a => match a with | ⟨0, _⟩ => rfl | ⟨1, _⟩ => rfl)

theorem scal_at (w : BitVec 32) (j : B4.Idx) : scal w j = Ideal.ofBits .f32 w := rfl

theorem sv_at (b : Fin 2) (h : Fin 16) (i j : Fin 256) : sv x wq kk (ix4 b h i j) = score (aX x) (aW wq) (aK kk) b h i j := by
  have em : broadcastInDim B4 ![0, 1, 2, 3] bcast_S1x1x256x256_S2x16x256x256_0_1_2_3 (broadcastInDim S1x1x256x256 ![2, 3] bcast_S256x256_S1x1x256x256_2_3 mask)
      (ix4 b h i j) = mask (ix2 i j) :=
    (broadcastInDim_apply _ _ _ (ix4 b h i j) (ix4 0 0 i j) fun a => match a with | ⟨0, _⟩ => rfl | ⟨1, _⟩ => rfl | ⟨2, _⟩ => rfl | ⟨3, _⟩ => rfl).trans
      (broadcastInDim_apply _ _ mask (ix4 0 0 i j) (ix2 i j) fun a => match a with | ⟨0, _⟩ => rfl | ⟨1, _⟩ => rfl)
  have ed : Host.dotGeneral dot_S2x256x16x64_S2x256x16x64_S2x16x256x256_3_3_1_1_02_02 none (qv x wq) kk (ix4 b h i j)
      = ∑ d : Fin 64, query (aX x) (aW wq) b i h d * kk (ix4 b j h d) := by
    rw [dot1 dot_S2x256x16x64_S2x256x16x64_S2x16x256x256_3_3_1_1_02_02 64 rfl rfl (qv x wq) kk (ix4 b h i j) (fun d => ix4 b i h d) (fun d => ix4 b j h d)
      (fun k a => match a with | ⟨0, _⟩ => rfl | ⟨1, _⟩ => rfl | ⟨2, _⟩ => rfl | ⟨3, _⟩ => rfl)
      (fun k a => match a with | ⟨0, _⟩ => rfl | ⟨1, _⟩ => rfl | ⟨2, _⟩ => rfl | ⟨3, _⟩ => rfl)]
    exact Finset.sum_congr rfl fun d _ => by rw [qv_at]
  have ebot : Ideal.ofBits .f32 0xFF800000#32 = ⊥ := by simp [Ideal.ofBits, Ideal.ieee]
  unfold sv
  rw [select_apply, em, mask_at, mulf_apply, ed, scal_at, scal_at, ebot]
  unfold score
  by_cases hij : i.val / 64 = j.val / 64
  · rw [if_pos hij, if_pos hij, select_one]; rfl
  · rw [if_neg hij, if_neg hij, select_zero]

theorem red4 : S2x16x256x256.Reduces [3] S2x16x256 := by decide
theorem lift4 (b : Fin 2) (h : Fin 16) (i j : Fin 256) : red4.lift (ix3 b h i) j = ix4 b h i j :=
  funext fun a => match a with | ⟨0, _⟩ => rfl | ⟨1, _⟩ => rfl | ⟨2, _⟩ => rfl | ⟨3, _⟩ => rfl

theorem mv_at (b : Fin 2) (h : Fin 16) (i : Fin 256) : mv x wq kk (ix3 b h i) = top (score (aX x) (aW wq) (aK kk) b h i) := by
  have ebot : Ideal.ofBits .f32 0xFF800000#32 = ⊥ := by simp [Ideal.ofBits, Ideal.ieee]
  unfold mv
  rw [Host.reduce_eq_fold_single (FloatOps.maximumf (F := Ideal) (φ := .f32)) (sv x wq kk) (constant S_ .f32 0xFF800000#32) reducesTo_S2x16x256x256_S2x16x256_d3 red4 h_S_ (ix3 b h i),
    show (constant S_ .f32 0xFF800000#32 : FVec Ideal S_ .f32) (Shape.Idx.first h_S_) = ⊥ from ebot,
    show (sv x wq kk ∘ red4.lift (ix3 b h i)) = score (aX x) (aW wq) (aK kk) b h i from
      funext fun j => (congrArg (sv x wq kk) (lift4 b h i j)).trans (sv_at x wq kk b h i j)]
  rfl

theorem along_at (r : FVec Ideal S2x16x256x1 .f32) (b : Fin 2) (h : Fin 16) (i j : Fin 256) : along r (ix4 b h i j) = r (ix4 b h i 0) :=
  broadcastInDim_apply _ _ r _ _ fun a => match a with | ⟨0, _⟩ => rfl | ⟨1, _⟩ => rfl | ⟨2, _⟩ => rfl | ⟨3, _⟩ => rfl
theorem colm_at (r : FVec Ideal S2x16x256 .f32) (b : Fin 2) (h : Fin 16) (i : Fin 256) : colm r (ix4 b h i 0) = r (ix3 b h i) :=
  broadcastInDim_apply _ _ r _ _ fun a => match a with | ⟨0, _⟩ => rfl | ⟨1, _⟩ => rfl | ⟨2, _⟩ => rfl
theorem keepCol_at (i : Fin 256) : keepCol (ix4 0 0 i 0) = 1#1 :=
  (broadcastInDim_apply _ _ keep (ix4 0 0 i 0) (ix1 i) fun a => match a with | ⟨0, _⟩ => rfl).trans (keep_at i)

theorem ev_at (b : Fin 2) (h : Fin 16) (i j : Fin 256) : ev x wq kk (ix4 b h i j)
    = Ideal.exp (score (aX x) (aW wq) (aK kk) b h i j - top (score (aX x) (aW wq) (aK kk) b h i)) := by
  show Ideal.exp (sv x wq kk (ix4 b h i j) - along (colm (mv x wq kk)) (ix4 b h i j)) = _
  rw [sv_at, along_at, colm_at, mv_at]

theorem uv_at (b : Fin 2) (h : Fin 16) (i : Fin 256) : uv x wq kk (ix3 b h i)
    = ∑ j, Ideal.exp (score (aX x) (aW wq) (aK kk) b h i j - top (score (aX x) (aW wq) (aK kk) b h i)) := by
  unfold uv
  rw [hostReduceAdd_apply, Ideal.hostReduceAdd_single _ red4]
  rw [show (constant S_ .f32 0x00000000#32 : FVec Ideal S_ .f32) (Shape.Idx.first h_S_) = 0 from Ideal.ofBits_zero_f32, zero_add]
  exact Finset.sum_congr rfl fun j _ => (congrArg (ev x wq kk) (lift4 b h i j)).trans (ev_at x wq kk b h i j)

theorem av_at (b : Fin 2) (h : Fin 16) (i j : Fin 256) : av x wq kk (ix4 b h i j)
    = Ideal.div (Ideal.exp (score (aX x) (aW wq) (aK kk) b h i j - top (score (aX x) (aW wq) (aK kk) b h i)))
        (∑ j', Ideal.exp (score (aX x) (aW wq) (aK kk) b h i j' - top (score (aX x) (aW wq) (aK kk) b h i))) := by
  have k4 : broadcastInDim B4 ![0, 1, 2, 3] bcast_S1x1x256x1_S2x16x256x256_0_1_2_3 keepCol (ix4 b h i j) = 1#1 :=
    (broadcastInDim_apply _ _ keepCol (ix4 b h i j) (ix4 0 0 i 0) fun a => match a with | ⟨0, _⟩ => rfl | ⟨1, _⟩ => rfl | ⟨2, _⟩ => rfl | ⟨3, _⟩ => rfl).trans (keepCol_at i)
  have k1 : broadcastInDim S2x16x256x1 ![0, 1, 2, 3] bcast_S1x1x256x1_S2x16x256x1_0_1_2_3 keepCol (ix4 b h i 0) = 1#1 :=
    (broadcastInDim_apply _ _ keepCol (ix4 b h i 0) (ix4 0 0 i 0) fun a => match a with | ⟨0, _⟩ => rfl | ⟨1, _⟩ => rfl | ⟨2, _⟩ => rfl | ⟨3, _⟩ => rfl).trans (keepCol_at i)
  have hd : dv x wq kk (ix4 b h i 0) = uv x wq kk (ix3 b h i) := by
    unfold dv
    rw [select_apply, k1, select_one, colm_at]
  unfold av
  rw [select_apply, k4, select_one, hostDivf_apply, ev_at, along_at, hd, uv_at]

theorem cv_at (b : Fin 2) (h : Fin 16) (d : Fin 64) (i : Fin 256) : cv x wq kk vv (ix4 b h d i) = ctxR (aX x) (aW wq) (aK kk) (aK vv) b i h d := by
  unfold cv ctxR
  rw [dot1 dot_S2x256x16x64_S2x16x256x256_S2x16x64x256_1_3_3_2_02_01 256 rfl rfl vv (av x wq kk) (ix4 b h d i) (fun j => ix4 b j h d) (fun j => ix4 b h i j)
      (fun k a => match a with | ⟨0, _⟩ => rfl | ⟨1, _⟩ => rfl | ⟨2, _⟩ => rfl | ⟨3, _⟩ => rfl)
      (fun k a => match a with | ⟨0, _⟩ => rfl | ⟨1, _⟩ => rfl | ⟨2, _⟩ => rfl | ⟨3, _⟩ => rfl)]
  exact Finset.sum_congr rfl fun j _ => by rw [av_at]

theorem fv_at (b : Fin 2) (i : Fin 256) (k : Fin 1024) : fv x wq kk vv (ix3 b i k)
    = ctxR (aX x) (aW wq) (aK kk) (aK vv) b i ⟨k.val / 64, by omega⟩ ⟨k.val % 64, by omega⟩ := by
  refine (shapeCast_apply _ _ (ix3 b i k) (ix4 b i (⟨k.val / 64, by omega⟩ : Fin 16) (⟨k.val % 64, by omega⟩ : Fin 64)) ?_).trans ?_
  · rw [Shape.rowMajor_val_three, Shape.rowMajor_val_four]
    show ((b.val * 256 + i.val) * 16 + k.val / 64) * 64 + k.val % 64 = (b.val * 256 + i.val) * 1024 + k.val
    omega
  · refine (transpose_apply _ _ _ _ (ix4 b (⟨k.val / 64, by omega⟩ : Fin 16) (⟨k.val % 64, by omega⟩ : Fin 64) i) fun a => ?_).trans (cv_at x wq kk vv b _ _ i)
    match a with | ⟨0, _⟩ => rfl | ⟨1, _⟩ => rfl | ⟨2, _⟩ => rfl | ⟨3, _⟩ => rfl

/-- **The reference's result at an index** is the reference's attention of Softmax.lean. -/
theorem rv_at (b : Fin 2) (i : Fin 256) (n : Fin 512) : rv x wq kk vv wo (ix3 b i n) = outR (aX x) (aW wq) (aK kk) (aK vv) (aO wo) b i n := by
  unfold rv outR
  rw [dot1 dot_S2x256x1024_S1024x512_S2x256x512_2_0_01_1_n_n 1024 rfl rfl (fv x wq kk vv) wo (ix3 b i n) (fun k => ix3 b i k) (fun k => ix2 k n)
      (fun k a => match a with | ⟨0, _⟩ => rfl | ⟨1, _⟩ => rfl | ⟨2, _⟩ => rfl) (fun k a => match a with | ⟨0, _⟩ => rfl | ⟨1, _⟩ => rfl)]
  exact Finset.sum_congr rfl fun k _ => by rw [fv_at]

end Cert.ReferenceIdeal.Att
-- ==== Proof.Algebra.lean ====
/- The kernel and the reference leave the same array. -/
module

public import proofs.«01_k».proof.Defs
public import proofs.«01_k».proof.Proof.HostValue
public import proofs.«01_k».proof.Proof.RefValue
public import proofs.«01_k».proof.Proof.Gen.ReferenceIdeal.Run

@[expose] public section

set_option maxRecDepth 16384

noncomputable section

namespace Cert.Att

open Idealize.ShloMosaic Idealize.ShloMosaic.ValueIdx
open Idealize.ShloMosaic.TcCoe
open Idealize.SL.Sem
open scoped BigOperators

attribute [local instance] Cert.KernelIdeal.Gen.facts Cert.ReferenceIdeal.Gen.facts

theorem preKFacts : Cert.Pre_finite_KernelIdeal.Facts := ⟨by decide, by decide, by decide⟩
theorem preRFacts : Cert.Pre_finite_ReferenceIdeal.Facts := ⟨by decide, by decide, by decide⟩

attribute [local instance] preKFacts preRFacts

/-! ## The precondition -/

/-- Infinity's word is the greatest extended real. -/
theorem top_word : Ideal.ofBits .f32 0x7F800000#32 = (⊤ : EReal) := by simp [Ideal.ofBits, Ideal.ieee]

/-- A value whose size is below infinity is a number. -/
theorem isNum_of_abs_lt (x : EReal) (h : max x (-x) < ⊤) : IsNum x := by
  have h1 : x ≠ ⊤ := fun e => by rw [e] at h; exact absurd h (by simp)
  have h2 : x ≠ ⊥ := fun e => by rw [e] at h; exact absurd h (by simp)
  exact ⟨x.toReal, (EReal.coe_toReal h1 h2).symm⟩

theorem isNum_of_test {T : Shape} (x : FVec Ideal T .f32) (hb : (⟨0, ![]⟩ : Shape).BroadcastsInDim T (![] : Fin 0 → Fin T.rank))
    (h : cmpf .olt (Host.absf x) (broadcastInDim T ![] hb (constant ⟨0, ![]⟩ .f32 0x7F800000#32)) = fun _ => 1#1) (i : T.Idx) : IsNum (x i) := by
  have e := congrFun h i
  have e' : BitVec.ofBool (decide (max (x i : EReal) (-(x i : EReal)) < Ideal.ofBits .f32 0x7F800000#32)) = 1#1 := e
  rw [top_word] at e'
  refine isNum_of_abs_lt _ ?_
  by_contra hc
  rw [decide_eq_false hc] at e'
  exact absurd e' (by decide)

section

variable (m : (ℓ : Loc Cert.KernelIdeal.nD Cert.KernelIdeal.τ Cert.KernelIdeal.sig) → Buf (Elt Ideal) ℓ)
variable (x : FVec Ideal Cert.ReferenceIdeal.S2x256x512 .f32) (wq : FVec Ideal Cert.ReferenceIdeal.S512x1024 .f32)
variable (kk vv : FVec Ideal Cert.ReferenceIdeal.S2x256x16x64 .f32) (wo : FVec Ideal Cert.ReferenceIdeal.S1024x512 .f32)

/-- The devices hold their parts of the five arrays. -/
def Parted : Prop := ∀ c : Dev Cert.KernelIdeal.nD,
  m (c.tc.loc Cert.KernelIdeal.main_arg0) = x
    ∧ m (c.tc.loc Cert.KernelIdeal.main_arg1) = Layout.block ⟨2, ![512, 256]⟩ ⟨2, ![512, 1024]⟩ 1 4 c wq
    ∧ m (c.tc.loc Cert.KernelIdeal.main_arg2) = kk
    ∧ m (c.tc.loc Cert.KernelIdeal.main_arg3) = vv
    ∧ m (c.tc.loc Cert.KernelIdeal.main_arg4) = Layout.block ⟨2, ![256, 512]⟩ ⟨2, ![1024, 512]⟩ 0 4 c wo

variable {m x wq kk vv wo}

theorem cols_at (c : Fin 4) (k : Fin 512) (y : Fin 256) : Layout.block ⟨2, ![512, 256]⟩ ⟨2, ![512, 1024]⟩ 1 4 c wq (by decide) (ix2 k y)
    = wq (ix2 k (⟨256 * c.val + y.val, by omega⟩ : Fin 1024)) := by
  refine congrArg wq (funext fun a => Fin.ext ?_)
  match a with
  | ⟨0, _⟩ => rfl
  | ⟨1, _⟩ => show c.val * 256 + y.val = 256 * c.val + y.val; omega

theorem rows_at (c : Fin 4) (y : Fin 256) (n : Fin 512) : Layout.block ⟨2, ![256, 512]⟩ ⟨2, ![1024, 512]⟩ 0 4 c wo (by decide) (ix2 y n)
    = wo (ix2 (⟨256 * c.val + y.val, by omega⟩ : Fin 1024) n) := by
  refine congrArg wo (funext fun a => Fin.ext ?_)
  match a with
  | ⟨0, _⟩ => show c.val * 256 + y.val = 256 * c.val + y.val; omega
  | ⟨1, _⟩ => rfl

open Cert.KernelIdeal.Att Cert.ReferenceIdeal.Att in
theorem holds_inp (H : Parted m x wq kk vv wo) : Holds (inp m) (aX x) (aW wq) (aK kk) (aK vv) (aO wo) where
  x := fun c r k => (v21_at m c r k).trans (congrFun (H c).1 _)
  w := fun c k y => (congrFun ((Cert.KernelIdeal.Gen.V1_of m c Cert.KernelIdeal.main_arg1 (by decide)).trans (H c).2.1) _).trans (cols_at c k y)
  k := fun c h d r => (v17_at m c h d r).trans (congrFun (H c).2.2.1 _)
  v := fun c h r d => (v20_at m c h r d).trans (congrFun (H c).2.2.2.1 _)
  o := fun c y n => (congrFun ((Cert.KernelIdeal.Gen.V1_of m c Cert.KernelIdeal.main_arg4 (by decide)).trans (H c).2.2.2.2) _).trans (rows_at c y n)

open Cert.KernelIdeal.Att Cert.ReferenceIdeal.Att in
theorem same_value (H : Parted m x wq kk vv wo) (hP : Cert.Pre_KernelIdeal_finite_KernelIdeal m) (c : Dev Cert.KernelIdeal.nD) :
    Cert.KernelIdeal.Gen.V3 m (outs m) c Cert.KernelIdeal.main_v23 = rv x wq kk vv wo := by
  have hX : ∀ b i k, IsNum (aX x b i k) := fun b i k => by
    have h := isNum_of_test _ _ (hP 0).1 (ix3 b i k)
    rwa [(H 0).1] at h
  have hK : ∀ b j h d, IsNum (aK kk b j h d) := fun b j h d => by
    have h' := isNum_of_test _ _ (hP 0).2.2 (ix4 b j h d)
    rwa [(H 0).2.2.1] at h'
  have hW : ∀ k n, IsNum (aW wq k n) := fun k n => by
    have h := isNum_of_test _ _ (hP (⟨n.val / 256, by omega⟩ : Fin 4)).2.1 (ix2 k (⟨n.val % 256, by omega⟩ : Fin 256))
    rw [(H _).2.1] at h
    have e := (cols_at (wq := wq) (⟨n.val / 256, by omega⟩ : Fin 4) k ⟨n.val % 256, by omega⟩).trans
      (congrArg (fun z => wq (ix2 k z)) (Fin.ext (by show 256 * (n.val / 256) + n.val % 256 = n.val; omega) : _ = n))
    rw [e] at h
    exact h
  funext j
  obtain ⟨b, i, n, rfl⟩ : ∃ (b : Fin 2) (i : Fin 256) (n : Fin 512), j = ix3 b i n := ⟨_, _, _, eq_ix3 (n0 := 2) (n1 := 256) (n2 := 512) j⟩
  refine (v23_at m c b i n).trans ((outF_at (holds_inp H) c _ n).trans ((out_eq _ _ _ _ _ hX hW hK _ _ _ n).trans
    (Eq.trans ?_ (rv_at x wq kk vv wo b i n).symm)))
  congr 1
  · exact Fin.ext (by show (256 * b.val + i.val) / 256 = b.val; omega)
  · exact Fin.ext (by show 128 * ((256 * b.val + i.val) / 128 % 2) + (256 * b.val + i.val) % 128 = i.val; omega)

end

/-- From devices holding their parts of the reference's arrays, both programs run, and every device ends with the reference's result. -/
theorem algebraic : Cert.algebraic_KernelIdeal_ReferenceIdeal_pre_finite_KernelIdeal := by
  intro m g m' g' hP H
  refine ⟨Cert.ReferenceIdeal.Value.res_main_v39 m' 0, ?_, ?_⟩
  · refine (θ_run _ _ _).mono (fun r h c => ?_) (Cert.KernelIdeal.Att.run_main m g)
    refine ⟨(h.1 c).1.trans ?_, (h.1 c).2.1⟩
    rw [Cert.ReferenceIdeal.Att.res_eq]
    exact same_value H hP c
  · exact (θ_run _ _ _).mono (fun r h => h 0) (Cert.ReferenceIdeal.Value.run m' g')

end Cert.Att

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.FrameK
public import proofs.«01_k».proof.Proof.FrameR
public import proofs.«01_k».proof.Proof.Algebra
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts

/-- The mask constant is the named one, and it stands for minus infinity. -/
theorem preserves : Cert.preserves_Kernel_KernelIdeal :=
  IdealRules.named_const.statement Cert.KernelIdeal.κ "mask" .f32 0xCE6E6B28#32 ⊥ rfl

/-- The seven claims, a frame under a precondition being the frame without it. -/
theorem claim : Cert.Claim := ⟨Cert.Kernel.Gen.facts, Cert.KernelIdeal.Gen.facts, Cert.ReferenceIdeal.Gen.facts, Cert.Att.preKFacts, Cert.Att.preRFacts,
  Cert.KernelIdeal.Att.frame_kernel, Cert.KernelIdeal.Att.frame_kernelIdeal, fun m ρ _ => Cert.KernelIdeal.Att.frame_kernelIdeal m ρ trivial,
  Cert.ReferenceIdeal.Att.frame_reference, fun m ρ _ => Cert.ReferenceIdeal.Att.frame_reference m ρ trivial, preserves, Cert.Att.algebraic⟩

end Cert.Proof

end
